-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInIdeal_finite_in [hPre_finite_in : Cert.Pre_finite_in.Facts] (m : (ℓ : Loc Cert.ProjInIdeal.nD Cert.ProjInIdeal.τ Cert.ProjInIdeal.sig) → Buf (Elt Ideal) ℓ) : Prop :=
  ∀ c : Dev Cert.ProjInIdeal.nD,
    (Cert.Pre_finite_in.fn (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (m ((c.tc : Thread Cert.ProjInIdeal.nD Cert.ProjInIdeal.τ).loc Cert.ProjInIdeal.main_arg4)) (m ((c.tc : Thread Cert.ProjInIdeal.nD Cert.ProjInIdeal.τ).loc Cert.ProjInIdeal.main_arg5)) (m ((c.tc : Thread Cert.ProjInIdeal.nD Cert.ProjInIdeal.τ).loc Cert.ProjInIdeal.main_arg6))) = (fun _ => 1#1)

def Pre_ProjInRefIdeal (m : (ℓ : Loc Cert.ProjInRefIdeal.nD Cert.ProjInRefIdeal.τ Cert.ProjInRefIdeal.sig) → Buf (Elt Ideal) ℓ) : Prop :=
  True

def Pre_ProjInRefIdeal_finite_in [hPre_finite_in : Cert.Pre_finite_in.Facts] (m : (ℓ : Loc Cert.ProjInRefIdeal.nD Cert.ProjInRefIdeal.τ Cert.ProjInRefIdeal.sig) → Buf (Elt Ideal) ℓ) : Prop :=
  ∀ c : Dev Cert.ProjInRefIdeal.nD,
    (Cert.Pre_finite_in.fn (F := Ideal) (m ((c.tc : Thread Cert.ProjInRefIdeal.nD Cert.ProjInRefIdeal.τ).loc Cert.ProjInRefIdeal.main_arg0)) (m ((c.tc : Thread Cert.ProjInRefIdeal.nD Cert.ProjInRefIdeal.τ).loc Cert.ProjInRefIdeal.main_arg1)) (m ((c.tc : Thread Cert.ProjInRefIdeal.nD Cert.ProjInRefIdeal.τ).loc Cert.ProjInRefIdeal.main_arg2)) (m ((c.tc : Thread Cert.ProjInRefIdeal.nD Cert.ProjInRefIdeal.τ).loc Cert.ProjInRefIdeal.main_arg3)) (m ((c.tc : Thread Cert.ProjInRefIdeal.nD Cert.ProjInRefIdeal.τ).loc Cert.ProjInRefIdeal.main_arg4)) (m ((c.tc : Thread Cert.ProjInRefIdeal.nD Cert.ProjInRefIdeal.τ).loc Cert.ProjInRefIdeal.main_arg5)) (m ((c.tc : Thread Cert.ProjInRefIdeal.nD Cert.ProjInRefIdeal.τ).loc Cert.ProjInRefIdeal.main_arg6))) = (fun _ => 1#1)

def Pre_AttnLong (m : (ℓ : Loc Cert.AttnLong.nD Cert.AttnLong.τ Cert.AttnLong.sig) → Buf (Elt Bits) ℓ) : Prop :=
  True

def Pre_AttnLongIdeal (m : (ℓ : Loc Cert.AttnLongIdeal.nD Cert.AttnLongIdeal.τ Cert.AttnLongIdeal.sig) → Buf (Elt Ideal) ℓ) : Prop :=
  True

def Pre_AttnLongIdeal_finite_qk [hPre_finite_qk : Cert.Pre_finite_qk.Facts] (m : (ℓ : Loc Cert.AttnLongIdeal.nD Cert.AttnLongIdeal.τ Cert.AttnLongIdeal.sig) → Buf (Elt Ideal) ℓ) : Prop :=
  ∀ c : Dev Cert.AttnLongIdeal.nD,
    (Cert.Pre_finite_qk.fn (F := Ideal) (m ((c.tc : Thread Cert.AttnLongIdeal.nD Cert.AttnLongIdeal.τ).loc Cert.AttnLongIdeal.main_arg0)) (m ((c.tc : Thread Cert.AttnLongIdeal.nD Cert.AttnLongIdeal.τ).loc Cert.AttnLongIdeal.main_arg1)) (m ((c.tc : Thread Cert.AttnLongIdeal.nD Cert.AttnLongIdeal.τ).loc Cert.AttnLongIdeal.main_arg2))) = (fun _ => 1#1)

def Pre_AttnLongRefIdeal (m : (ℓ : Loc Cert.AttnLongRefIdeal.nD Cert.AttnLongRefIdeal.τ Cert.AttnLongRefIdeal.sig) → Buf (Elt Ideal) ℓ) : Prop :=
  True

def Pre_AttnLongRefIdeal_finite_qk [hPre_finite_qk : Cert.Pre_finite_qk.Facts] (m : (ℓ : Loc Cert.AttnLongRefIdeal.nD Cert.AttnLongRefIdeal.τ Cert.AttnLongRefIdeal.sig) → Buf (Elt Ideal) ℓ) : Prop :=
  ∀ c : Dev Cert.AttnLongRefIdeal.nD,
    (Cert.Pre_finite_qk.fn (F := Ideal) (m ((c.tc : Thread Cert.AttnLongRefIdeal.nD Cert.AttnLongRefIdeal.τ).loc Cert.AttnLongRefIdeal.main_arg0)) (m ((c.tc : Thread Cert.AttnLongRefIdeal.nD Cert.AttnLongRefIdeal.τ).loc Cert.AttnLongRefIdeal.main_arg1)) (m ((c.tc : Thread Cert.AttnLongRefIdeal.nD Cert.AttnLongRefIdeal.τ).loc Cert.AttnLongRefIdeal.main_arg2))) = (fun _ => 1#1)

def Pre_ProjInLong (m : (ℓ : Loc Cert.ProjInLong.nD Cert.ProjInLong.τ Cert.ProjInLong.sig) → Buf (Elt Bits) ℓ) : Prop :=
  True

def Pre_ProjInLongIdeal (m : (ℓ : Loc Cert.ProjInLongIdeal.nD Cert.ProjInLongIdeal.τ Cert.ProjInLongIdeal.sig) → Buf (Elt Ideal) ℓ) : Prop :=
  True

def Pre_ProjInLongIdeal_finite_in [hPre_finite_in : Cert.Pre_finite_in.Facts] (m : (ℓ : Loc Cert.ProjInLongIdeal.nD Cert.ProjInLongIdeal.τ Cert.ProjInLongIdeal.sig) → Buf (Elt Ideal) ℓ) : Prop :=
  ∀ c : Dev Cert.ProjInLongIdeal.nD,
    (Cert.Pre_finite_in.fn (F := Ideal) (m ((c.tc : Thread Cert.ProjInLongIdeal.nD Cert.ProjInLongIdeal.τ).loc Cert.ProjInLongIdeal.main_arg0)) (m ((c.tc : Thread Cert.ProjInLongIdeal.nD Cert.ProjInLongIdeal.τ).loc Cert.ProjInLongIdeal.main_arg1)) (m ((c.tc : Thread Cert.ProjInLongIdeal.nD Cert.ProjInLongIdeal.τ).loc Cert.ProjInLongIdeal.main_arg2)) (m ((c.tc : Thread Cert.ProjInLongIdeal.nD Cert.ProjInLongIdeal.τ).loc Cert.ProjInLongIdeal.main_arg3)) (m ((c.tc : Thread Cert.ProjInLongIdeal.nD Cert.ProjInLongIdeal.τ).loc Cert.ProjInLongIdeal.main_arg4)) (m ((c.tc : Thread Cert.ProjInLongIdeal.nD Cert.ProjInLongIdeal.τ).loc Cert.ProjInLongIdeal.main_arg5)) (m ((c.tc : Thread Cert.ProjInLongIdeal.nD Cert.ProjInLongIdeal.τ).loc Cert.ProjInLongIdeal.main_arg6))) = (fun _ => 1#1)

def Pre_ProjInLongRefIdeal (m : (ℓ : Loc Cert.ProjInLongRefIdeal.nD Cert.ProjInLongRefIdeal.τ Cert.ProjInLongRefIdeal.sig) → Buf (Elt Ideal) ℓ) : Prop :=
  True

def Pre_ProjInLongRefIdeal_finite_in [hPre_finite_in : Cert.Pre_finite_in.Facts] (m : (ℓ : Loc Cert.ProjInLongRefIdeal.nD Cert.ProjInLongRefIdeal.τ Cert.ProjInLongRefIdeal.sig) → Buf (Elt Ideal) ℓ) : Prop :=
  ∀ c : Dev Cert.ProjInLongRefIdeal.nD,
    (Cert.Pre_finite_in.fn (F := Ideal) (m ((c.tc : Thread Cert.ProjInLongRefIdeal.nD Cert.ProjInLongRefIdeal.τ).loc Cert.ProjInLongRefIdeal.main_arg0)) (m ((c.tc : Thread Cert.ProjInLongRefIdeal.nD Cert.ProjInLongRefIdeal.τ).loc Cert.ProjInLongRefIdeal.main_arg1)) (m ((c.tc : Thread Cert.ProjInLongRefIdeal.nD Cert.ProjInLongRefIdeal.τ).loc Cert.ProjInLongRefIdeal.main_arg2)) (m ((c.tc : Thread Cert.ProjInLongRefIdeal.nD Cert.ProjInLongRefIdeal.τ).loc Cert.ProjInLongRefIdeal.main_arg3)) (m ((c.tc : Thread Cert.ProjInLongRefIdeal.nD Cert.ProjInLongRefIdeal.τ).loc Cert.ProjInLongRefIdeal.main_arg4)) (m ((c.tc : Thread Cert.ProjInLongRefIdeal.nD Cert.ProjInLongRefIdeal.τ).loc Cert.ProjInLongRefIdeal.main_arg5)) (m ((c.tc : Thread Cert.ProjInLongRefIdeal.nD Cert.ProjInLongRefIdeal.τ).loc Cert.ProjInLongRefIdeal.main_arg6))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4)
      ∧ r.2.mem ((c.tc : Thread Cert.ProjIn.nD Cert.ProjIn.τ).loc Cert.ProjIn.main_arg5) = m ((c.tc : Thread Cert.ProjIn.nD Cert.ProjIn.τ).loc Cert.ProjIn.main_arg5)
      ∧ r.2.mem ((c.tc : Thread Cert.ProjIn.nD Cert.ProjIn.τ).loc Cert.ProjIn.main_arg6) = m ((c.tc : Thread Cert.ProjIn.nD Cert.ProjIn.τ).loc Cert.ProjIn.main_arg6))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
      ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6))
      ∧ r.2.sem = fun _ => 0)

def quiescent_ProjInIdeal_pre_finite_in [hProjInIdeal : Cert.ProjInIdeal.Facts] [hPre_finite_in : Cert.Pre_finite_in.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal_finite_in m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
      ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3)
      ∧ r.2.mem ((c.tc : Thread Cert.ProjInRefIdeal.nD Cert.ProjInRefIdeal.τ).loc Cert.ProjInRefIdeal.main_arg4) = m ((c.tc : Thread Cert.ProjInRefIdeal.nD Cert.ProjInRefIdeal.τ).loc Cert.ProjInRefIdeal.main_arg4)
      ∧ r.2.mem ((c.tc : Thread Cert.ProjInRefIdeal.nD Cert.ProjInRefIdeal.τ).loc Cert.ProjInRefIdeal.main_arg5) = m ((c.tc : Thread Cert.ProjInRefIdeal.nD Cert.ProjInRefIdeal.τ).loc Cert.ProjInRefIdeal.main_arg5)
      ∧ r.2.mem ((c.tc : Thread Cert.ProjInRefIdeal.nD Cert.ProjInRefIdeal.τ).loc Cert.ProjInRefIdeal.main_arg6) = m ((c.tc : Thread Cert.ProjInRefIdeal.nD Cert.ProjInRefIdeal.τ).loc Cert.ProjInRefIdeal.main_arg6))
      ∧ r.2.sem = fun _ => 0)

def quiescent_ProjInRefIdeal_pre_finite_in [hProjInRefIdeal : Cert.ProjInRefIdeal.Facts] [hPre_finite_in : Cert.Pre_finite_in.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal_finite_in m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3)
      ∧ r.2.mem ((c.tc : Thread Cert.ProjInRefIdeal.nD Cert.ProjInRefIdeal.τ).loc Cert.ProjInRefIdeal.main_arg4) = m ((c.tc : Thread Cert.ProjInRefIdeal.nD Cert.ProjInRefIdeal.τ).loc Cert.ProjInRefIdeal.main_arg4)
      ∧ r.2.mem ((c.tc : Thread Cert.ProjInRefIdeal.nD Cert.ProjInRefIdeal.τ).loc Cert.ProjInRefIdeal.main_arg5) = m ((c.tc : Thread Cert.ProjInRefIdeal.nD Cert.ProjInRefIdeal.τ).loc Cert.ProjInRefIdeal.main_arg5)
      ∧ r.2.mem ((c.tc : Thread Cert.ProjInRefIdeal.nD Cert.ProjInRefIdeal.τ).loc Cert.ProjInRefIdeal.main_arg6) = m ((c.tc : Thread Cert.ProjInRefIdeal.nD Cert.ProjInRefIdeal.τ).loc Cert.ProjInRefIdeal.main_arg6))
      ∧ r.2.sem = fun _ => 0)

def quiescent_AttnLong [hAttnLong : Cert.AttnLong.Facts] : Prop :=
  ∀ (m : (ℓ : Loc Cert.AttnLong.nD Cert.AttnLong.τ Cert.AttnLong.sig) → Buf (Elt Bits) ℓ) (g : Dev Cert.AttnLong.nD → PrngReg), Pre_AttnLong m →
    θ_run (Cert.AttnLong.defs (F := Bits)) (onTc (τ := Cert.AttnLong.τ) (Cert.AttnLong.main (F := Bits))) ⟨m, fun _ => 0, g⟩ (fun r => (∀ c : Dev Cert.AttnLong.nD,
      r.2.mem ((c.tc : Thread Cert.AttnLong.nD Cert.AttnLong.τ).loc Cert.AttnLong.main_arg0) = m ((c.tc : Thread Cert.AttnLong.nD Cert.AttnLong.τ).loc Cert.AttnLong.main_arg0)
      ∧ r.2.mem ((c.tc : Thread Cert.AttnLong.nD Cert.AttnLong.τ).loc Cert.AttnLong.main_arg1) = m ((c.tc : Thread Cert.AttnLong.nD Cert.AttnLong.τ).loc Cert.AttnLong.main_arg1)
      ∧ r.2.mem ((c.tc : Thread Cert.AttnLong.nD Cert.AttnLong.τ).loc Cert.AttnLong.main_arg2) = m ((c.tc : Thread Cert.AttnLong.nD Cert.AttnLong.τ).loc Cert.AttnLong.main_arg2))
      ∧ r.2.sem = fun _ => 0)

def quiescent_AttnLongIdeal [hAttnLongIdeal : Cert.AttnLongIdeal.Facts] : Prop :=
  ∀ (m : (ℓ : Loc Cert.AttnLongIdeal.nD Cert.AttnLongIdeal.τ Cert.AttnLongIdeal.sig) → Buf (Elt Ideal) ℓ) (g : Dev Cert.AttnLongIdeal.nD → PrngReg), Pre_AttnLongIdeal m →
    θ_run (Cert.AttnLongIdeal.defs (F := Ideal)) (onTc (τ := Cert.AttnLongIdeal.τ) (Cert.AttnLongIdeal.main (F := Ideal))) ⟨m, fun _ => 0, g⟩ (fun r => (∀ c : Dev Cert.AttnLongIdeal.nD,
      r.2.mem ((c.tc : Thread Cert.AttnLongIdeal.nD Cert.AttnLongIdeal.τ).loc Cert.AttnLongIdeal.main_arg0) = m ((c.tc : Thread Cert.AttnLongIdeal.nD Cert.AttnLongIdeal.τ).loc Cert.AttnLongIdeal.main_arg0)
      ∧ r.2.mem ((c.tc : Thread Cert.AttnLongIdeal.nD Cert.AttnLongIdeal.τ).loc Cert.AttnLongIdeal.main_arg1) = m ((c.tc : Thread Cert.AttnLongIdeal.nD Cert.AttnLongIdeal.τ).loc Cert.AttnLongIdeal.main_arg1)
      ∧ r.2.mem ((c.tc : Thread Cert.AttnLongIdeal.nD Cert.AttnLongIdeal.τ).loc Cert.AttnLongIdeal.main_arg2) = m ((c.tc : Thread Cert.AttnLongIdeal.nD Cert.AttnLongIdeal.τ).loc Cert.AttnLongIdeal.main_arg2))
      ∧ r.2.sem = fun _ => 0)

def quiescent_AttnLongIdeal_pre_finite_qk [hAttnLongIdeal : Cert.AttnLongIdeal.Facts] [hPre_finite_qk : Cert.Pre_finite_qk.Facts] : Prop :=
  ∀ (m : (ℓ : Loc Cert.AttnLongIdeal.nD Cert.AttnLongIdeal.τ Cert.AttnLongIdeal.sig) → Buf (Elt Ideal) ℓ) (g : Dev Cert.AttnLongIdeal.nD → PrngReg), Pre_AttnLongIdeal_finite_qk m →
    θ_run (Cert.AttnLongIdeal.defs (F := Ideal)) (onTc (τ := Cert.AttnLongIdeal.τ) (Cert.AttnLongIdeal.main (F := Ideal))) ⟨m, fun _ => 0, g⟩ (fun r => (∀ c : Dev Cert.AttnLongIdeal.nD,
      r.2.mem ((c.tc : Thread Cert.AttnLongIdeal.nD Cert.AttnLongIdeal.τ).loc Cert.AttnLongIdeal.main_arg0) = m ((c.tc : Thread Cert.AttnLongIdeal.nD Cert.AttnLongIdeal.τ).loc Cert.AttnLongIdeal.main_arg0)
      ∧ r.2.mem ((c.tc : Thread Cert.AttnLongIdeal.nD Cert.AttnLongIdeal.τ).loc Cert.AttnLongIdeal.main_arg1) = m ((c.tc : Thread Cert.AttnLongIdeal.nD Cert.AttnLongIdeal.τ).loc Cert.AttnLongIdeal.main_arg1)
      ∧ r.2.mem ((c.tc : Thread Cert.AttnLongIdeal.nD Cert.AttnLongIdeal.τ).loc Cert.AttnLongIdeal.main_arg2) = m ((c.tc : Thread Cert.AttnLongIdeal.nD Cert.AttnLongIdeal.τ).loc Cert.AttnLongIdeal.main_arg2))
      ∧ r.2.sem = fun _ => 0)

def quiescent_AttnLongRefIdeal [hAttnLongRefIdeal : Cert.AttnLongRefIdeal.Facts] : Prop :=
  ∀ (m : (ℓ : Loc Cert.AttnLongRefIdeal.nD Cert.AttnLongRefIdeal.τ Cert.AttnLongRefIdeal.sig) → Buf (Elt Ideal) ℓ) (g : Dev Cert.AttnLongRefIdeal.nD → PrngReg), Pre_AttnLongRefIdeal m →
    θ_run (Cert.AttnLongRefIdeal.defs (F := Ideal)) (onTc (τ := Cert.AttnLongRefIdeal.τ) (Cert.AttnLongRefIdeal.main (F := Ideal))) ⟨m, fun _ => 0, g⟩ (fun r => (∀ c : Dev Cert.AttnLongRefIdeal.nD,
      r.2.mem ((c.tc : Thread Cert.AttnLongRefIdeal.nD Cert.AttnLongRefIdeal.τ).loc Cert.AttnLongRefIdeal.main_arg0) = m ((c.tc : Thread Cert.AttnLongRefIdeal.nD Cert.AttnLongRefIdeal.τ).loc Cert.AttnLongRefIdeal.main_arg0)
      ∧ r.2.mem ((c.tc : Thread Cert.AttnLongRefIdeal.nD Cert.AttnLongRefIdeal.τ).loc Cert.AttnLongRefIdeal.main_arg1) = m ((c.tc : Thread Cert.AttnLongRefIdeal.nD Cert.AttnLongRefIdeal.τ).loc Cert.AttnLongRefIdeal.main_arg1)
      ∧ r.2.mem ((c.tc : Thread Cert.AttnLongRefIdeal.nD Cert.AttnLongRefIdeal.τ).loc Cert.AttnLongRefIdeal.main_arg2) = m ((c.tc : Thread Cert.AttnLongRefIdeal.nD Cert.AttnLongRefIdeal.τ).loc Cert.AttnLongRefIdeal.main_arg2))
      ∧ r.2.sem = fun _ => 0)

def quiescent_AttnLongRefIdeal_pre_finite_qk [hAttnLongRefIdeal : Cert.AttnLongRefIdeal.Facts] [hPre_finite_qk : Cert.Pre_finite_qk.Facts] : Prop :=
  ∀ (m : (ℓ : Loc Cert.AttnLongRefIdeal.nD Cert.AttnLongRefIdeal.τ Cert.AttnLongRefIdeal.sig) → Buf (Elt Ideal) ℓ) (g : Dev Cert.AttnLongRefIdeal.nD → PrngReg), Pre_AttnLongRefIdeal_finite_qk m →
    θ_run (Cert.AttnLongRefIdeal.defs (F := Ideal)) (onTc (τ := Cert.AttnLongRefIdeal.τ) (Cert.AttnLongRefIdeal.main (F := Ideal))) ⟨m, fun _ => 0, g⟩ (fun r => (∀ c : Dev Cert.AttnLongRefIdeal.nD,
      r.2.mem ((c.tc : Thread Cert.AttnLongRefIdeal.nD Cert.AttnLongRefIdeal.τ).loc Cert.AttnLongRefIdeal.main_arg0) = m ((c.tc : Thread Cert.AttnLongRefIdeal.nD Cert.AttnLongRefIdeal.τ).loc Cert.AttnLongRefIdeal.main_arg0)
      ∧ r.2.mem ((c.tc : Thread Cert.AttnLongRefIdeal.nD Cert.AttnLongRefIdeal.τ).loc Cert.AttnLongRefIdeal.main_arg1) = m ((c.tc : Thread Cert.AttnLongRefIdeal.nD Cert.AttnLongRefIdeal.τ).loc Cert.AttnLongRefIdeal.main_arg1)
      ∧ r.2.mem ((c.tc : Thread Cert.AttnLongRefIdeal.nD Cert.AttnLongRefIdeal.τ).loc Cert.AttnLongRefIdeal.main_arg2) = m ((c.tc : Thread Cert.AttnLongRefIdeal.nD Cert.AttnLongRefIdeal.τ).loc Cert.AttnLongRefIdeal.main_arg2))
      ∧ r.2.sem = fun _ => 0)

def quiescent_ProjInLong [hProjInLong : Cert.ProjInLong.Facts] : Prop :=
  ∀ (m : (ℓ : Loc Cert.ProjInLong.nD Cert.ProjInLong.τ Cert.ProjInLong.sig) → Buf (Elt Bits) ℓ) (g : Dev Cert.ProjInLong.nD → PrngReg), Pre_ProjInLong m →
    θ_run (Cert.ProjInLong.defs (F := Bits)) (onTc (τ := Cert.ProjInLong.τ) (Cert.ProjInLong.main (F := Bits))) ⟨m, fun _ => 0, g⟩ (fun r => (∀ c : Dev Cert.ProjInLong.nD,
      r.2.mem ((c.tc : Thread Cert.ProjInLong.nD Cert.ProjInLong.τ).loc Cert.ProjInLong.main_arg0) = m ((c.tc : Thread Cert.ProjInLong.nD Cert.ProjInLong.τ).loc Cert.ProjInLong.main_arg0)
      ∧ r.2.mem ((c.tc : Thread Cert.ProjInLong.nD Cert.ProjInLong.τ).loc Cert.ProjInLong.main_arg1) = m ((c.tc : Thread Cert.ProjInLong.nD Cert.ProjInLong.τ).loc Cert.ProjInLong.main_arg1)
      ∧ r.2.mem ((c.tc : Thread Cert.ProjInLong.nD Cert.ProjInLong.τ).loc Cert.ProjInLong.main_arg2) = m ((c.tc : Thread Cert.ProjInLong.nD Cert.ProjInLong.τ).loc Cert.ProjInLong.main_arg2)
      ∧ r.2.mem ((c.tc : Thread Cert.ProjInLong.nD Cert.ProjInLong.τ).loc Cert.ProjInLong.main_arg3) = m ((c.tc : Thread Cert.ProjInLong.nD Cert.ProjInLong.τ).loc Cert.ProjInLong.main_arg3)
      ∧ r.2.mem ((c.tc : Thread Cert.ProjInLong.nD Cert.ProjInLong.τ).loc Cert.ProjInLong.main_arg4) = m ((c.tc : Thread Cert.ProjInLong.nD Cert.ProjInLong.τ).loc Cert.ProjInLong.main_arg4)
      ∧ r.2.mem ((c.tc : Thread Cert.ProjInLong.nD Cert.ProjInLong.τ).loc Cert.ProjInLong.main_arg5) = m ((c.tc : Thread Cert.ProjInLong.nD Cert.ProjInLong.τ).loc Cert.ProjInLong.main_arg5)
      ∧ r.2.mem ((c.tc : Thread Cert.ProjInLong.nD Cert.ProjInLong.τ).loc Cert.ProjInLong.main_arg6) = m ((c.tc : Thread Cert.ProjInLong.nD Cert.ProjInLong.τ).loc Cert.ProjInLong.main_arg6))
      ∧ r.2.sem = fun _ => 0)

def quiescent_ProjInLongIdeal [hProjInLongIdeal : Cert.ProjInLongIdeal.Facts] : Prop :=
  ∀ (m : (ℓ : Loc Cert.ProjInLongIdeal.nD Cert.ProjInLongIdeal.τ Cert.ProjInLongIdeal.sig) → Buf (Elt Ideal) ℓ) (g : Dev Cert.ProjInLongIdeal.nD → PrngReg), Pre_ProjInLongIdeal m →
    θ_run (Cert.ProjInLongIdeal.defs (F := Ideal)) (onTc (τ := Cert.ProjInLongIdeal.τ) (Cert.ProjInLongIdeal.main (F := Ideal))) ⟨m, fun _ => 0, g⟩ (fun r => (∀ c : Dev Cert.ProjInLongIdeal.nD,
      r.2.mem ((c.tc : Thread Cert.ProjInLongIdeal.nD Cert.ProjInLongIdeal.τ).loc Cert.ProjInLongIdeal.main_arg0) = m ((c.tc : Thread Cert.ProjInLongIdeal.nD Cert.ProjInLongIdeal.τ).loc Cert.ProjInLongIdeal.main_arg0)
      ∧ r.2.mem ((c.tc : Thread Cert.ProjInLongIdeal.nD Cert.ProjInLongIdeal.τ).loc Cert.ProjInLongIdeal.main_arg1) = m ((c.tc : Thread Cert.ProjInLongIdeal.nD Cert.ProjInLongIdeal.τ).loc Cert.ProjInLongIdeal.main_arg1)
      ∧ r.2.mem ((c.tc : Thread Cert.ProjInLongIdeal.nD Cert.ProjInLongIdeal.τ).loc Cert.ProjInLongIdeal.main_arg2) = m ((c.tc : Thread Cert.ProjInLongIdeal.nD Cert.ProjInLongIdeal.τ).loc Cert.ProjInLongIdeal.main_arg2)
      ∧ r.2.mem ((c.tc : Thread Cert.ProjInLongIdeal.nD Cert.ProjInLongIdeal.τ).loc Cert.ProjInLongIdeal.main_arg3) = m ((c.tc : Thread Cert.ProjInLongIdeal.nD Cert.ProjInLongIdeal.τ).loc Cert.ProjInLongIdeal.main_arg3)
      ∧ r.2.mem ((c.tc : Thread Cert.ProjInLongIdeal.nD Cert.ProjInLongIdeal.τ).loc Cert.ProjInLongIdeal.main_arg4) = m ((c.tc : Thread Cert.ProjInLongIdeal.nD Cert.ProjInLongIdeal.τ).loc Cert.ProjInLongIdeal.main_arg4)
      ∧ r.2.mem ((c.tc : Thread Cert.ProjInLongIdeal.nD Cert.ProjInLongIdeal.τ).loc Cert.ProjInLongIdeal.main_arg5) = m ((c.tc : Thread Cert.ProjInLongIdeal.nD Cert.ProjInLongIdeal.τ).loc Cert.ProjInLongIdeal.main_arg5)
      ∧ r.2.mem ((c.tc : Thread Cert.ProjInLongIdeal.nD Cert.ProjInLongIdeal.τ).loc Cert.ProjInLongIdeal.main_arg6) = m ((c.tc : Thread Cert.ProjInLongIdeal.nD Cert.ProjInLongIdeal.τ).loc Cert.ProjInLongIdeal.main_arg6))
      ∧ r.2.sem = fun _ => 0)

def quiescent_ProjInLongIdeal_pre_finite_in [hProjInLongIdeal : Cert.ProjInLongIdeal.Facts] [hPre_finite_in : Cert.Pre_finite_in.Facts] : Prop :=
  ∀ (m : (ℓ : Loc Cert.ProjInLongIdeal.nD Cert.ProjInLongIdeal.τ Cert.ProjInLongIdeal.sig) → Buf (Elt Ideal) ℓ) (g : Dev Cert.ProjInLongIdeal.nD → PrngReg), Pre_ProjInLongIdeal_finite_in m →
    θ_run (Cert.ProjInLongIdeal.defs (F := Ideal)) (onTc (τ := Cert.ProjInLongIdeal.τ) (Cert.ProjInLongIdeal.main (F := Ideal))) ⟨m, fun _ => 0, g⟩ (fun r => (∀ c : Dev Cert.ProjInLongIdeal.nD,
      r.2.mem ((c.tc : Thread Cert.ProjInLongIdeal.nD Cert.ProjInLongIdeal.τ).loc Cert.ProjInLongIdeal.main_arg0) = m ((c.tc : Thread Cert.ProjInLongIdeal.nD Cert.ProjInLongIdeal.τ).loc Cert.ProjInLongIdeal.main_arg0)
      ∧ r.2.mem ((c.tc : Thread Cert.ProjInLongIdeal.nD Cert.ProjInLongIdeal.τ).loc Cert.ProjInLongIdeal.main_arg1) = m ((c.tc : Thread Cert.ProjInLongIdeal.nD Cert.ProjInLongIdeal.τ).loc Cert.ProjInLongIdeal.main_arg1)
      ∧ r.2.mem ((c.tc : Thread Cert.ProjInLongIdeal.nD Cert.ProjInLongIdeal.τ).loc Cert.ProjInLongIdeal.main_arg2) = m ((c.tc : Thread Cert.ProjInLongIdeal.nD Cert.ProjInLongIdeal.τ).loc Cert.ProjInLongIdeal.main_arg2)
      ∧ r.2.mem ((c.tc : Thread Cert.ProjInLongIdeal.nD Cert.ProjInLongIdeal.τ).loc Cert.ProjInLongIdeal.main_arg3) = m ((c.tc : Thread Cert.ProjInLongIdeal.nD Cert.ProjInLongIdeal.τ).loc Cert.ProjInLongIdeal.main_arg3)
      ∧ r.2.mem ((c.tc : Thread Cert.ProjInLongIdeal.nD Cert.ProjInLongIdeal.τ).loc Cert.ProjInLongIdeal.main_arg4) = m ((c.tc : Thread Cert.ProjInLongIdeal.nD Cert.ProjInLongIdeal.τ).loc Cert.ProjInLongIdeal.main_arg4)
      ∧ r.2.mem ((c.tc : Thread Cert.ProjInLongIdeal.nD Cert.ProjInLongIdeal.τ).loc Cert.ProjInLongIdeal.main_arg5) = m ((c.tc : Thread Cert.ProjInLongIdeal.nD Cert.ProjInLongIdeal.τ).loc Cert.ProjInLongIdeal.main_arg5)
      ∧ r.2.mem ((c.tc : Thread Cert.ProjInLongIdeal.nD Cert.ProjInLongIdeal.τ).loc Cert.ProjInLongIdeal.main_arg6) = m ((c.tc : Thread Cert.ProjInLongIdeal.nD Cert.ProjInLongIdeal.τ).loc Cert.ProjInLongIdeal.main_arg6))
      ∧ r.2.sem = fun _ => 0)

def quiescent_ProjInLongRefIdeal [hProjInLongRefIdeal : Cert.ProjInLongRefIdeal.Facts] : Prop :=
  ∀ (m : (ℓ : Loc Cert.ProjInLongRefIdeal.nD Cert.ProjInLongRefIdeal.τ Cert.ProjInLongRefIdeal.sig) → Buf (Elt Ideal) ℓ) (g : Dev Cert.ProjInLongRefIdeal.nD → PrngReg), Pre_ProjInLongRefIdeal m →
    θ_run (Cert.ProjInLongRefIdeal.defs (F := Ideal)) (onTc (τ := Cert.ProjInLongRefIdeal.τ) (Cert.ProjInLongRefIdeal.main (F := Ideal))) ⟨m, fun _ => 0, g⟩ (fun r => (∀ c : Dev Cert.ProjInLongRefIdeal.nD,
      r.2.mem ((c.tc : Thread Cert.ProjInLongRefIdeal.nD Cert.ProjInLongRefIdeal.τ).loc Cert.ProjInLongRefIdeal.main_arg0) = m ((c.tc : Thread Cert.ProjInLongRefIdeal.nD Cert.ProjInLongRefIdeal.τ).loc Cert.ProjInLongRefIdeal.main_arg0)
      ∧ r.2.mem ((c.tc : Thread Cert.ProjInLongRefIdeal.nD Cert.ProjInLongRefIdeal.τ).loc Cert.ProjInLongRefIdeal.main_arg1) = m ((c.tc : Thread Cert.ProjInLongRefIdeal.nD Cert.ProjInLongRefIdeal.τ).loc Cert.ProjInLongRefIdeal.main_arg1)
      ∧ r.2.mem ((c.tc : Thread Cert.ProjInLongRefIdeal.nD Cert.ProjInLongRefIdeal.τ).loc Cert.ProjInLongRefIdeal.main_arg2) = m ((c.tc : Thread Cert.ProjInLongRefIdeal.nD Cert.ProjInLongRefIdeal.τ).loc Cert.ProjInLongRefIdeal.main_arg2)
      ∧ r.2.mem ((c.tc : Thread Cert.ProjInLongRefIdeal.nD Cert.ProjInLongRefIdeal.τ).loc Cert.ProjInLongRefIdeal.main_arg3) = m ((c.tc : Thread Cert.ProjInLongRefIdeal.nD Cert.ProjInLongRefIdeal.τ).loc Cert.ProjInLongRefIdeal.main_arg3)
      ∧ r.2.mem ((c.tc : Thread Cert.ProjInLongRefIdeal.nD Cert.ProjInLongRefIdeal.τ).loc Cert.ProjInLongRefIdeal.main_arg4) = m ((c.tc : Thread Cert.ProjInLongRefIdeal.nD Cert.ProjInLongRefIdeal.τ).loc Cert.ProjInLongRefIdeal.main_arg4)
      ∧ r.2.mem ((c.tc : Thread Cert.ProjInLongRefIdeal.nD Cert.ProjInLongRefIdeal.τ).loc Cert.ProjInLongRefIdeal.main_arg5) = m ((c.tc : Thread Cert.ProjInLongRefIdeal.nD Cert.ProjInLongRefIdeal.τ).loc Cert.ProjInLongRefIdeal.main_arg5)
      ∧ r.2.mem ((c.tc : Thread Cert.ProjInLongRefIdeal.nD Cert.ProjInLongRefIdeal.τ).loc Cert.ProjInLongRefIdeal.main_arg6) = m ((c.tc : Thread Cert.ProjInLongRefIdeal.nD Cert.ProjInLongRefIdeal.τ).loc Cert.ProjInLongRefIdeal.main_arg6))
      ∧ r.2.sem = fun _ => 0)

def quiescent_ProjInLongRefIdeal_pre_finite_in [hProjInLongRefIdeal : Cert.ProjInLongRefIdeal.Facts] [hPre_finite_in : Cert.Pre_finite_in.Facts] : Prop :=
  ∀ (m : (ℓ : Loc Cert.ProjInLongRefIdeal.nD Cert.ProjInLongRefIdeal.τ Cert.ProjInLongRefIdeal.sig) → Buf (Elt Ideal) ℓ) (g : Dev Cert.ProjInLongRefIdeal.nD → PrngReg), Pre_ProjInLongRefIdeal_finite_in m →
    θ_run (Cert.ProjInLongRefIdeal.defs (F := Ideal)) (onTc (τ := Cert.ProjInLongRefIdeal.τ) (Cert.ProjInLongRefIdeal.main (F := Ideal))) ⟨m, fun _ => 0, g⟩ (fun r => (∀ c : Dev Cert.ProjInLongRefIdeal.nD,
      r.2.mem ((c.tc : Thread Cert.ProjInLongRefIdeal.nD Cert.ProjInLongRefIdeal.τ).loc Cert.ProjInLongRefIdeal.main_arg0) = m ((c.tc : Thread Cert.ProjInLongRefIdeal.nD Cert.ProjInLongRefIdeal.τ).loc Cert.ProjInLongRefIdeal.main_arg0)
      ∧ r.2.mem ((c.tc : Thread Cert.ProjInLongRefIdeal.nD Cert.ProjInLongRefIdeal.τ).loc Cert.ProjInLongRefIdeal.main_arg1) = m ((c.tc : Thread Cert.ProjInLongRefIdeal.nD Cert.ProjInLongRefIdeal.τ).loc Cert.ProjInLongRefIdeal.main_arg1)
      ∧ r.2.mem ((c.tc : Thread Cert.ProjInLongRefIdeal.nD Cert.ProjInLongRefIdeal.τ).loc Cert.ProjInLongRefIdeal.main_arg2) = m ((c.tc : Thread Cert.ProjInLongRefIdeal.nD Cert.ProjInLongRefIdeal.τ).loc Cert.ProjInLongRefIdeal.main_arg2)
      ∧ r.2.mem ((c.tc : Thread Cert.ProjInLongRefIdeal.nD Cert.ProjInLongRefIdeal.τ).loc Cert.ProjInLongRefIdeal.main_arg3) = m ((c.tc : Thread Cert.ProjInLongRefIdeal.nD Cert.ProjInLongRefIdeal.τ).loc Cert.ProjInLongRefIdeal.main_arg3)
      ∧ r.2.mem ((c.tc : Thread Cert.ProjInLongRefIdeal.nD Cert.ProjInLongRefIdeal.τ).loc Cert.ProjInLongRefIdeal.main_arg4) = m ((c.tc : Thread Cert.ProjInLongRefIdeal.nD Cert.ProjInLongRefIdeal.τ).loc Cert.ProjInLongRefIdeal.main_arg4)
      ∧ r.2.mem ((c.tc : Thread Cert.ProjInLongRefIdeal.nD Cert.ProjInLongRefIdeal.τ).loc Cert.ProjInLongRefIdeal.main_arg5) = m ((c.tc : Thread Cert.ProjInLongRefIdeal.nD Cert.ProjInLongRefIdeal.τ).loc Cert.ProjInLongRefIdeal.main_arg5)
      ∧ r.2.mem ((c.tc : Thread Cert.ProjInLongRefIdeal.nD Cert.ProjInLongRefIdeal.τ).loc Cert.ProjInLongRefIdeal.main_arg6) = m ((c.tc : Thread Cert.ProjInLongRefIdeal.nD Cert.ProjInLongRefIdeal.τ).loc Cert.ProjInLongRefIdeal.main_arg6))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v25) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_ProjIn_ProjInIdeal : Prop :=
  True

def algebraic_ProjInIdeal_ProjInRefIdeal_pre_finite_in [hProjInIdeal : Cert.ProjInIdeal.Facts] [hProjInRefIdeal : Cert.ProjInRefIdeal.Facts] [hPre_finite_in : Cert.Pre_finite_in.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal_finite_in m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)
      ∧ m' ((c.tc : Thread Cert.ProjInRefIdeal.nD Cert.ProjInRefIdeal.τ).loc Cert.ProjInRefIdeal.main_arg4) = m ((c.tc : Thread Cert.ProjInIdeal.nD Cert.ProjInIdeal.τ).loc Cert.ProjInIdeal.main_arg4)
      ∧ m' ((c.tc : Thread Cert.ProjInRefIdeal.nD Cert.ProjInRefIdeal.τ).loc Cert.ProjInRefIdeal.main_arg5) = m ((c.tc : Thread Cert.ProjInIdeal.nD Cert.ProjInIdeal.τ).loc Cert.ProjInIdeal.main_arg5)
      ∧ m' ((c.tc : Thread Cert.ProjInRefIdeal.nD Cert.ProjInRefIdeal.τ).loc Cert.ProjInRefIdeal.main_arg6) = m ((c.tc : Thread Cert.ProjInIdeal.nD Cert.ProjInIdeal.τ).loc Cert.ProjInIdeal.main_arg6)) →
    ∃ (v0 : (c : Dev Cert.ProjInIdeal.nD) → Buf (Elt Ideal) ((c.tc : Thread Cert.ProjInIdeal.nD Cert.ProjInIdeal.τ).loc Cert.ProjInIdeal.main_v72_0)) (v1 : (c : Dev Cert.ProjInIdeal.nD) → Buf (Elt Ideal) ((c.tc : Thread Cert.ProjInIdeal.nD Cert.ProjInIdeal.τ).loc Cert.ProjInIdeal.main_v72_1)) (v2 : (c : Dev Cert.ProjInIdeal.nD) → Buf (Elt Ideal) ((c.tc : Thread Cert.ProjInIdeal.nD Cert.ProjInIdeal.τ).loc Cert.ProjInIdeal.main_v72_2)) (v3 : (c : Dev Cert.ProjInIdeal.nD) → Buf (Elt Ideal) ((c.tc : Thread Cert.ProjInIdeal.nD Cert.ProjInIdeal.τ).loc Cert.ProjInIdeal.main_v72_3)) (v4 : (c : Dev Cert.ProjInIdeal.nD) → Buf (Elt Ideal) ((c.tc : Thread Cert.ProjInIdeal.nD Cert.ProjInIdeal.τ).loc Cert.ProjInIdeal.main_v72_4)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v72_0) = v0 c
          ∧ r.2.mem ((c.tc : Thread Cert.ProjInIdeal.nD Cert.ProjInIdeal.τ).loc Cert.ProjInIdeal.main_v72_1) = v1 c
          ∧ r.2.mem ((c.tc : Thread Cert.ProjInIdeal.nD Cert.ProjInIdeal.τ).loc Cert.ProjInIdeal.main_v72_2) = v2 c
          ∧ r.2.mem ((c.tc : Thread Cert.ProjInIdeal.nD Cert.ProjInIdeal.τ).loc Cert.ProjInIdeal.main_v72_3) = v3 c
          ∧ r.2.mem ((c.tc : Thread Cert.ProjInIdeal.nD Cert.ProjInIdeal.τ).loc Cert.ProjInIdeal.main_v72_4) = v4 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
          ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
          ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v111) = v0 c
          ∧ r.2.mem ((c.tc : Thread Cert.ProjInRefIdeal.nD Cert.ProjInRefIdeal.τ).loc Cert.ProjInRefIdeal.main_v115) = v1 c
          ∧ r.2.mem ((c.tc : Thread Cert.ProjInRefIdeal.nD Cert.ProjInRefIdeal.τ).loc Cert.ProjInRefIdeal.main_v116) = v2 c
          ∧ r.2.mem ((c.tc : Thread Cert.ProjInRefIdeal.nD Cert.ProjInRefIdeal.τ).loc Cert.ProjInRefIdeal.main_v117) = v3 c
          ∧ r.2.mem ((c.tc : Thread Cert.ProjInRefIdeal.nD Cert.ProjInRefIdeal.τ).loc Cert.ProjInRefIdeal.main_v118) = v4 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3)
          ∧ r.2.mem ((c.tc : Thread Cert.ProjInRefIdeal.nD Cert.ProjInRefIdeal.τ).loc Cert.ProjInRefIdeal.main_arg4) = m' ((c.tc : Thread Cert.ProjInRefIdeal.nD Cert.ProjInRefIdeal.τ).loc Cert.ProjInRefIdeal.main_arg4)
          ∧ r.2.mem ((c.tc : Thread Cert.ProjInRefIdeal.nD Cert.ProjInRefIdeal.τ).loc Cert.ProjInRefIdeal.main_arg5) = m' ((c.tc : Thread Cert.ProjInRefIdeal.nD Cert.ProjInRefIdeal.τ).loc Cert.ProjInRefIdeal.main_arg5)
          ∧ r.2.mem ((c.tc : Thread Cert.ProjInRefIdeal.nD Cert.ProjInRefIdeal.τ).loc Cert.ProjInRefIdeal.main_arg6) = m' ((c.tc : Thread Cert.ProjInRefIdeal.nD Cert.ProjInRefIdeal.τ).loc Cert.ProjInRefIdeal.main_arg6))

def preserves_AttnLong_AttnLongIdeal : Prop :=
  True

def algebraic_AttnLongIdeal_AttnLongRefIdeal_pre_finite_qk [hAttnLongIdeal : Cert.AttnLongIdeal.Facts] [hAttnLongRefIdeal : Cert.AttnLongRefIdeal.Facts] [hPre_finite_qk : Cert.Pre_finite_qk.Facts] : Prop :=
  ∀ (m : (ℓ : Loc Cert.AttnLongIdeal.nD Cert.AttnLongIdeal.τ Cert.AttnLongIdeal.sig) → Buf (Elt Ideal) ℓ) (g : Dev Cert.AttnLongIdeal.nD → PrngReg)
    (m' : (ℓ : Loc Cert.AttnLongRefIdeal.nD Cert.AttnLongRefIdeal.τ Cert.AttnLongRefIdeal.sig) → Buf (Elt Ideal) ℓ) (g' : Dev Cert.AttnLongRefIdeal.nD → PrngReg), Pre_AttnLongIdeal_finite_qk m →
    (∀ c : Dev Cert.AttnLongIdeal.nD,
      m' ((c.tc : Thread Cert.AttnLongRefIdeal.nD Cert.AttnLongRefIdeal.τ).loc Cert.AttnLongRefIdeal.main_arg0) = m ((c.tc : Thread Cert.AttnLongIdeal.nD Cert.AttnLongIdeal.τ).loc Cert.AttnLongIdeal.main_arg0)
      ∧ m' ((c.tc : Thread Cert.AttnLongRefIdeal.nD Cert.AttnLongRefIdeal.τ).loc Cert.AttnLongRefIdeal.main_arg1) = m ((c.tc : Thread Cert.AttnLongIdeal.nD Cert.AttnLongIdeal.τ).loc Cert.AttnLongIdeal.main_arg1)
      ∧ m' ((c.tc : Thread Cert.AttnLongRefIdeal.nD Cert.AttnLongRefIdeal.τ).loc Cert.AttnLongRefIdeal.main_arg2) = m ((c.tc : Thread Cert.AttnLongIdeal.nD Cert.AttnLongIdeal.τ).loc Cert.AttnLongIdeal.main_arg2)) →
    ∃ (v0 : (c : Dev Cert.AttnLongIdeal.nD) → Buf (Elt Ideal) ((c.tc : Thread Cert.AttnLongIdeal.nD Cert.AttnLongIdeal.τ).loc Cert.AttnLongIdeal.main_v0)),
      θ_run (Cert.AttnLongIdeal.defs (F := Ideal)) (onTc (τ := Cert.AttnLongIdeal.τ) (Cert.AttnLongIdeal.main (F := Ideal))) ⟨m, fun _ => 0, g⟩ (fun r => ∀ c : Dev Cert.AttnLongIdeal.nD,
          r.2.mem ((c.tc : Thread Cert.AttnLongIdeal.nD Cert.AttnLongIdeal.τ).loc Cert.AttnLongIdeal.main_v0) = v0 c
          ∧ r.2.mem ((c.tc : Thread Cert.AttnLongIdeal.nD Cert.AttnLongIdeal.τ).loc Cert.AttnLongIdeal.main_arg0) = m ((c.tc : Thread Cert.AttnLongIdeal.nD Cert.AttnLongIdeal.τ).loc Cert.AttnLongIdeal.main_arg0)
          ∧ r.2.mem ((c.tc : Thread Cert.AttnLongIdeal.nD Cert.AttnLongIdeal.τ).loc Cert.AttnLongIdeal.main_arg1) = m ((c.tc : Thread Cert.AttnLongIdeal.nD Cert.AttnLongIdeal.τ).loc Cert.AttnLongIdeal.main_arg1)
          ∧ r.2.mem ((c.tc : Thread Cert.AttnLongIdeal.nD Cert.AttnLongIdeal.τ).loc Cert.AttnLongIdeal.main_arg2) = m ((c.tc : Thread Cert.AttnLongIdeal.nD Cert.AttnLongIdeal.τ).loc Cert.AttnLongIdeal.main_arg2))
      ∧ θ_run (Cert.AttnLongRefIdeal.defs (F := Ideal)) (onTc (τ := Cert.AttnLongRefIdeal.τ) (Cert.AttnLongRefIdeal.main (F := Ideal))) ⟨m', fun _ => 0, g'⟩ (fun r => ∀ c : Dev Cert.AttnLongRefIdeal.nD,
          r.2.mem ((c.tc : Thread Cert.AttnLongRefIdeal.nD Cert.AttnLongRefIdeal.τ).loc Cert.AttnLongRefIdeal.main_v21) = v0 c
          ∧ r.2.mem ((c.tc : Thread Cert.AttnLongRefIdeal.nD Cert.AttnLongRefIdeal.τ).loc Cert.AttnLongRefIdeal.main_arg0) = m' ((c.tc : Thread Cert.AttnLongRefIdeal.nD Cert.AttnLongRefIdeal.τ).loc Cert.AttnLongRefIdeal.main_arg0)
          ∧ r.2.mem ((c.tc : Thread Cert.AttnLongRefIdeal.nD Cert.AttnLongRefIdeal.τ).loc Cert.AttnLongRefIdeal.main_arg1) = m' ((c.tc : Thread Cert.AttnLongRefIdeal.nD Cert.AttnLongRefIdeal.τ).loc Cert.AttnLongRefIdeal.main_arg1)
          ∧ r.2.mem ((c.tc : Thread Cert.AttnLongRefIdeal.nD Cert.AttnLongRefIdeal.τ).loc Cert.AttnLongRefIdeal.main_arg2) = m' ((c.tc : Thread Cert.AttnLongRefIdeal.nD Cert.AttnLongRefIdeal.τ).loc Cert.AttnLongRefIdeal.main_arg2))

def preserves_ProjInLong_ProjInLongIdeal : Prop :=
  True

def algebraic_ProjInLongIdeal_ProjInLongRefIdeal_pre_finite_in [hProjInLongIdeal : Cert.ProjInLongIdeal.Facts] [hProjInLongRefIdeal : Cert.ProjInLongRefIdeal.Facts] [hPre_finite_in : Cert.Pre_finite_in.Facts] : Prop :=
  ∀ (m : (ℓ : Loc Cert.ProjInLongIdeal.nD Cert.ProjInLongIdeal.τ Cert.ProjInLongIdeal.sig) → Buf (Elt Ideal) ℓ) (g : Dev Cert.ProjInLongIdeal.nD → PrngReg)
    (m' : (ℓ : Loc Cert.ProjInLongRefIdeal.nD Cert.ProjInLongRefIdeal.τ Cert.ProjInLongRefIdeal.sig) → Buf (Elt Ideal) ℓ) (g' : Dev Cert.ProjInLongRefIdeal.nD → PrngReg), Pre_ProjInLongIdeal_finite_in m →
    (∀ c : Dev Cert.ProjInLongIdeal.nD,
      m' ((c.tc : Thread Cert.ProjInLongRefIdeal.nD Cert.ProjInLongRefIdeal.τ).loc Cert.ProjInLongRefIdeal.main_arg0) = m ((c.tc : Thread Cert.ProjInLongIdeal.nD Cert.ProjInLongIdeal.τ).loc Cert.ProjInLongIdeal.main_arg0)
      ∧ m' ((c.tc : Thread Cert.ProjInLongRefIdeal.nD Cert.ProjInLongRefIdeal.τ).loc Cert.ProjInLongRefIdeal.main_arg1) = m ((c.tc : Thread Cert.ProjInLongIdeal.nD Cert.ProjInLongIdeal.τ).loc Cert.ProjInLongIdeal.main_arg1)
      ∧ m' ((c.tc : Thread Cert.ProjInLongRefIdeal.nD Cert.ProjInLongRefIdeal.τ).loc Cert.ProjInLongRefIdeal.main_arg2) = m ((c.tc : Thread Cert.ProjInLongIdeal.nD Cert.ProjInLongIdeal.τ).loc Cert.ProjInLongIdeal.main_arg2)
      ∧ m' ((c.tc : Thread Cert.ProjInLongRefIdeal.nD Cert.ProjInLongRefIdeal.τ).loc Cert.ProjInLongRefIdeal.main_arg3) = m ((c.tc : Thread Cert.ProjInLongIdeal.nD Cert.ProjInLongIdeal.τ).loc Cert.ProjInLongIdeal.main_arg3)
      ∧ m' ((c.tc : Thread Cert.ProjInLongRefIdeal.nD Cert.ProjInLongRefIdeal.τ).loc Cert.ProjInLongRefIdeal.main_arg4) = m ((c.tc : Thread Cert.ProjInLongIdeal.nD Cert.ProjInLongIdeal.τ).loc Cert.ProjInLongIdeal.main_arg4)
      ∧ m' ((c.tc : Thread Cert.ProjInLongRefIdeal.nD Cert.ProjInLongRefIdeal.τ).loc Cert.ProjInLongRefIdeal.main_arg5) = m ((c.tc : Thread Cert.ProjInLongIdeal.nD Cert.ProjInLongIdeal.τ).loc Cert.ProjInLongIdeal.main_arg5)
      ∧ m' ((c.tc : Thread Cert.ProjInLongRefIdeal.nD Cert.ProjInLongRefIdeal.τ).loc Cert.ProjInLongRefIdeal.main_arg6) = m ((c.tc : Thread Cert.ProjInLongIdeal.nD Cert.ProjInLongIdeal.τ).loc Cert.ProjInLongIdeal.main_arg6)) →
    ∃ (v0 : (c : Dev Cert.ProjInLongIdeal.nD) → Buf (Elt Ideal) ((c.tc : Thread Cert.ProjInLongIdeal.nD Cert.ProjInLongIdeal.τ).loc Cert.ProjInLongIdeal.main_v72_0)) (v1 : (c : Dev Cert.ProjInLongIdeal.nD) → Buf (Elt Ideal) ((c.tc : Thread Cert.ProjInLongIdeal.nD Cert.ProjInLongIdeal.τ).loc Cert.ProjInLongIdeal.main_v72_1)) (v2 : (c : Dev Cert.ProjInLongIdeal.nD) → Buf (Elt Ideal) ((c.tc : Thread Cert.ProjInLongIdeal.nD Cert.ProjInLongIdeal.τ).loc Cert.ProjInLongIdeal.main_v72_2)) (v3 : (c : Dev Cert.ProjInLongIdeal.nD) → Buf (Elt Ideal) ((c.tc : Thread Cert.ProjInLongIdeal.nD Cert.ProjInLongIdeal.τ).loc Cert.ProjInLongIdeal.main_v72_3)) (v4 : (c : Dev Cert.ProjInLongIdeal.nD) → Buf (Elt Ideal) ((c.tc : Thread Cert.ProjInLongIdeal.nD Cert.ProjInLongIdeal.τ).loc Cert.ProjInLongIdeal.main_v72_4)),
      θ_run (Cert.ProjInLongIdeal.defs (F := Ideal)) (onTc (τ := Cert.ProjInLongIdeal.τ) (Cert.ProjInLongIdeal.main (F := Ideal))) ⟨m, fun _ => 0, g⟩ (fun r => ∀ c : Dev Cert.ProjInLongIdeal.nD,
          r.2.mem ((c.tc : Thread Cert.ProjInLongIdeal.nD Cert.ProjInLongIdeal.τ).loc Cert.ProjInLongIdeal.main_v72_0) = v0 c
          ∧ r.2.mem ((c.tc : Thread Cert.ProjInLongIdeal.nD Cert.ProjInLongIdeal.τ).loc Cert.ProjInLongIdeal.main_v72_1) = v1 c
          ∧ r.2.mem ((c.tc : Thread Cert.ProjInLongIdeal.nD Cert.ProjInLongIdeal.τ).loc Cert.ProjInLongIdeal.main_v72_2) = v2 c
          ∧ r.2.mem ((c.tc : Thread Cert.ProjInLongIdeal.nD Cert.ProjInLongIdeal.τ).loc Cert.ProjInLongIdeal.main_v72_3) = v3 c
          ∧ r.2.mem ((c.tc : Thread Cert.ProjInLongIdeal.nD Cert.ProjInLongIdeal.τ).loc Cert.ProjInLongIdeal.main_v72_4) = v4 c
          ∧ r.2.mem ((c.tc : Thread Cert.ProjInLongIdeal.nD Cert.ProjInLongIdeal.τ).loc Cert.ProjInLongIdeal.main_arg0) = m ((c.tc : Thread Cert.ProjInLongIdeal.nD Cert.ProjInLongIdeal.τ).loc Cert.ProjInLongIdeal.main_arg0)
          ∧ r.2.mem ((c.tc : Thread Cert.ProjInLongIdeal.nD Cert.ProjInLongIdeal.τ).loc Cert.ProjInLongIdeal.main_arg1) = m ((c.tc : Thread Cert.ProjInLongIdeal.nD Cert.ProjInLongIdeal.τ).loc Cert.ProjInLongIdeal.main_arg1)
          ∧ r.2.mem ((c.tc : Thread Cert.ProjInLongIdeal.nD Cert.ProjInLongIdeal.τ).loc Cert.ProjInLongIdeal.main_arg2) = m ((c.tc : Thread Cert.ProjInLongIdeal.nD Cert.ProjInLongIdeal.τ).loc Cert.ProjInLongIdeal.main_arg2)
          ∧ r.2.mem ((c.tc : Thread Cert.ProjInLongIdeal.nD Cert.ProjInLongIdeal.τ).loc Cert.ProjInLongIdeal.main_arg3) = m ((c.tc : Thread Cert.ProjInLongIdeal.nD Cert.ProjInLongIdeal.τ).loc Cert.ProjInLongIdeal.main_arg3)
          ∧ r.2.mem ((c.tc : Thread Cert.ProjInLongIdeal.nD Cert.ProjInLongIdeal.τ).loc Cert.ProjInLongIdeal.main_arg4) = m ((c.tc : Thread Cert.ProjInLongIdeal.nD Cert.ProjInLongIdeal.τ).loc Cert.ProjInLongIdeal.main_arg4)
          ∧ r.2.mem ((c.tc : Thread Cert.ProjInLongIdeal.nD Cert.ProjInLongIdeal.τ).loc Cert.ProjInLongIdeal.main_arg5) = m ((c.tc : Thread Cert.ProjInLongIdeal.nD Cert.ProjInLongIdeal.τ).loc Cert.ProjInLongIdeal.main_arg5)
          ∧ r.2.mem ((c.tc : Thread Cert.ProjInLongIdeal.nD Cert.ProjInLongIdeal.τ).loc Cert.ProjInLongIdeal.main_arg6) = m ((c.tc : Thread Cert.ProjInLongIdeal.nD Cert.ProjInLongIdeal.τ).loc Cert.ProjInLongIdeal.main_arg6))
      ∧ θ_run (Cert.ProjInLongRefIdeal.defs (F := Ideal)) (onTc (τ := Cert.ProjInLongRefIdeal.τ) (Cert.ProjInLongRefIdeal.main (F := Ideal))) ⟨m', fun _ => 0, g'⟩ (fun r => ∀ c : Dev Cert.ProjInLongRefIdeal.nD,
          r.2.mem ((c.tc : Thread Cert.ProjInLongRefIdeal.nD Cert.ProjInLongRefIdeal.τ).loc Cert.ProjInLongRefIdeal.main_v111) = v0 c
          ∧ r.2.mem ((c.tc : Thread Cert.ProjInLongRefIdeal.nD Cert.ProjInLongRefIdeal.τ).loc Cert.ProjInLongRefIdeal.main_v115) = v1 c
          ∧ r.2.mem ((c.tc : Thread Cert.ProjInLongRefIdeal.nD Cert.ProjInLongRefIdeal.τ).loc Cert.ProjInLongRefIdeal.main_v116) = v2 c
          ∧ r.2.mem ((c.tc : Thread Cert.ProjInLongRefIdeal.nD Cert.ProjInLongRefIdeal.τ).loc Cert.ProjInLongRefIdeal.main_v117) = v3 c
          ∧ r.2.mem ((c.tc : Thread Cert.ProjInLongRefIdeal.nD Cert.ProjInLongRefIdeal.τ).loc Cert.ProjInLongRefIdeal.main_v118) = v4 c
          ∧ r.2.mem ((c.tc : Thread Cert.ProjInLongRefIdeal.nD Cert.ProjInLongRefIdeal.τ).loc Cert.ProjInLongRefIdeal.main_arg0) = m' ((c.tc : Thread Cert.ProjInLongRefIdeal.nD Cert.ProjInLongRefIdeal.τ).loc Cert.ProjInLongRefIdeal.main_arg0)
          ∧ r.2.mem ((c.tc : Thread Cert.ProjInLongRefIdeal.nD Cert.ProjInLongRefIdeal.τ).loc Cert.ProjInLongRefIdeal.main_arg1) = m' ((c.tc : Thread Cert.ProjInLongRefIdeal.nD Cert.ProjInLongRefIdeal.τ).loc Cert.ProjInLongRefIdeal.main_arg1)
          ∧ r.2.mem ((c.tc : Thread Cert.ProjInLongRefIdeal.nD Cert.ProjInLongRefIdeal.τ).loc Cert.ProjInLongRefIdeal.main_arg2) = m' ((c.tc : Thread Cert.ProjInLongRefIdeal.nD Cert.ProjInLongRefIdeal.τ).loc Cert.ProjInLongRefIdeal.main_arg2)
          ∧ r.2.mem ((c.tc : Thread Cert.ProjInLongRefIdeal.nD Cert.ProjInLongRefIdeal.τ).loc Cert.ProjInLongRefIdeal.main_arg3) = m' ((c.tc : Thread Cert.ProjInLongRefIdeal.nD Cert.ProjInLongRefIdeal.τ).loc Cert.ProjInLongRefIdeal.main_arg3)
          ∧ r.2.mem ((c.tc : Thread Cert.ProjInLongRefIdeal.nD Cert.ProjInLongRefIdeal.τ).loc Cert.ProjInLongRefIdeal.main_arg4) = m' ((c.tc : Thread Cert.ProjInLongRefIdeal.nD Cert.ProjInLongRefIdeal.τ).loc Cert.ProjInLongRefIdeal.main_arg4)
          ∧ r.2.mem ((c.tc : Thread Cert.ProjInLongRefIdeal.nD Cert.ProjInLongRefIdeal.τ).loc Cert.ProjInLongRefIdeal.main_arg5) = m' ((c.tc : Thread Cert.ProjInLongRefIdeal.nD Cert.ProjInLongRefIdeal.τ).loc Cert.ProjInLongRefIdeal.main_arg5)
          ∧ r.2.mem ((c.tc : Thread Cert.ProjInLongRefIdeal.nD Cert.ProjInLongRefIdeal.τ).loc Cert.ProjInLongRefIdeal.main_arg6) = m' ((c.tc : Thread Cert.ProjInLongRefIdeal.nD Cert.ProjInLongRefIdeal.τ).loc Cert.ProjInLongRefIdeal.main_arg6))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v13_0)) (v1 : (c : Dev Cert.PostIdeal.nD) → Buf (Elt Ideal) ((c.tc : Thread Cert.PostIdeal.nD Cert.PostIdeal.τ).loc Cert.PostIdeal.main_v13_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13_0) = v0 c
          ∧ r.2.mem ((c.tc : Thread Cert.PostIdeal.nD Cert.PostIdeal.τ).loc Cert.PostIdeal.main_v13_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v17) = v0 c
          ∧ r.2.mem ((c.tc : Thread Cert.PostRefIdeal.nD Cert.PostRefIdeal.τ).loc Cert.PostRefIdeal.main_v31) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hProjIn : Cert.ProjIn.Facts) (hProjInIdeal : Cert.ProjInIdeal.Facts) (hProjInRefIdeal : Cert.ProjInRefIdeal.Facts) (hAttnLong : Cert.AttnLong.Facts) (hAttnLongIdeal : Cert.AttnLongIdeal.Facts) (hAttnLongRefIdeal : Cert.AttnLongRefIdeal.Facts) (hProjInLong : Cert.ProjInLong.Facts) (hProjInLongIdeal : Cert.ProjInLongIdeal.Facts) (hProjInLongRefIdeal : Cert.ProjInLongRefIdeal.Facts) (hPost : Cert.Post.Facts) (hPostIdeal : Cert.PostIdeal.Facts) (hPostRefIdeal : Cert.PostRefIdeal.Facts) (hPre_finite_qk : Cert.Pre_finite_qk.Facts) (hPre_finite_in : Cert.Pre_finite_in.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Moe (hMoe := hMoe)
    ∧ quiescent_MoeIdeal (hMoeIdeal := hMoeIdeal)
    ∧ quiescent_MoeRefIdeal (hMoeRefIdeal := hMoeRefIdeal)
    ∧ quiescent_ProjIn (hProjIn := hProjIn)
    ∧ quiescent_ProjInIdeal (hProjInIdeal := hProjInIdeal)
    ∧ quiescent_ProjInIdeal_pre_finite_in (hProjInIdeal := hProjInIdeal) (hPre_finite_in := hPre_finite_in)
    ∧ quiescent_ProjInRefIdeal (hProjInRefIdeal := hProjInRefIdeal)
    ∧ quiescent_ProjInRefIdeal_pre_finite_in (hProjInRefIdeal := hProjInRefIdeal) (hPre_finite_in := hPre_finite_in)
    ∧ quiescent_AttnLong (hAttnLong := hAttnLong)
    ∧ quiescent_AttnLongIdeal (hAttnLongIdeal := hAttnLongIdeal)
    ∧ quiescent_AttnLongIdeal_pre_finite_qk (hAttnLongIdeal := hAttnLongIdeal) (hPre_finite_qk := hPre_finite_qk)
    ∧ quiescent_AttnLongRefIdeal (hAttnLongRefIdeal := hAttnLongRefIdeal)
    ∧ quiescent_AttnLongRefIdeal_pre_finite_qk (hAttnLongRefIdeal := hAttnLongRefIdeal) (hPre_finite_qk := hPre_finite_qk)
    ∧ quiescent_ProjInLong (hProjInLong := hProjInLong)
    ∧ quiescent_ProjInLongIdeal (hProjInLongIdeal := hProjInLongIdeal)
    ∧ quiescent_ProjInLongIdeal_pre_finite_in (hProjInLongIdeal := hProjInLongIdeal) (hPre_finite_in := hPre_finite_in)
    ∧ quiescent_ProjInLongRefIdeal (hProjInLongRefIdeal := hProjInLongRefIdeal)
    ∧ quiescent_ProjInLongRefIdeal_pre_finite_in (hProjInLongRefIdeal := hProjInLongRefIdeal) (hPre_finite_in := hPre_finite_in)
    ∧ quiescent_Post (hPost := hPost)
    ∧ quiescent_PostIdeal (hPostIdeal := hPostIdeal)
    ∧ quiescent_PostRefIdeal (hPostRefIdeal := hPostRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Moe_MoeIdeal
    ∧ algebraic_MoeIdeal_MoeRefIdeal (hMoeIdeal := hMoeIdeal) (hMoeRefIdeal := hMoeRefIdeal)
    ∧ preserves_ProjIn_ProjInIdeal
    ∧ algebraic_ProjInIdeal_ProjInRefIdeal_pre_finite_in (hProjInIdeal := hProjInIdeal) (hProjInRefIdeal := hProjInRefIdeal) (hPre_finite_in := hPre_finite_in)
    ∧ preserves_AttnLong_AttnLongIdeal
    ∧ algebraic_AttnLongIdeal_AttnLongRefIdeal_pre_finite_qk (hAttnLongIdeal := hAttnLongIdeal) (hAttnLongRefIdeal := hAttnLongRefIdeal) (hPre_finite_qk := hPre_finite_qk)
    ∧ preserves_ProjInLong_ProjInLongIdeal
    ∧ algebraic_ProjInLongIdeal_ProjInLongRefIdeal_pre_finite_in (hProjInLongIdeal := hProjInLongIdeal) (hProjInLongRefIdeal := hProjInLongRefIdeal) (hPre_finite_in := hPre_finite_in)
    ∧ preserves_Post_PostIdeal
    ∧ algebraic_PostIdeal_PostRefIdeal (hPostIdeal := hPostIdeal) (hPostRefIdeal := hPostRefIdeal)
-- ==== Pre_finite_in.lean ====
abbrev S65536x1024 : Shape := ⟨2, ![65536, 1024]⟩
abbrev S1024 : Shape := ⟨1, ![1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1024x16 : Shape := ⟨2, ![1024, 16]⟩
abbrev S_ : Shape := ⟨0, ![]⟩
abbrev S1024x1 : Shape := ⟨2, ![1024, 1]⟩
abbrev S16384 : Shape := ⟨1, ![16384]⟩
abbrev S384x8x96 : Shape := ⟨3, ![384, 8, 96]⟩
abbrev S384x8x16 : Shape := ⟨3, ![384, 8, 16]⟩
abbrev S384x128 : Shape := ⟨2, ![384, 128]⟩
abbrev S384x1 : Shape := ⟨2, ![384, 1]⟩
abbrev S49152 : Shape := ⟨1, ![49152]⟩
abbrev S65536 : Shape := ⟨1, ![65536]⟩

class Facts : Prop where
  slices_S1024x1696_S1024x16_0_656 : S1024x1696.Slices ![0, 656] S1024x16
  bcast_S_S1024x16 : S_.BroadcastsInDim S1024x16 (![] : Fin 0 → Fin S1024x16.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x16_0_1 : S1024x1.BroadcastsInDim S1024x16 (![0, 1] : Fin 2 → Fin S1024x16.rank)
  shapeCasts_S1024x16_S16384 : S1024x16.ShapeCasts S16384
  shapeCasts_S384x768_S384x8x96 : S384x768.ShapeCasts S384x8x96
  slices_S384x8x96_S384x8x16_0_0_80 : S384x8x96.Slices ![0, 0, 80] S384x8x16
  shapeCasts_S384x8x16_S384x128 : S384x8x16.ShapeCasts S384x128
  bcast_S_S384x128 : S_.BroadcastsInDim S384x128 (![] : Fin 0 → Fin S384x128.rank)
  bcast_S384_S384x1_0 : S384.BroadcastsInDim S384x1 (![0] : Fin 1 → Fin S384x1.rank)
  bcast_S_S384x1 : S_.BroadcastsInDim S384x1 (![] : Fin 0 → Fin S384x1.rank)
  bcast_S384x1_S384x128_0_1 : S384x1.BroadcastsInDim S384x128 (![0, 1] : Fin 2 → Fin S384x128.rank)
  shapeCasts_S384x128_S49152 : S384x128.ShapeCasts S49152
  concatenates_S16384_S49152_S65536_d0 : Shape.Concatenates [S16384, S49152] S65536 0

variable [Facts]

def fn_part1 {F : FTy → Type} [FloatOps F] (main_v10 : IVec S16384 1) (main_v16 : IVec S384x128 1) (main_v18 : FVec F S384x1 .f32) (main_v19 : FVec F S384x1 .f32) : IVec S65536 1 :=
  let main_v20 : IVec S384x1 1 := cmpf .olt main_v18 main_v19
  let main_v21 : IVec S384x128 1 := broadcastInDim S384x128 ![0, 1] bcast_S384x1_S384x128_0_1 main_v20
  let main_v22 : IVec S384x128 1 := andi main_v16 main_v21
  let main_v23 : IVec S49152 1 := shapeCast S49152 main_v22 shapeCasts_S384x128_S49152
  let main_v24 : IVec S65536 1 := (fun a b => concatenate S65536 0 [⟨S16384, a⟩, ⟨S49152, b⟩] concatenates_S16384_S49152_S65536_d0) main_v10 main_v23
  main_v24

def fn {F : FTy → Type} [FloatOps F] (main_arg0 : FVec F S65536x1024 .f32) (main_arg1 : FVec F S1024 .f32) (main_arg2 : FVec F S1024x1696 .f32) (main_arg3 : FVec F S384 .f32) (main_arg4 : FVec F S384x768 .f32) (main_arg5 : FVec F S256 .f32) (main_arg6 : FVec F S256x1024 .f32) : IVec S65536 1 :=
  let main_v0 : FVec F S1024x16 .f32 := (extractStridedSlice S1024x16 ![0, 656] · slices_S1024x1696_S1024x16_0_656) main_arg2
  let main_v1 : FVec F S1024x16 .f32 := Host.absf main_v0
  let main_cst : FVec F S_ .f32 := constant S_ .f32 0x7F800000#32
  let main_v2 : FVec F S1024x16 .f32 := broadcastInDim S1024x16 ![] bcast_S_S1024x16 main_cst
  let main_v3 : IVec S1024x16 1 := cmpf .olt main_v1 main_v2
  let main_v4 : FVec F S1024 .f32 := Host.absf main_arg1
  let main_v5 : FVec F S1024x1 .f32 := broadcastInDim S1024x1 ![0] bcast_S1024_S1024x1_0 main_v4
  let main_cst_0 : FVec F S_ .f32 := constant S_ .f32 0x7F800000#32
  let main_v6 : FVec F S1024x1 .f32 := broadcastInDim S1024x1 ![] bcast_S_S1024x1 main_cst_0
  let main_v7 : IVec S1024x1 1 := cmpf .olt main_v5 main_v6
  let main_v8 : IVec S1024x16 1 := broadcastInDim S1024x16 ![0, 1] bcast_S1024x1_S1024x16_0_1 main_v7
  let main_v9 : IVec S1024x16 1 := andi main_v3 main_v8
  let main_v10 : IVec S16384 1 := shapeCast S16384 main_v9 shapeCasts_S1024x16_S16384
  let main_v11 : FVec F S384x8x96 .f32 := shapeCast S384x8x96 main_arg4 shapeCasts_S384x768_S384x8x96
  let main_v12 : FVec F S384x8x16 .f32 := (extractStridedSlice S384x8x16 ![0, 0, 80] · slices_S384x8x96_S384x8x16_0_0_80) main_v11
  let main_v13 : FVec F S384x128 .f32 := shapeCast S384x128 main_v12 shapeCasts_S384x8x16_S384x128
  let main_v14 : FVec F S384x128 .f32 := Host.absf main_v13
  let main_cst_1 : FVec F S_ .f32 := constant S_ .f32 0x7F800000#32
  let main_v15 : FVec F S384x128 .f32 := broadcastInDim S384x128 ![] bcast_S_S384x128 main_cst_1
  let main_v16 : IVec S384x128 1 := cmpf .olt main_v14 main_v15
  let main_v17 : FVec F S384 .f32 := Host.absf main_arg3
  let main_v18 : FVec F S384x1 .f32 := broadcastInDim S384x1 ![0] bcast_S384_S384x1_0 main_v17
  let main_cst_2 : FVec F S_ .f32 := constant S_ .f32 0x7F800000#32
  let main_v19 : FVec F S384x1 .f32 := broadcastInDim S384x1 ![] bcast_S_S384x1 main_cst_2
  fn_part1 (F := F) main_v10 main_v16 main_v18 main_v19
-- ==== Pre_finite_qk.lean ====
abbrev S4x65536x256 : Shape := ⟨3, ![4, 65536, 256]⟩
abbrev S4x65536x128 : Shape := ⟨3, ![4, 65536, 128]⟩
abbrev S_ : Shape := ⟨0, ![]⟩

class Facts : Prop where
  bitsLt_bf16_f32 : FTy.bits .bf16 < FTy.bits .f32
  bcast_S_S4x65536x256 : S_.BroadcastsInDim S4x65536x256 (![] : Fin 0 → Fin S4x65536x256.rank)

variable [Facts]

def fn {F : FTy → Type} [FloatOps F] (main_arg0 : FVec F S4x65536x256 .bf16) (main_arg1 : FVec F S4x65536x256 .bf16) (main_arg2 : FVec F S4x65536x128 .bf16) : IVec S4x65536x256 1 :=
  let main_v0 : FVec F S4x65536x256 .f32 := (extf .f32 · bitsLt_bf16_f32) main_arg0
  let main_v1 : FVec F S4x65536x256 .f32 := Host.absf main_v0
  let main_cst : FVec F S_ .f32 := constant S_ .f32 0x7F800000#32
  let main_v2 : FVec F S4x65536x256 .f32 := broadcastInDim S4x65536x256 ![] bcast_S_S4x65536x256 main_cst
  let main_v3 : IVec S4x65536x256 1 := cmpf .olt main_v1 main_v2
  let main_v4 : FVec F S4x65536x256 .f32 := (extf .f32 · bitsLt_bf16_f32) main_arg1
  let main_v5 : FVec F S4x65536x256 .f32 := Host.absf main_v4
  let main_cst_0 : FVec F S_ .f32 := constant S_ .f32 0x7F800000#32
  let main_v6 : FVec F S4x65536x256 .f32 := broadcastInDim S4x65536x256 ![] bcast_S_S4x65536x256 main_cst_0
  let main_v7 : IVec S4x65536x256 1 := cmpf .olt main_v5 main_v6
  let main_v8 : IVec S4x65536x256 1 := andi main_v3 main_v7
  main_v8
-- ==== Attn.lean ====
abbrev S4x65536x256 : Shape := ⟨3, ![4, 65536, 256]⟩
abbrev S4x65536x128 : Shape := ⟨3, ![4, 65536, 128]⟩
abbrev S65536x512 : Shape := ⟨2, ![65536, 512]⟩
abbrev S1x256x256 : Shape := ⟨3, ![1, 256, 256]⟩
abbrev S1x2048x256 : Shape := ⟨3, ![1, 2048, 256]⟩
abbrev S1x2048x128 : Shape := ⟨3, ![1, 2048, 128]⟩
abbrev S256x128 : Shape := ⟨2, ![256, 128]⟩
abbrev S2048x128 : Shape := ⟨2, ![2048, 128]⟩
abbrev S1x256x128 : Shape := ⟨3, ![1, 256, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x65536x256, .bf16⟩
  | .hbm, ⟨1, _⟩ => ⟨S4x65536x256, .bf16⟩
  | .hbm, ⟨2, _⟩ => ⟨S4x65536x128, .bf16⟩
  | .hbm, ⟨3, _⟩ => ⟨S65536x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S256x128, .bf16⟩
  | .local _ .vmem, ⟨7, _⟩ => ⟨S256x128, .bf16⟩
  | _, _ => ⟨S4x65536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S4x65536x256 : Shape := ⟨3, ![4, 65536, 256]⟩
abbrev S4x65536x128 : Shape := ⟨3, ![4, 65536, 128]⟩
abbrev S4x32x2048x2x128 : Shape := ⟨5, ![4, 32, 2048, 2, 128]⟩
abbrev S4x32x2048x2x64 : Shape := ⟨5, ![4, 32, 2048, 2, 64]⟩
abbrev S4x32x2x2048x2048 : Shape := ⟨5, ![4, 32, 2, 2048, 2048]⟩
abbrev S_ : Shape := ⟨0, ![]⟩
abbrev S4x32x2x2048 : Shape := ⟨4, ![4, 32, 2, 2048]⟩
abbrev S4x32x2x2048x1 : Shape := ⟨5, ![4, 32, 2, 2048, 1]⟩
abbrev S32x4x2x64x2048 : Shape := ⟨5, ![32, 4, 2, 64, 2048]⟩
abbrev S32x2048x4x2x64 : Shape := ⟨5, ![32, 2048, 4, 2, 64]⟩
abbrev S65536x512 : Shape := ⟨2, ![65536, 512]⟩

abbrev nBuf : Space → Nat
  | .hbm => 28
  | .vmem => 0
  | .smem => 0
  | _ => 0

abbrev bufTy : (tb : Table) → Fin (tcTables nBuf tb) → BufTy
  | .hbm, ⟨0, _⟩ => ⟨S4x65536x256, .bf16⟩
  | .hbm, ⟨1, _⟩ => ⟨S4x65536x256, .bf16⟩
  | .hbm, ⟨2, _⟩ => ⟨S4x65536x128, .bf16⟩
  | .hbm, ⟨3, _⟩ => ⟨S4x65536x256, .f32⟩
  | .hbm, ⟨4, _⟩ => ⟨S4x32x2048x2x128, .f32⟩
  | .hbm, ⟨5, _⟩ => ⟨S4x65536x256, .f32⟩
  | .hbm, ⟨6, _⟩ => ⟨S4x32x2048x2x128, .f32⟩
  | .hbm, ⟨7, _⟩ => ⟨S4x65536x128, .f32⟩
  | .hbm, ⟨8, _⟩ => ⟨S4x32x2048x2x64, .f32⟩
  | .hbm, ⟨9, _⟩ => ⟨S4x32x2x2048x2048, .f32⟩
  | .hbm, ⟨10, _⟩ => ⟨S_, .f32⟩
  | .hbm, ⟨11, _⟩ => ⟨S4x32x2x2048, .f32⟩
  | .hbm, ⟨12, _⟩ => ⟨S_, .f32⟩
  | .hbm, ⟨13, _⟩ => ⟨S4x32x2x2048, .f32⟩
  | .hbm, ⟨14, _⟩ => ⟨S4x32x2x2048, .f32⟩
  | .hbm, ⟨15, _⟩ => ⟨S4x32x2x2048x1, .f32⟩
  | .hbm, ⟨16, _⟩ => ⟨S4x32x2x2048x2048, .f32⟩
  | .hbm, ⟨17, _⟩ => ⟨S4x32x2x2048x2048, .f32⟩
  | .hbm, ⟨18, _⟩ => ⟨S4x32x2x2048x2048, .f32⟩
  | .hbm, ⟨19, _⟩ => ⟨S_, .f32⟩
  | .hbm, ⟨20, _⟩ => ⟨S4x32x2x2048, .f32⟩
  | .hbm, ⟨21, _⟩ => ⟨S4x32x2x2048x1, .f32⟩
  | .hbm, ⟨22, _⟩ => ⟨S4x32x2x2048x2048, .f32⟩
  | .hbm, ⟨23, _⟩ => ⟨S4x32x2x2048x2048, .f32⟩
  | .hbm, ⟨24, _⟩ => ⟨S32x4x2x64x2048, .f32⟩
  | .hbm, ⟨25, _⟩ => ⟨S32x2048x4x2x64, .f32⟩
  | .hbm, ⟨26, _⟩ => ⟨S65536x512, .f32⟩
  | .hbm, ⟨27, _⟩ => ⟨S65536x512, .bf16⟩
  | _, _ => ⟨S4x65536x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Moe.lean ====
abbrev S65536x1024 : Shape := ⟨2, ![65536, 1024]⟩
abbrev S65536x128 : Shape := ⟨2, ![65536, 128]⟩
abbrev S32x1024x256 : Shape := ⟨3, ![32, 1024, 256]⟩
abbrev S32x256x1024 : Shape := ⟨3, ![32, 256, 1024]⟩
abbrev S1024 : Shape := ⟨1, ![1024]⟩
abbrev S32x1024x512 : Shape := ⟨3, ![32, 1024, 512]⟩
abbrev S1x1024 : Shape := ⟨2, ![1, 1024]⟩
abbrev S1024x1024 : Shape := ⟨2, ![1024, 1024]⟩
abbrev S1024x128 : Shape := ⟨2, ![1024, 128]⟩
abbrev S1x1024x512 : Shape := ⟨3, ![1, 1024, 512]⟩
abbrev S1x256x1024 : Shape := ⟨3, ![1, 256, 1024]⟩
abbrev S1024x512 : Shape := ⟨2, ![1024, 512]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S65536x1024, .bf16⟩
  | .hbm, ⟨1, _⟩ => ⟨S65536x128, .f32⟩
  | .hbm, ⟨2, _⟩ => ⟨S65536x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S32x1024x512, .f32⟩
  | .hbm, ⟨8, _⟩ => ⟨S32x1024x512, .bf16⟩
  | .hbm, ⟨9, _⟩ => ⟨S32x256x1024, .bf16⟩
  | .hbm, ⟨10, _⟩ => ⟨S1x1024, .f32⟩
  | .hbm, ⟨11, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1x1024x512, .bf16⟩
  | .local _ .vmem, ⟨7, _⟩ => ⟨S1x1024x512, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 32], ![false, false]⟩

def k0_cond2 (i : grid0.Coords) : BitVec 1 :=
  let arg1 : BitVec 32 := BitVec.ofNat 32 (i 1).val
  let c31_i32 : BitVec 32 := 31#32
  let v37 : BitVec 1 := Scalar.cmpi .eq arg1 c31_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MoeRefIdeal.lean ====
abbrev S65536x1024 : Shape := ⟨2, ![65536, 1024]⟩
abbrev S65536x128 : Shape := ⟨2, ![65536, 128]⟩
abbrev S32x1024x256 : Shape := ⟨3, ![32, 1024, 256]⟩
abbrev S32x256x1024 : Shape := ⟨3, ![32, 256, 1024]⟩
abbrev S1024 : Shape := ⟨1, ![1024]⟩
abbrev S65536x32x256 : Shape := ⟨3, ![65536, 32, 256]⟩
abbrev S_ : Shape := ⟨0, ![]⟩
abbrev S32x1024x65536 : Shape := ⟨3, ![32, 1024, 65536]⟩
abbrev S65536x32x1024 : Shape := ⟨3, ![65536, 32, 1024]⟩
abbrev S65536x32 : Shape := ⟨2, ![65536, 32]⟩
abbrev S65536x32x1 : Shape := ⟨3, ![65536, 32, 1]⟩
abbrev S65536 : Shape := ⟨1, ![65536]⟩
abbrev S65536x1 : Shape := ⟨2, ![65536, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x128, .f32⟩
  | .hbm, ⟨2, _⟩ => ⟨S65536x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S65536x1024, .f32⟩
  | .hbm, ⟨8, _⟩ => ⟨S65536x32x256, .f32⟩
  | .hbm, ⟨9, _⟩ => ⟨S65536x32x256, .f32⟩
  | .hbm, ⟨10, _⟩ => ⟨S65536x32x256, .f32⟩
  | .hbm, ⟨11, _⟩ => ⟨S65536x32x256, .f32⟩
  | .hbm, ⟨12, _⟩ => ⟨S_, .f32⟩
  | .hbm, ⟨13, _⟩ => ⟨S65536x32x256, .f32⟩
  | .hbm, ⟨14, _⟩ => ⟨S65536x32x256, .f32⟩
  | .hbm, ⟨15, _⟩ => ⟨S_, .f32⟩
  | .hbm, ⟨16, _⟩ => ⟨S65536x32x256, .f32⟩
  | .hbm, ⟨17, _⟩ => ⟨S65536x32x256, .f32⟩
  | .hbm, ⟨18, _⟩ => ⟨S65536x32x256, .f32⟩
  | .hbm, ⟨19, _⟩ => ⟨S65536x32x256, .f32⟩
  | .hbm, ⟨20, _⟩ => ⟨S32x1024x65536, .f32⟩
  | .hbm, ⟨21, _⟩ => ⟨S65536x32x1024, .f32⟩
  | .hbm, ⟨22, _⟩ => ⟨S65536x32, .f32⟩
  | .hbm, ⟨23, _⟩ => ⟨S65536x32x1, .f32⟩
  | .hbm, ⟨24, _⟩ => ⟨S65536x32x1024, .f32⟩
  | .hbm, ⟨25, _⟩ => ⟨S65536x32x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S65536x1024, .f32⟩
  | .hbm, ⟨44, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== ProjIn.lean ====
abbrev S65536x1024 : Shape := ⟨2, ![65536, 1024]⟩
abbrev S1024 : Shape := ⟨1, ![1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1024x32 : Shape := ⟨2, ![1024, 32]⟩
abbrev S_ : Shape := ⟨0, ![]⟩
abbrev S1024x64 : Shape := ⟨2, ![1024, 64]⟩
abbrev S1024x640 : Shape := ⟨2, ![1024, 640]⟩
abbrev S1024x512 : Shape := ⟨2, ![1024, 512]⟩
abbrev S1024x16 : Shape := ⟨2, ![1024, 16]⟩
abbrev S1024x1920 : Shape := ⟨2, ![1024, 1920]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x8x16 : Shape := ⟨3, ![384, 8, 16]⟩
abbrev S384x2048 : Shape := ⟨2, ![384, 2048]⟩
abbrev S256x8x128 : Shape := ⟨3, ![256, 8, 128]⟩
abbrev S256x8x64 : Shape := ⟨3, ![256, 8, 64]⟩
abbrev S256x512 : Shape := ⟨2, ![256, 512]⟩
abbrev S1x1024 : Shape := ⟨2, ![1, 1024]⟩
abbrev S1x384 : Shape := ⟨2, ![1, 384]⟩
abbrev S1x256 : Shape := ⟨2, ![1, 256]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S4x65536x256 : Shape := ⟨3, ![4, 65536, 256]⟩
abbrev S4x65536x128 : Shape := ⟨3, ![4, 65536, 128]⟩
abbrev S65536x512 : Shape := ⟨2, ![65536, 512]⟩
abbrev S512x1024 : Shape := ⟨2, ![512, 1024]⟩
abbrev S512x128 : Shape := ⟨2, ![512, 128]⟩
abbrev S4x512x256 : Shape := ⟨3, ![4, 512, 256]⟩
abbrev S4x512x128 : Shape := ⟨3, ![4, 512, 128]⟩
abbrev S512x512 : Shape := ⟨2, ![512, 512]⟩
abbrev S512 : Shape := ⟨1, ![512]⟩
abbrev S512x1 : Shape := ⟨2, ![512, 1]⟩
abbrev S512x1920 : Shape := ⟨2, ![512, 1920]⟩
abbrev S512x384 : Shape := ⟨2, ![512, 384]⟩
abbrev S512x2048 : Shape := ⟨2, ![512, 2048]⟩
abbrev S512x256 : Shape := ⟨2, ![512, 256]⟩
abbrev S1x512x256 : Shape := ⟨3, ![1, 512, 256]⟩
abbrev S1x512x128 : Shape := ⟨3, ![1, 512, 128]⟩

abbrev nBuf : Space → Nat
  | .hbm => 99
  | .vmem => 27
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1696, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S1024x32, .f32⟩
  | .hbm, ⟨8, _⟩ => ⟨S_, .f32⟩
  | .hbm, ⟨9, _⟩ => ⟨S1024x64, .f32⟩
  | .hbm, ⟨10, _⟩ => ⟨S_, .f32⟩
  | .hbm, ⟨11, _⟩ => ⟨S1024x32, .f32⟩
  | .hbm, ⟨12, _⟩ => ⟨S1024x640, .f32⟩
  | .hbm, ⟨13, _⟩ => ⟨S1024x512, .f32⟩
  | .hbm, ⟨14, _⟩ => ⟨S1024x512, .f32⟩
  | .hbm, ⟨15, _⟩ => ⟨S1024x16, .f32⟩
  | .hbm, ⟨16, _⟩ => ⟨S1024x16, .f32⟩
  | .hbm, ⟨17, _⟩ => ⟨S1024x16, .f32⟩
  | .hbm, ⟨18, _⟩ => ⟨S1024x32, .f32⟩
  | .hbm, ⟨19, _⟩ => ⟨S1024x1920, .f32⟩
  | .hbm, ⟨20, _⟩ => ⟨S384x8x96, .f32⟩
  | .hbm, ⟨21, _⟩ => ⟨S_, .f32⟩
  | .hbm, ⟨22, _⟩ => ⟨S384x8x32, .f32⟩
  | .hbm, ⟨23, _⟩ => ⟨S384x8x128, .f32⟩
  | .hbm, ⟨24, _⟩ => ⟨S384x1024, .f32⟩
  | .hbm, ⟨25, _⟩ => ⟨S_, .f32⟩
  | .hbm, ⟨26, _⟩ => ⟨S384x8x64, .f32⟩
  | .hbm, ⟨27, _⟩ => ⟨S384x8x32, .f32⟩
  | .hbm, ⟨28, _⟩ => ⟨S384x8x16, .f32⟩
  | .hbm, ⟨29, _⟩ => ⟨S384x8x16, .f32⟩
  | .hbm, ⟨30, _⟩ => ⟨S384x8x16, .f32⟩
  | .hbm, ⟨31, _⟩ => ⟨S384x8x32, .f32⟩
  | .hbm, ⟨32, _⟩ => ⟨S384x8x128, .f32⟩
  | .hbm, ⟨33, _⟩ => ⟨S384x1024, .f32⟩
  | .hbm, ⟨34, _⟩ => ⟨S384x2048, .f32⟩
  | .hbm, ⟨35, _⟩ => ⟨S256x8x128, .f32⟩
  | .hbm, ⟨36, _⟩ => ⟨S256x8x64, .f32⟩
  | .hbm, ⟨37, _⟩ => ⟨S_, .f32⟩
  | .hbm, ⟨38, _⟩ => ⟨S256x8x64, .f32⟩
  | .hbm, ⟨39, _⟩ => ⟨S256x8x128, .f32⟩
  | .hbm, ⟨40, _⟩ => ⟨S256x1024, .f32⟩
  | .hbm, ⟨41, _⟩ => ⟨S256x8x64, .f32⟩
  | .hbm, ⟨42, _⟩ => ⟨S256x512, .f32⟩
  | .hbm, ⟨43, _⟩ => ⟨S1x1024, .f32⟩
  | .hbm, ⟨44, _⟩ => ⟨S1024x1920, .bf16⟩
  | .hbm, ⟨45, _⟩ => ⟨S1x384, .f32⟩
  | .hbm, ⟨46, _⟩ => ⟨S384x2048, .bf16⟩
  | .hbm, ⟨47, _⟩ => ⟨S1x256, .f32⟩
  | .hbm, ⟨48, _⟩ => ⟨S256x1024, .bf16⟩
  | .hbm, ⟨49, _⟩ => ⟨S256x512, .bf16⟩
  | .hbm, ⟨50, _⟩ => ⟨S2048, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S2048x1, .f32⟩
  | .hbm, ⟨68, _⟩ => ⟨S1x16, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x32, .f32⟩
  | .hbm, ⟨75, _⟩ => ⟨S2048x16, .f32⟩
  | .hbm, ⟨76, _⟩ => ⟨S2048x16, .f32⟩
  | .hbm, ⟨77, _⟩ => ⟨S2048x32, .f32⟩
  | .hbm, ⟨78, _⟩ => ⟨S_, .f32⟩
  | .hbm, ⟨79, _⟩ => ⟨S2048x32, .f32⟩
  | .hbm, ⟨80, _⟩ => ⟨S_, .f32⟩
  | .hbm, ⟨81, _⟩ => ⟨S2048x64, .f32⟩
  | .hbm, ⟨82, _⟩ => ⟨S_, .f32⟩
  | .hbm, ⟨83, _⟩ => ⟨S2048x64, .f32⟩
  | .hbm, ⟨84, _⟩ => ⟨S2048x128, .f32⟩
  | .hbm, ⟨85, _⟩ => ⟨S_, .f32⟩
  | .hbm, ⟨86, _⟩ => ⟨S2048x128, .f32⟩
  | .hbm, ⟨87, _⟩ => ⟨S2048x128, .f32⟩
  | .hbm, ⟨88, _⟩ => ⟨S2048x128, .f32⟩
  | .hbm, ⟨89, _⟩ => ⟨S_, .f32⟩
  | .hbm, ⟨90, _⟩ => ⟨S2048x128, .f32⟩
  | .hbm, ⟨91, _⟩ => ⟨S2048x128, .f32⟩
  | .hbm, ⟨92, _⟩ => ⟨S2048x128, .f32⟩
  | .hbm, ⟨93, _⟩ => ⟨S2048x128, .f32⟩
  | .hbm, ⟨94, _⟩ => ⟨S4x65536x256, .bf16⟩
  | .hbm, ⟨95, _⟩ => ⟨S4x65536x256, .bf16⟩
  | .hbm, ⟨96, _⟩ => ⟨S4x65536x128, .bf16⟩
  | .hbm, ⟨97, _⟩ => ⟨S65536x512, .bf16⟩
  | .hbm, ⟨98, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S1x384, .f32⟩
  | .local _ .vmem, ⟨5, _⟩ => ⟨S384x2048, .bf16⟩
  | .local _ .vmem, ⟨6, _⟩ => ⟨S1x256, .f32⟩
  | .local _ .vmem, ⟨7, _⟩ => ⟨S256x1024, .bf16⟩
  | .local _ .vmem, ⟨8, _⟩ => ⟨S256x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S4x512x256, .bf16⟩
  | .local _ .vmem, ⟨18, _⟩ => ⟨S4x512x256, .bf16⟩
  | .local _ .vmem, ⟨19, _⟩ => ⟨S4x512x256, .bf16⟩
  | .local _ .vmem, ⟨20, _⟩ => ⟨S4x512x256, .bf16⟩
  | .local _ .vmem, ⟨21, _⟩ => ⟨S4x512x128, .bf16⟩
  | .local _ .vmem, ⟨22, _⟩ => ⟨S4x512x128, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72_0 : Ref sig .tc := ⟨.hbm, 94, rfl⟩
abbrev main_v72_1 : Ref sig .tc := ⟨.hbm, 95, rfl⟩
abbrev main_v72_2 : Ref sig .tc := ⟨.hbm, 96, rfl⟩
abbrev main_v72_3 : Ref sig .tc := ⟨.hbm, 97, rfl⟩
abbrev main_v72_4 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjInRefIdeal.lean ====
abbrev S65536x1024 : Shape := ⟨2, ![65536, 1024]⟩
abbrev S1024 : Shape := ⟨1, ![1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1696 : Shape := ⟨2, ![65536, 1696]⟩
abbrev S65536x384 : Shape := ⟨2, ![65536, 384]⟩
abbrev S65536x256 : Shape := ⟨2, ![65536, 256]⟩
abbrev S65536x32 : Shape := ⟨2, ![65536, 32]⟩
abbrev S65536x512 : Shape := ⟨2, ![65536, 512]⟩
abbrev S1x384 : Shape := ⟨2, ![1, 384]⟩
abbrev S65536x768 : Shape := ⟨2, ![65536, 768]⟩
abbrev S32x2048x8x96 : Shape := ⟨4, ![32, 2048, 8, 96]⟩
abbrev S1x256 : Shape := ⟨2, ![1, 256]⟩
abbrev S32x2048x8x128 : Shape := ⟨4, ![32, 2048, 8, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S32x2048x8x32 : Shape := ⟨4, ![32, 2048, 8, 32]⟩
abbrev S32x2048x8x16 : Shape := ⟨4, ![32, 2048, 8, 16]⟩
abbrev S32x2048x1x32 : Shape := ⟨4, ![32, 2048, 1, 32]⟩
abbrev S32x2048x1x16 : Shape := ⟨4, ![32, 2048, 1, 16]⟩
abbrev S32x2048x8x64 : Shape := ⟨4, ![32, 2048, 8, 64]⟩
abbrev S65536x4x128 : Shape := ⟨3, ![65536, 4, 128]⟩
abbrev S4x65536x128 : Shape := ⟨3, ![4, 65536, 128]⟩
abbrev S65536x4x256 : Shape := ⟨3, ![65536, 4, 256]⟩
abbrev S4x65536x256 : Shape := ⟨3, ![4, 65536, 256]⟩

abbrev nBuf : Space → Nat
  | .hbm => 145
  | .vmem => 0
  | .smem => 0
  | _ => 0

abbrev hbmTy0_0 (i : Nat) : BufTy := match i % 128 with
  | 0 => ⟨S65536x1024, .f32⟩
  | 1 => ⟨S1024, .f32⟩
  | 2 => ⟨S1024x1696, .f32⟩
  | 3 => ⟨S384, .f32⟩
  | 4 => ⟨S384x768, .f32⟩
  | 5 => ⟨S256, .f32⟩
  | 6 => ⟨S256x1024, .f32⟩
  | 7 => ⟨S65536x1024, .f32⟩
  | 8 => ⟨S_, .f32⟩
  | 9 => ⟨S65536, .f32⟩
  | 10 => ⟨S65536x1, .f32⟩
  | 11 => ⟨S_, .f32⟩
  | 12 => ⟨S65536x1, .f32⟩
  | 13 => ⟨S65536x1, .f32⟩
  | 14 => ⟨S_, .f32⟩
  | 15 => ⟨S65536x1, .f32⟩
  | 16 => ⟨S65536x1, .f32⟩
  | 17 => ⟨S65536x1, .f32⟩
  | 18 => ⟨S65536x1024, .f32⟩
  | 19 => ⟨S65536x1024, .f32⟩
  | 20 => ⟨S1x1024, .f32⟩
  | 21 => ⟨S65536x1024, .f32⟩
  | 22 => ⟨S65536x1024, .f32⟩
  | 23 => ⟨S65536x1696, .f32⟩
  | 24 => ⟨S65536x384, .f32⟩
  | 25 => ⟨S65536x256, .f32⟩
  | 26 => ⟨S65536x32, .f32⟩
  | 27 => ⟨S65536x512, .f32⟩
  | 28 => ⟨S65536x512, .f32⟩
  | 29 => ⟨S65536x384, .f32⟩
  | 30 => ⟨S_, .f32⟩
  | 31 => ⟨S65536, .f32⟩
  | 32 => ⟨S65536x1, .f32⟩
  | 33 => ⟨S_, .f32⟩
  | 34 => ⟨S65536x1, .f32⟩
  | 35 => ⟨S65536x1, .f32⟩
  | 36 => ⟨S_, .f32⟩
  | 37 => ⟨S65536x1, .f32⟩
  | 38 => ⟨S65536x1, .f32⟩
  | 39 => ⟨S65536x1, .f32⟩
  | 40 => ⟨S65536x384, .f32⟩
  | 41 => ⟨S65536x384, .f32⟩
  | 42 => ⟨S1x384, .f32⟩
  | 43 => ⟨S65536x384, .f32⟩
  | 44 => ⟨S65536x384, .f32⟩
  | 45 => ⟨S65536x768, .f32⟩
  | 46 => ⟨S32x2048x8x96, .f32⟩
  | 47 => ⟨S65536x256, .f32⟩
  | 48 => ⟨S_, .f32⟩
  | 49 => ⟨S65536, .f32⟩
  | 50 => ⟨S65536x1, .f32⟩
  | 51 => ⟨S_, .f32⟩
  | 52 => ⟨S65536x1, .f32⟩
  | 53 => ⟨S65536x1, .f32⟩
  | 54 => ⟨S_, .f32⟩
  | 55 => ⟨S65536x1, .f32⟩
  | 56 => ⟨S65536x1, .f32⟩
  | 57 => ⟨S65536x1, .f32⟩
  | 58 => ⟨S65536x256, .f32⟩
  | 59 => ⟨S65536x256, .f32⟩
  | 60 => ⟨S1x256, .f32⟩
  | 61 => ⟨S65536x256, .f32⟩
  | 62 => ⟨S65536x256, .f32⟩
  | 63 => ⟨S65536x1024, .f32⟩
  | 64 => ⟨S32x2048x8x128, .f32⟩
  | 65 => ⟨S2048, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S2048x1, .f32⟩
  | 83 => ⟨S1x16, .f32⟩
  | 84 => ⟨S2048x16, .f32⟩
  | 85 => ⟨S2048x16, .f32⟩
  | 86 => ⟨S2048x16, .f32⟩
  | 87 => ⟨S2048x16, .f32⟩
  | 88 => ⟨S1x2048x1x16, .f32⟩
  | 89 => ⟨S2048x16, .f32⟩
  | 90 => ⟨S1x2048x1x16, .f32⟩
  | 91 => ⟨S32x2048x8x32, .f32⟩
  | 92 => ⟨S32x2048x8x16, .f32⟩
  | 93 => ⟨S32x2048x8x16, .f32⟩
  | 94 => ⟨S32x2048x8x16, .f32⟩
  | 95 => ⟨S32x2048x8x16, .f32⟩
  | 96 => ⟨S32x2048x8x16, .f32⟩
  | 97 => ⟨S32x2048x8x16, .f32⟩
  | 98 => ⟨S32x2048x8x16, .f32⟩
  | 99 => ⟨S32x2048x8x16, .f32⟩
  | 100 => ⟨S32x2048x8x16, .f32⟩
  | 101 => ⟨S32x2048x8x16, .f32⟩
  | 102 => ⟨S32x2048x8x16, .f32⟩
  | 103 => ⟨S32x2048x8x16, .f32⟩
  | 104 => ⟨S32x2048x8x32, .f32⟩
  | 105 => ⟨S32x2048x1x32, .f32⟩
  | 106 => ⟨S32x2048x1x16, .f32⟩
  | 107 => ⟨S32x2048x1x16, .f32⟩
  | 108 => ⟨S32x2048x1x16, .f32⟩
  | 109 => ⟨S32x2048x1x16, .f32⟩
  | 110 => ⟨S32x2048x1x16, .f32⟩
  | 111 => ⟨S32x2048x1x16, .f32⟩
  | 112 => ⟨S32x2048x1x16, .f32⟩
  | 113 => ⟨S32x2048x1x16, .f32⟩
  | 114 => ⟨S32x2048x1x16, .f32⟩
  | 115 => ⟨S32x2048x1x16, .f32⟩
  | 116 => ⟨S32x2048x1x16, .f32⟩
  | 117 => ⟨S32x2048x1x16, .f32⟩
  | 118 => ⟨S32x2048x1x32, .f32⟩
  | 119 => ⟨S32x2048x8x64, .f32⟩
  | 120 => ⟨S32x2048x8x96, .f32⟩
  | 121 => ⟨S_, .f32⟩
  | 122 => ⟨S32x2048x8x96, .f32⟩
  | 123 => ⟨S32x2048x8x96, .f32⟩
  | 124 => ⟨S32x2048x8x64, .f32⟩
  | 125 => ⟨S32x2048x8x32, .f32⟩
  | 126 => ⟨S32x2048x8x96, .f32⟩
  | 127 => ⟨S32x2048x8x64, .f32⟩
  | _ => ⟨S65536x1024, .f32⟩

abbrev hbmTy0_1 (i : Nat) : BufTy := match i % 128 with
  | 0 => ⟨S65536x4x128, .f32⟩
  | 1 => ⟨S4x65536x128, .f32⟩
  | 2 => ⟨S_, .i32⟩
  | 3 => ⟨S_, .f32⟩
  | 4 => ⟨S32x2048x8x128, .f32⟩
  | 5 => ⟨S65536x4x256, .f32⟩
  | 6 => ⟨S4x65536x256, .f32⟩
  | 7 => ⟨S4x65536x256, .bf16⟩
  | 8 => ⟨S_, .i32⟩
  | 9 => ⟨S_, .f32⟩
  | 10 => ⟨S32x2048x8x128, .f32⟩
  | 11 => ⟨S65536x4x256, .f32⟩
  | 12 => ⟨S4x65536x256, .f32⟩
  | 13 => ⟨S4x65536x256, .bf16⟩
  | 14 => ⟨S4x65536x128, .bf16⟩
  | 15 => ⟨S65536x512, .bf16⟩
  | 16 => ⟨S65536x512, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_13 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_c : Ref sig .tc := ⟨.hbm, 130, rfl⟩
abbrev main_call0_v0 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_c_14 : Ref sig .tc := ⟨.hbm, 136, rfl⟩
abbrev main_call1_v0 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩

abbrev nD : Nat := 1
abbrev τ : Topo := Topo.v7x

variable {F : FTy → Type} [FloatOps F]
-- ==== AttnLong.lean ====
abbrev S4x65536x256 : Shape := ⟨3, ![4, 65536, 256]⟩
abbrev S4x65536x128 : Shape := ⟨3, ![4, 65536, 128]⟩
abbrev S65536x512 : Shape := ⟨2, ![65536, 512]⟩
abbrev S1x256x256 : Shape := ⟨3, ![1, 256, 256]⟩
abbrev S1x4096x256 : Shape := ⟨3, ![1, 4096, 256]⟩
abbrev S1x4096x128 : Shape := ⟨3, ![1, 4096, 128]⟩
abbrev S256x128 : Shape := ⟨2, ![256, 128]⟩
abbrev S4096x128 : Shape := ⟨2, ![4096, 128]⟩
abbrev S1x256x128 : Shape := ⟨3, ![1, 256, 128]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x65536x256, .bf16⟩
  | .hbm, ⟨1, _⟩ => ⟨S4x65536x256, .bf16⟩
  | .hbm, ⟨2, _⟩ => ⟨S4x65536x128, .bf16⟩
  | .hbm, ⟨3, _⟩ => ⟨S65536x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S256x128, .bf16⟩
  | .local _ .vmem, ⟨7, _⟩ => ⟨S256x128, .bf16⟩
  | _, _ => ⟨S4x65536x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnLongRefIdeal.lean ====
abbrev S4x65536x256 : Shape := ⟨3, ![4, 65536, 256]⟩
abbrev S4x65536x128 : Shape := ⟨3, ![4, 65536, 128]⟩
abbrev S4x16x4096x2x128 : Shape := ⟨5, ![4, 16, 4096, 2, 128]⟩
abbrev S4x16x4096x2x64 : Shape := ⟨5, ![4, 16, 4096, 2, 64]⟩
abbrev S4x16x2x4096x4096 : Shape := ⟨5, ![4, 16, 2, 4096, 4096]⟩
abbrev S_ : Shape := ⟨0, ![]⟩
abbrev S4x16x2x4096 : Shape := ⟨4, ![4, 16, 2, 4096]⟩
abbrev S4x16x2x4096x1 : Shape := ⟨5, ![4, 16, 2, 4096, 1]⟩
abbrev S16x4x2x64x4096 : Shape := ⟨5, ![16, 4, 2, 64, 4096]⟩
abbrev S16x4096x4x2x64 : Shape := ⟨5, ![16, 4096, 4, 2, 64]⟩
abbrev S65536x512 : Shape := ⟨2, ![65536, 512]⟩

abbrev nBuf : Space → Nat
  | .hbm => 28
  | .vmem => 0
  | .smem => 0
  | _ => 0

abbrev bufTy : (tb : Table) → Fin (tcTables nBuf tb) → BufTy
  | .hbm, ⟨0, _⟩ => ⟨S4x65536x256, .bf16⟩
  | .hbm, ⟨1, _⟩ => ⟨S4x65536x256, .bf16⟩
  | .hbm, ⟨2, _⟩ => ⟨S4x65536x128, .bf16⟩
  | .hbm, ⟨3, _⟩ => ⟨S4x65536x256, .f32⟩
  | .hbm, ⟨4, _⟩ => ⟨S4x16x4096x2x128, .f32⟩
  | .hbm, ⟨5, _⟩ => ⟨S4x65536x256, .f32⟩
  | .hbm, ⟨6, _⟩ => ⟨S4x16x4096x2x128, .f32⟩
  | .hbm, ⟨7, _⟩ => ⟨S4x65536x128, .f32⟩
  | .hbm, ⟨8, _⟩ => ⟨S4x16x4096x2x64, .f32⟩
  | .hbm, ⟨9, _⟩ => ⟨S4x16x2x4096x4096, .f32⟩
  | .hbm, ⟨10, _⟩ => ⟨S_, .f32⟩
  | .hbm, ⟨11, _⟩ => ⟨S4x16x2x4096, .f32⟩
  | .hbm, ⟨12, _⟩ => ⟨S_, .f32⟩
  | .hbm, ⟨13, _⟩ => ⟨S4x16x2x4096, .f32⟩
  | .hbm, ⟨14, _⟩ => ⟨S4x16x2x4096, .f32⟩
  | .hbm, ⟨15, _⟩ => ⟨S4x16x2x4096x1, .f32⟩
  | .hbm, ⟨16, _⟩ => ⟨S4x16x2x4096x4096, .f32⟩
  | .hbm, ⟨17, _⟩ => ⟨S4x16x2x4096x4096, .f32⟩
  | .hbm, ⟨18, _⟩ => ⟨S4x16x2x4096x4096, .f32⟩
  | .hbm, ⟨19, _⟩ => ⟨S_, .f32⟩
  | .hbm, ⟨20, _⟩ => ⟨S4x16x2x4096, .f32⟩
  | .hbm, ⟨21, _⟩ => ⟨S4x16x2x4096x1, .f32⟩
  | .hbm, ⟨22, _⟩ => ⟨S4x16x2x4096x4096, .f32⟩
  | .hbm, ⟨23, _⟩ => ⟨S4x16x2x4096x4096, .f32⟩
  | .hbm, ⟨24, _⟩ => ⟨S16x4x2x64x4096, .f32⟩
  | .hbm, ⟨25, _⟩ => ⟨S16x4096x4x2x64, .f32⟩
  | .hbm, ⟨26, _⟩ => ⟨S65536x512, .f32⟩
  | .hbm, ⟨27, _⟩ => ⟨S65536x512, .bf16⟩
  | _, _ => ⟨S4x65536x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== ProjInLong.lean ====
abbrev S65536x1024 : Shape := ⟨2, ![65536, 1024]⟩
abbrev S1024 : Shape := ⟨1, ![1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S1024x32 : Shape := ⟨2, ![1024, 32]⟩
abbrev S_ : Shape := ⟨0, ![]⟩
abbrev S1024x64 : Shape := ⟨2, ![1024, 64]⟩
abbrev S1024x640 : Shape := ⟨2, ![1024, 640]⟩
abbrev S1024x512 : Shape := ⟨2, ![1024, 512]⟩
abbrev S1024x16 : Shape := ⟨2, ![1024, 16]⟩
abbrev S1024x1920 : Shape := ⟨2, ![1024, 1920]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x8x16 : Shape := ⟨3, ![384, 8, 16]⟩
abbrev S384x2048 : Shape := ⟨2, ![384, 2048]⟩
abbrev S256x8x128 : Shape := ⟨3, ![256, 8, 128]⟩
abbrev S256x8x64 : Shape := ⟨3, ![256, 8, 64]⟩
abbrev S256x512 : Shape := ⟨2, ![256, 512]⟩
abbrev S1x1024 : Shape := ⟨2, ![1, 1024]⟩
abbrev S1x384 : Shape := ⟨2, ![1, 384]⟩
abbrev S1x256 : Shape := ⟨2, ![1, 256]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S4x65536x256 : Shape := ⟨3, ![4, 65536, 256]⟩
abbrev S4x65536x128 : Shape := ⟨3, ![4, 65536, 128]⟩
abbrev S65536x512 : Shape := ⟨2, ![65536, 512]⟩
abbrev S512x1024 : Shape := ⟨2, ![512, 1024]⟩
abbrev S512x128 : Shape := ⟨2, ![512, 128]⟩
abbrev S4x512x256 : Shape := ⟨3, ![4, 512, 256]⟩
abbrev S4x512x128 : Shape := ⟨3, ![4, 512, 128]⟩
abbrev S512x512 : Shape := ⟨2, ![512, 512]⟩
abbrev S512 : Shape := ⟨1, ![512]⟩
abbrev S512x1 : Shape := ⟨2, ![512, 1]⟩
abbrev S512x1920 : Shape := ⟨2, ![512, 1920]⟩
abbrev S512x384 : Shape := ⟨2, ![512, 384]⟩
abbrev S512x2048 : Shape := ⟨2, ![512, 2048]⟩
abbrev S512x256 : Shape := ⟨2, ![512, 256]⟩
abbrev S1x512x256 : Shape := ⟨3, ![1, 512, 256]⟩
abbrev S1x512x128 : Shape := ⟨3, ![1, 512, 128]⟩

abbrev nBuf : Space → Nat
  | .hbm => 99
  | .vmem => 27
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1696, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S1024x32, .f32⟩
  | .hbm, ⟨8, _⟩ => ⟨S_, .f32⟩
  | .hbm, ⟨9, _⟩ => ⟨S1024x64, .f32⟩
  | .hbm, ⟨10, _⟩ => ⟨S_, .f32⟩
  | .hbm, ⟨11, _⟩ => ⟨S1024x32, .f32⟩
  | .hbm, ⟨12, _⟩ => ⟨S1024x640, .f32⟩
  | .hbm, ⟨13, _⟩ => ⟨S1024x512, .f32⟩
  | .hbm, ⟨14, _⟩ => ⟨S1024x512, .f32⟩
  | .hbm, ⟨15, _⟩ => ⟨S1024x16, .f32⟩
  | .hbm, ⟨16, _⟩ => ⟨S1024x16, .f32⟩
  | .hbm, ⟨17, _⟩ => ⟨S1024x16, .f32⟩
  | .hbm, ⟨18, _⟩ => ⟨S1024x32, .f32⟩
  | .hbm, ⟨19, _⟩ => ⟨S1024x1920, .f32⟩
  | .hbm, ⟨20, _⟩ => ⟨S384x8x96, .f32⟩
  | .hbm, ⟨21, _⟩ => ⟨S_, .f32⟩
  | .hbm, ⟨22, _⟩ => ⟨S384x8x32, .f32⟩
  | .hbm, ⟨23, _⟩ => ⟨S384x8x128, .f32⟩
  | .hbm, ⟨24, _⟩ => ⟨S384x1024, .f32⟩
  | .hbm, ⟨25, _⟩ => ⟨S_, .f32⟩
  | .hbm, ⟨26, _⟩ => ⟨S384x8x64, .f32⟩
  | .hbm, ⟨27, _⟩ => ⟨S384x8x32, .f32⟩
  | .hbm, ⟨28, _⟩ => ⟨S384x8x16, .f32⟩
  | .hbm, ⟨29, _⟩ => ⟨S384x8x16, .f32⟩
  | .hbm, ⟨30, _⟩ => ⟨S384x8x16, .f32⟩
  | .hbm, ⟨31, _⟩ => ⟨S384x8x32, .f32⟩
  | .hbm, ⟨32, _⟩ => ⟨S384x8x128, .f32⟩
  | .hbm, ⟨33, _⟩ => ⟨S384x1024, .f32⟩
  | .hbm, ⟨34, _⟩ => ⟨S384x2048, .f32⟩
  | .hbm, ⟨35, _⟩ => ⟨S256x8x128, .f32⟩
  | .hbm, ⟨36, _⟩ => ⟨S256x8x64, .f32⟩
  | .hbm, ⟨37, _⟩ => ⟨S_, .f32⟩
  | .hbm, ⟨38, _⟩ => ⟨S256x8x64, .f32⟩
  | .hbm, ⟨39, _⟩ => ⟨S256x8x128, .f32⟩
  | .hbm, ⟨40, _⟩ => ⟨S256x1024, .f32⟩
  | .hbm, ⟨41, _⟩ => ⟨S256x8x64, .f32⟩
  | .hbm, ⟨42, _⟩ => ⟨S256x512, .f32⟩
  | .hbm, ⟨43, _⟩ => ⟨S1x1024, .f32⟩
  | .hbm, ⟨44, _⟩ => ⟨S1024x1920, .bf16⟩
  | .hbm, ⟨45, _⟩ => ⟨S1x384, .f32⟩
  | .hbm, ⟨46, _⟩ => ⟨S384x2048, .bf16⟩
  | .hbm, ⟨47, _⟩ => ⟨S1x256, .f32⟩
  | .hbm, ⟨48, _⟩ => ⟨S256x1024, .bf16⟩
  | .hbm, ⟨49, _⟩ => ⟨S256x512, .bf16⟩
  | .hbm, ⟨50, _⟩ => ⟨S4096, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S4096x1, .f32⟩
  | .hbm, ⟨68, _⟩ => ⟨S1x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x16, .f32⟩
  | .hbm, ⟨73, _⟩ => ⟨S4096x16, .f32⟩
  | .hbm, ⟨74, _⟩ => ⟨S4096x32, .f32⟩
  | .hbm, ⟨75, _⟩ => ⟨S4096x16, .f32⟩
  | .hbm, ⟨76, _⟩ => ⟨S4096x16, .f32⟩
  | .hbm, ⟨77, _⟩ => ⟨S4096x32, .f32⟩
  | .hbm, ⟨78, _⟩ => ⟨S_, .f32⟩
  | .hbm, ⟨79, _⟩ => ⟨S4096x32, .f32⟩
  | .hbm, ⟨80, _⟩ => ⟨S_, .f32⟩
  | .hbm, ⟨81, _⟩ => ⟨S4096x64, .f32⟩
  | .hbm, ⟨82, _⟩ => ⟨S_, .f32⟩
  | .hbm, ⟨83, _⟩ => ⟨S4096x64, .f32⟩
  | .hbm, ⟨84, _⟩ => ⟨S4096x128, .f32⟩
  | .hbm, ⟨85, _⟩ => ⟨S_, .f32⟩
  | .hbm, ⟨86, _⟩ => ⟨S4096x128, .f32⟩
  | .hbm, ⟨87, _⟩ => ⟨S4096x128, .f32⟩
  | .hbm, ⟨88, _⟩ => ⟨S4096x128, .f32⟩
  | .hbm, ⟨89, _⟩ => ⟨S_, .f32⟩
  | .hbm, ⟨90, _⟩ => ⟨S4096x128, .f32⟩
  | .hbm, ⟨91, _⟩ => ⟨S4096x128, .f32⟩
  | .hbm, ⟨92, _⟩ => ⟨S4096x128, .f32⟩
  | .hbm, ⟨93, _⟩ => ⟨S4096x128, .f32⟩
  | .hbm, ⟨94, _⟩ => ⟨S4x65536x256, .bf16⟩
  | .hbm, ⟨95, _⟩ => ⟨S4x65536x256, .bf16⟩
  | .hbm, ⟨96, _⟩ => ⟨S4x65536x128, .bf16⟩
  | .hbm, ⟨97, _⟩ => ⟨S65536x512, .bf16⟩
  | .hbm, ⟨98, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S1x384, .f32⟩
  | .local _ .vmem, ⟨5, _⟩ => ⟨S384x2048, .bf16⟩
  | .local _ .vmem, ⟨6, _⟩ => ⟨S1x256, .f32⟩
  | .local _ .vmem, ⟨7, _⟩ => ⟨S256x1024, .bf16⟩
  | .local _ .vmem, ⟨8, _⟩ => ⟨S256x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S4x512x256, .bf16⟩
  | .local _ .vmem, ⟨18, _⟩ => ⟨S4x512x256, .bf16⟩
  | .local _ .vmem, ⟨19, _⟩ => ⟨S4x512x256, .bf16⟩
  | .local _ .vmem, ⟨20, _⟩ => ⟨S4x512x256, .bf16⟩
  | .local _ .vmem, ⟨21, _⟩ => ⟨S4x512x128, .bf16⟩
  | .local _ .vmem, ⟨22, _⟩ => ⟨S4x512x128, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72_0 : Ref sig .tc := ⟨.hbm, 94, rfl⟩
abbrev main_v72_1 : Ref sig .tc := ⟨.hbm, 95, rfl⟩
abbrev main_v72_2 : Ref sig .tc := ⟨.hbm, 96, rfl⟩
abbrev main_v72_3 : Ref sig .tc := ⟨.hbm, 97, rfl⟩
abbrev main_v72_4 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjInLongRefIdeal.lean ====
abbrev S65536x1024 : Shape := ⟨2, ![65536, 1024]⟩
abbrev S1024 : Shape := ⟨1, ![1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1696 : Shape := ⟨2, ![65536, 1696]⟩
abbrev S65536x384 : Shape := ⟨2, ![65536, 384]⟩
abbrev S65536x256 : Shape := ⟨2, ![65536, 256]⟩
abbrev S65536x32 : Shape := ⟨2, ![65536, 32]⟩
abbrev S65536x512 : Shape := ⟨2, ![65536, 512]⟩
abbrev S1x384 : Shape := ⟨2, ![1, 384]⟩
abbrev S65536x768 : Shape := ⟨2, ![65536, 768]⟩
abbrev S16x4096x8x96 : Shape := ⟨4, ![16, 4096, 8, 96]⟩
abbrev S1x256 : Shape := ⟨2, ![1, 256]⟩
abbrev S16x4096x8x128 : Shape := ⟨4, ![16, 4096, 8, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S16x4096x8x32 : Shape := ⟨4, ![16, 4096, 8, 32]⟩
abbrev S16x4096x8x16 : Shape := ⟨4, ![16, 4096, 8, 16]⟩
abbrev S16x4096x1x32 : Shape := ⟨4, ![16, 4096, 1, 32]⟩
abbrev S16x4096x1x16 : Shape := ⟨4, ![16, 4096, 1, 16]⟩
abbrev S16x4096x8x64 : Shape := ⟨4, ![16, 4096, 8, 64]⟩
abbrev S65536x4x128 : Shape := ⟨3, ![65536, 4, 128]⟩
abbrev S4x65536x128 : Shape := ⟨3, ![4, 65536, 128]⟩
abbrev S65536x4x256 : Shape := ⟨3, ![65536, 4, 256]⟩
abbrev S4x65536x256 : Shape := ⟨3, ![4, 65536, 256]⟩

abbrev nBuf : Space → Nat
  | .hbm => 145
  | .vmem => 0
  | .smem => 0
  | _ => 0

abbrev hbmTy0_0 (i : Nat) : BufTy := match i % 128 with
  | 0 => ⟨S65536x1024, .f32⟩
  | 1 => ⟨S1024, .f32⟩
  | 2 => ⟨S1024x1696, .f32⟩
  | 3 => ⟨S384, .f32⟩
  | 4 => ⟨S384x768, .f32⟩
  | 5 => ⟨S256, .f32⟩
  | 6 => ⟨S256x1024, .f32⟩
  | 7 => ⟨S65536x1024, .f32⟩
  | 8 => ⟨S_, .f32⟩
  | 9 => ⟨S65536, .f32⟩
  | 10 => ⟨S65536x1, .f32⟩
  | 11 => ⟨S_, .f32⟩
  | 12 => ⟨S65536x1, .f32⟩
  | 13 => ⟨S65536x1, .f32⟩
  | 14 => ⟨S_, .f32⟩
  | 15 => ⟨S65536x1, .f32⟩
  | 16 => ⟨S65536x1, .f32⟩
  | 17 => ⟨S65536x1, .f32⟩
  | 18 => ⟨S65536x1024, .f32⟩
  | 19 => ⟨S65536x1024, .f32⟩
  | 20 => ⟨S1x1024, .f32⟩
  | 21 => ⟨S65536x1024, .f32⟩
  | 22 => ⟨S65536x1024, .f32⟩
  | 23 => ⟨S65536x1696, .f32⟩
  | 24 => ⟨S65536x384, .f32⟩
  | 25 => ⟨S65536x256, .f32⟩
  | 26 => ⟨S65536x32, .f32⟩
  | 27 => ⟨S65536x512, .f32⟩
  | 28 => ⟨S65536x512, .f32⟩
  | 29 => ⟨S65536x384, .f32⟩
  | 30 => ⟨S_, .f32⟩
  | 31 => ⟨S65536, .f32⟩
  | 32 => ⟨S65536x1, .f32⟩
  | 33 => ⟨S_, .f32⟩
  | 34 => ⟨S65536x1, .f32⟩
  | 35 => ⟨S65536x1, .f32⟩
  | 36 => ⟨S_, .f32⟩
  | 37 => ⟨S65536x1, .f32⟩
  | 38 => ⟨S65536x1, .f32⟩
  | 39 => ⟨S65536x1, .f32⟩
  | 40 => ⟨S65536x384, .f32⟩
  | 41 => ⟨S65536x384, .f32⟩
  | 42 => ⟨S1x384, .f32⟩
  | 43 => ⟨S65536x384, .f32⟩
  | 44 => ⟨S65536x384, .f32⟩
  | 45 => ⟨S65536x768, .f32⟩
  | 46 => ⟨S16x4096x8x96, .f32⟩
  | 47 => ⟨S65536x256, .f32⟩
  | 48 => ⟨S_, .f32⟩
  | 49 => ⟨S65536, .f32⟩
  | 50 => ⟨S65536x1, .f32⟩
  | 51 => ⟨S_, .f32⟩
  | 52 => ⟨S65536x1, .f32⟩
  | 53 => ⟨S65536x1, .f32⟩
  | 54 => ⟨S_, .f32⟩
  | 55 => ⟨S65536x1, .f32⟩
  | 56 => ⟨S65536x1, .f32⟩
  | 57 => ⟨S65536x1, .f32⟩
  | 58 => ⟨S65536x256, .f32⟩
  | 59 => ⟨S65536x256, .f32⟩
  | 60 => ⟨S1x256, .f32⟩
  | 61 => ⟨S65536x256, .f32⟩
  | 62 => ⟨S65536x256, .f32⟩
  | 63 => ⟨S65536x1024, .f32⟩
  | 64 => ⟨S16x4096x8x128, .f32⟩
  | 65 => ⟨S4096, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S4096x1, .f32⟩
  | 83 => ⟨S1x16, .f32⟩
  | 84 => ⟨S4096x16, .f32⟩
  | 85 => ⟨S4096x16, .f32⟩
  | 86 => ⟨S4096x16, .f32⟩
  | 87 => ⟨S4096x16, .f32⟩
  | 88 => ⟨S1x4096x1x16, .f32⟩
  | 89 => ⟨S4096x16, .f32⟩
  | 90 => ⟨S1x4096x1x16, .f32⟩
  | 91 => ⟨S16x4096x8x32, .f32⟩
  | 92 => ⟨S16x4096x8x16, .f32⟩
  | 93 => ⟨S16x4096x8x16, .f32⟩
  | 94 => ⟨S16x4096x8x16, .f32⟩
  | 95 => ⟨S16x4096x8x16, .f32⟩
  | 96 => ⟨S16x4096x8x16, .f32⟩
  | 97 => ⟨S16x4096x8x16, .f32⟩
  | 98 => ⟨S16x4096x8x16, .f32⟩
  | 99 => ⟨S16x4096x8x16, .f32⟩
  | 100 => ⟨S16x4096x8x16, .f32⟩
  | 101 => ⟨S16x4096x8x16, .f32⟩
  | 102 => ⟨S16x4096x8x16, .f32⟩
  | 103 => ⟨S16x4096x8x16, .f32⟩
  | 104 => ⟨S16x4096x8x32, .f32⟩
  | 105 => ⟨S16x4096x1x32, .f32⟩
  | 106 => ⟨S16x4096x1x16, .f32⟩
  | 107 => ⟨S16x4096x1x16, .f32⟩
  | 108 => ⟨S16x4096x1x16, .f32⟩
  | 109 => ⟨S16x4096x1x16, .f32⟩
  | 110 => ⟨S16x4096x1x16, .f32⟩
  | 111 => ⟨S16x4096x1x16, .f32⟩
  | 112 => ⟨S16x4096x1x16, .f32⟩
  | 113 => ⟨S16x4096x1x16, .f32⟩
  | 114 => ⟨S16x4096x1x16, .f32⟩
  | 115 => ⟨S16x4096x1x16, .f32⟩
  | 116 => ⟨S16x4096x1x16, .f32⟩
  | 117 => ⟨S16x4096x1x16, .f32⟩
  | 118 => ⟨S16x4096x1x32, .f32⟩
  | 119 => ⟨S16x4096x8x64, .f32⟩
  | 120 => ⟨S16x4096x8x96, .f32⟩
  | 121 => ⟨S_, .f32⟩
  | 122 => ⟨S16x4096x8x96, .f32⟩
  | 123 => ⟨S16x4096x8x96, .f32⟩
  | 124 => ⟨S16x4096x8x64, .f32⟩
  | 125 => ⟨S16x4096x8x32, .f32⟩
  | 126 => ⟨S16x4096x8x96, .f32⟩
  | 127 => ⟨S16x4096x8x64, .f32⟩
  | _ => ⟨S65536x1024, .f32⟩

abbrev hbmTy0_1 (i : Nat) : BufTy := match i % 128 with
  | 0 => ⟨S65536x4x128, .f32⟩
  | 1 => ⟨S4x65536x128, .f32⟩
  | 2 => ⟨S_, .i32⟩
  | 3 => ⟨S_, .f32⟩
  | 4 => ⟨S16x4096x8x128, .f32⟩
  | 5 => ⟨S65536x4x256, .f32⟩
  | 6 => ⟨S4x65536x256, .f32⟩
  | 7 => ⟨S4x65536x256, .bf16⟩
  | 8 => ⟨S_, .i32⟩
  | 9 => ⟨S_, .f32⟩
  | 10 => ⟨S16x4096x8x128, .f32⟩
  | 11 => ⟨S65536x4x256, .f32⟩
  | 12 => ⟨S4x65536x256, .f32⟩
  | 13 => ⟨S4x65536x256, .bf16⟩
  | 14 => ⟨S4x65536x128, .bf16⟩
  | 15 => ⟨S65536x512, .bf16⟩
  | 16 => ⟨S65536x512, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_13 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_c : Ref sig .tc := ⟨.hbm, 130, rfl⟩
abbrev main_call0_v0 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_c_14 : Ref sig .tc := ⟨.hbm, 136, rfl⟩
abbrev main_call1_v0 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩

abbrev nD : Nat := 1
abbrev τ : Topo := Topo.v7x

variable {F : FTy → Type} [FloatOps F]
-- ==== Post.lean ====
abbrev S65536x1024 : Shape := ⟨2, ![65536, 1024]⟩
abbrev S65536x512 : Shape := ⟨2, ![65536, 512]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x512 : Shape := ⟨2, ![1, 512]⟩
abbrev S1x1024 : Shape := ⟨2, ![1, 1024]⟩
abbrev S1024x256 : Shape := ⟨2, ![1024, 256]⟩
abbrev S65536x128 : Shape := ⟨2, ![65536, 128]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S512x256 : Shape := ⟨2, ![512, 256]⟩

abbrev nBuf : Space → Nat
  | .hbm => 28
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x32, .f32⟩
  | .hbm, ⟨9, _⟩ => ⟨S32, .f32⟩
  | .hbm, ⟨10, _⟩ => ⟨S_, .f32⟩
  | .hbm, ⟨11, _⟩ => ⟨S1024x92, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S_, .f32⟩
  | .hbm, ⟨18, _⟩ => ⟨S92, .f32⟩
  | .hbm, ⟨19, _⟩ => ⟨S128, .f32⟩
  | .hbm, ⟨20, _⟩ => ⟨S1x128, .f32⟩
  | .hbm, ⟨21, _⟩ => ⟨S1x512, .f32⟩
  | .hbm, ⟨22, _⟩ => ⟨S1024x1024, .bf16⟩
  | .hbm, ⟨23, _⟩ => ⟨S1x1024, .f32⟩
  | .hbm, ⟨24, _⟩ => ⟨S1024x256, .bf16⟩
  | .hbm, ⟨25, _⟩ => ⟨S65536x1024, .f32⟩
  | .hbm, ⟨26, _⟩ => ⟨S65536x1024, .bf16⟩
  | .hbm, ⟨27, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1024x1024, .bf16⟩
  | .local _ .vmem, ⟨8, _⟩ => ⟨S1x1024, .f32⟩
  | .local _ .vmem, ⟨9, _⟩ => ⟨S1024x256, .bf16⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x128, .f32⟩
  | .local _ .vmem, ⟨16, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PostRefIdeal.lean ====
abbrev S65536x1024 : Shape := ⟨2, ![65536, 1024]⟩
abbrev S65536x512 : Shape := ⟨2, ![65536, 512]⟩
abbrev S512 : Shape := ⟨1, ![512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x32, .f32⟩
  | .hbm, ⟨9, _⟩ => ⟨S32, .f32⟩
  | .hbm, ⟨10, _⟩ => ⟨S65536x512, .f32⟩
  | .hbm, ⟨11, _⟩ => ⟨S65536x512, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x512, .f32⟩
  | .hbm, ⟨23, _⟩ => ⟨S65536x512, .f32⟩
  | .hbm, ⟨24, _⟩ => ⟨S1x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1, .f32⟩
  | .hbm, ⟨42, _⟩ => ⟨S65536x1024, .f32⟩
  | .hbm, ⟨43, _⟩ => ⟨S65536x1024, .f32⟩
  | .hbm, ⟨44, _⟩ => ⟨S1x1024, .f32⟩
  | .hbm, ⟨45, _⟩ => ⟨S65536x1024, .f32⟩
  | .hbm, ⟨46, _⟩ => ⟨S65536x1024, .f32⟩
  | .hbm, ⟨47, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.AttnPre.lean ====
module

public import proofs.«01_k».proof.Defs
public import Idealize.ShloMosaic.Lib.Pipeline.ValueKit
public import Idealize.ShloMosaic.Lib.WordCmp

/-! # What the precondition of the attention claim says -/

@[expose] public section

set_option maxRecDepth 16384

noncomputable section

namespace Cert.AttnPre

open Idealize.ShloMosaic Idealize.SL.Sem
open Cert.Pre_finite_qk

/-- The shape facts the predicate takes. -/
theorem facts : Facts where
  bitsLt_bf16_f32 := by decide
  bcast_S_S4x65536x256 := by decide

/-- A number whose absolute value lies below the infinite word is real. -/
theorem real_of_abs (x : EReal) (h : max x (-x) < Ideal.ofBits .f32 0x7F800000#32) : x ≠ ⊥ ∧ x ≠ ⊤ := by
  constructor <;> rintro rfl <;> simp [Ideal.ofBits, Ideal.ieee] at h

/-- Every query and every key entry is real. -/
theorem real [Facts] (q k : FVec Ideal S4x65536x256 .bf16) (v : FVec Ideal S4x65536x128 .bf16)
    (h : fn (F := Ideal) q k v = fun _ => 1#1) (i : S4x65536x256.Idx) :
    ((show EReal from q i) ≠ ⊥ ∧ (show EReal from q i) ≠ ⊤) ∧ ((show EReal from k i) ≠ ⊥ ∧ (show EReal from k i) ≠ ⊤) := by
  obtain ⟨a, b, c, rfl⟩ : ∃ (a : Fin 4) (b : Fin 65536) (c : Fin 256), i = ix3 a b c :=
    ⟨i 0, i 1, i 2, by ext a; fin_cases a <;> rfl⟩
  have e : fn (F := Ideal) q k v (ix3 a b c) = 1#1 := congrFun h (ix3 a b c)
  revert e
  pointwise [fn]
  intro e
  rw [WordCmp.andi_ofBool, WordCmp.ofBool_eq_one_iff, Bool.and_eq_true, decide_eq_true_iff, decide_eq_true_iff] at e
  exact ⟨real_of_abs _ e.1, real_of_abs _ e.2⟩

end Cert.AttnPre

end
-- ==== Proof.Softmax.lean ====
module

public import Idealize.ShloMosaic.Lib.Pointwise

/-! # Softmax weights over the extended reals

`late` divides the weighted sum by the sum of the weights once; `early` divides every weight first. When
every score is a real number the two agree, whatever the values are. -/

@[expose] public section

noncomputable section

namespace Cert.Softmax

open Idealize.ShloMosaic

variable {n : ℕ}

/-- The largest score, with the printed starting value `-∞`. -/
def top (s : Fin n → EReal) : EReal := Finset.fold max (Ideal.ofBits .f32 0xFF800000#32) s Finset.univ

/-- The weighted sum, divided by the sum of the weights at the end. -/
def late (s v : Fin n → EReal) : EReal :=
  Ideal.div (∑ k, Ideal.exp (s k - top s) * v k) (∑ k, Ideal.exp (s k - top s))

/-- The largest score, compared with `-∞` once more. -/
def top2 (s : Fin n → EReal) : EReal := max (Ideal.ofBits .f32 0xFF800000#32) (top s)

/-- The sum of the values, each times its softmax weight. -/
def early (s v : Fin n → EReal) : EReal :=
  ∑ k, v k * Ideal.div (Ideal.exp (s k - top2 s)) (∑ k, Ideal.exp (s k - top2 s))

theorem negInf : Ideal.ofBits .f32 0xFF800000#32 = (⊥ : EReal) := by
  simp [Ideal.ofBits, Ideal.ieee]

theorem top2_eq (s : Fin n → EReal) : top2 s = top s := by
  rw [top2, negInf]; exact max_bot_left _

/-- A nonnegative real factor goes into a finite sum. -/
theorem sum_mul_real {ι : Type*} (t : Finset ι) (f : ι → EReal) (c : EReal) (h0 : 0 ≤ c) (h1 : c ≠ ⊤) :
    (∑ k ∈ t, f k) * c = ∑ k ∈ t, f k * c := by
  classical
  induction t using Finset.induction_on with
  | empty => simp
  | insert a t ha ih =>
    rw [Finset.sum_insert ha, Finset.sum_insert ha, EReal.right_distrib_of_nonneg_of_ne_top h0 h1, ih]

/-- A finite sum of reals, taken among the extended reals. -/
theorem sum_coe {ι : Type*} (t : Finset ι) (f : ι → ℝ) : ∑ k ∈ t, ((f k : ℝ) : EReal) = ((∑ k ∈ t, f k : ℝ) : EReal) := by
  classical
  induction t using Finset.induction_on with
  | empty => simp
  | insert a t ha ih => rw [Finset.sum_insert ha, Finset.sum_insert ha, EReal.coe_add, ih]

/-- The largest of a nonempty family of reals is a real. -/
theorem top_real (s : Fin n → EReal) (hn : 0 < n) (hs : ∀ k, s k ≠ ⊥ ∧ s k ≠ ⊤) : top s ≠ ⊥ ∧ top s ≠ ⊤ := by
  constructor
  · have h : s ⟨0, hn⟩ ≤ top s := by
      rw [top, Finset.le_fold_max]
      exact .inr ⟨⟨0, hn⟩, Finset.mem_univ _, le_rfl⟩
    intro h'
    rw [h', le_bot_iff] at h
    exact (hs _).1 h
  · have h : top s < ⊤ := by
      rw [top, Finset.fold_max_lt]
      exact ⟨by rw [negInf]; exact bot_lt_top, fun k _ => lt_top_iff_ne_top.mpr (hs k).2⟩
    exact h.ne

/-- Every weight is a positive real. -/
theorem weight_real (s : Fin n → EReal) (hn : 0 < n) (hs : ∀ k, s k ≠ ⊥ ∧ s k ≠ ⊤) (k : Fin n) :
    ∃ r : ℝ, 0 < r ∧ Ideal.exp (s k - top s) = (r : EReal) := by
  obtain ⟨h1, h2⟩ := top_real s hn hs
  obtain ⟨h3, h4⟩ := hs k
  rw [← EReal.coe_toReal h2 h1, ← EReal.coe_toReal h4 h3, ← EReal.coe_sub, Ideal.exp_coe]
  exact ⟨_, Real.exp_pos _, rfl⟩

/-- Dividing at the end or dividing every weight: the same, for real scores. -/
theorem late_eq_early (s v : Fin n → EReal) (hn : 0 < n) (hs : ∀ k, s k ≠ ⊥ ∧ s k ≠ ⊤) : late s v = early s v := by
  choose p hp he using weight_real s hn hs
  rw [late, early, top2_eq]
  have hsum : ∑ k, Ideal.exp (s k - top s) = ((∑ k, p k : ℝ) : EReal) := by
    rw [Finset.sum_congr rfl fun k _ => he k]
    exact sum_coe _ p
  have hpos : 0 < ∑ k, p k :=
    Finset.sum_pos (fun k _ => hp k) ⟨⟨0, hn⟩, Finset.mem_univ _⟩
  have hne : ((∑ k, p k : ℝ) : EReal) ≠ 0 := by exact_mod_cast hpos.ne'
  rw [hsum, Ideal.div, if_neg hne, ← EReal.coe_inv,
    sum_mul_real _ _ _ (EReal.coe_nonneg.mpr (inv_nonneg.mpr hpos.le)) (EReal.coe_ne_top _)]
  refine Finset.sum_congr rfl fun k _ => ?_
  rw [Ideal.div, if_neg hne, ← EReal.coe_inv, mul_comm (Ideal.exp _) (v k), mul_assoc]

/-- A sum of products of reals is a real. -/
theorem dot_real {m : ℕ} (a b : Fin m → EReal) (ha : ∀ d, a d ≠ ⊥ ∧ a d ≠ ⊤) (hb : ∀ d, b d ≠ ⊥ ∧ b d ≠ ⊤) :
    ∑ d, a d * b d ≠ ⊥ ∧ ∑ d, a d * b d ≠ ⊤ := by
  have h : ∑ d, a d * b d = ((∑ d, (a d).toReal * (b d).toReal : ℝ) : EReal) := by
    refine Eq.trans (Finset.sum_congr rfl fun d _ => ?_) (sum_coe _ fun d => (a d).toReal * (b d).toReal)
    rw [EReal.coe_mul, EReal.coe_toReal (ha d).2 (ha d).1, EReal.coe_toReal (hb d).2 (hb d).1]
  rw [h]
  exact ⟨EReal.coe_ne_bot _, EReal.coe_ne_top _⟩

end Cert.Softmax

end
-- ==== Proof.AttnBlock.lean ====
module

public import proofs.«01_k».proof.Proof.Gen.AttnIdeal.Skeleton
public import proofs.«01_k».proof.Proof.Softmax
public import Idealize.ShloMosaic.Lib.WordCmp

/-! # One block of the attention kernel, entry by entry -/

@[expose] public section

set_option maxRecDepth 16384

noncomputable section

namespace Cert.AttnBlock

open Idealize.ShloMosaic Idealize.ShloMosaic.TcCoe Idealize.SL.Sem
open Cert.AttnIdeal Cert.AttnIdeal.Gen

/-- The first head of the pair. -/
theorem head0 (v : Vec Ideal S1x2048x128 .bf16) (q : Vec Ideal S1x256x128 .bf16) (k : Vec Ideal S1x2048x128 .bf16)
    (r : Fin 256) (l : Fin 128) :
    k0_pay3 (F := Ideal) v q k (ix2 r l)
      = Softmax.late (fun x => ∑ d : Fin 128, q (ix3 0 r d) * k (ix3 0 x d)) (fun x => v (ix3 0 x l)) := by
  pointwise [k0_pay3, k0_pay2, Softmax.late, Softmax.top]

/-- The second head of the pair. -/
theorem head1 (v : Vec Ideal S1x2048x128 .bf16) (q : Vec Ideal S1x256x128 .bf16) (k : Vec Ideal S1x2048x128 .bf16)
    (r : Fin 256) (l : Fin 128) :
    k0_pay4 (F := Ideal) v q k (ix2 r l)
      = Softmax.late (fun x => ∑ d : Fin 128, q (ix3 0 r d) * k (ix3 0 x d)) (fun x => v (ix3 0 x l)) := by
  pointwise [k0_pay4, k0_pay2, Softmax.late, Softmax.top]

/-- The lanes below 64 are the first head's, the others the second's. -/
theorem lanes (a b : FVec Ideal S256x128 .f32) (r : Fin 256) (l : Fin 128) :
    k0_pay1 (F := Ideal) a b (ix2 r l) = if l.val < 64 then a (ix2 r l) else b (ix2 r l) := by
  pointwise [k0_pay1]
  rw [WordCmp.cmpi_slt_ofNat (by omega) (by decide)]
  by_cases h : l.val < 64 <;> simp [h, Scalar.select]

end Cert.AttnBlock

end
-- ==== Proof.AttnRefRead.lean ====
module

public import proofs.«01_k».proof.Proof.Gen.AttnRefIdeal.Read
public import proofs.«01_k».proof.Proof.Softmax

/-! # The attention reference, entry by entry -/

@[expose] public section

set_option maxRecDepth 16384

noncomputable section

namespace Cert.AttnRefRead

open Idealize.ShloMosaic Idealize.ShloMosaic.TcCoe Idealize.SL.Sem
open Cert.AttnRefIdeal Cert.AttnRefIdeal.Read

variable (q k : (⟨S4x65536x256, .bf16⟩ : BufTy).Contents (Elt Ideal)) (v : (⟨S4x65536x128, .bf16⟩ : BufTy).Contents (Elt Ideal))

/-- The score of one query and one key of one head. -/
theorem score (p : Fin 4) (b : Fin 32) (h : Fin 2) (r x : Fin 2048) :
    val_main_v6 (F := Ideal) q k (ix5 p b h r x)
      = ∑ d : Fin 128, q (ix3 p ⟨b.val * 2048 + r.val, by omega⟩ ⟨h.val * 128 + d.val, by omega⟩)
          * k (ix3 p ⟨b.val * 2048 + x.val, by omega⟩ ⟨h.val * 128 + d.val, by omega⟩) := by
  pointwise [val_main_v6, val_main_v3, val_main_v2, val_main_v1, val_main_v0]

/-- A maximum over the last of five axes, from a starting value. -/
theorem lastMax {n0 n1 n2 n3 n4 : ℕ} (s : FVec Ideal ⟨5, ![n0, n1, n2, n3, n4]⟩ .f32) (z : FVec Ideal ⟨0, ![]⟩ .f32)
    (h : (⟨5, ![n0, n1, n2, n3, n4]⟩ : Shape).ReducesTo [4] ⟨4, ![n0, n1, n2, n3]⟩) (hu : 0 < (⟨0, ![]⟩ : Shape).numel)
    (p : Fin n0) (b : Fin n1) (c : Fin n2) (r : Fin n3) :
    Host.reduce FloatOps.maximumf s z h hu (ix4 p b c r)
      = Finset.univ.fold max (z (Shape.Idx.first hu)) fun k : Fin n4 => s (ix5 p b c r k) := by
  simp only [pointwise]

/-- The largest score of a row. -/
theorem rowTop (p : Fin 4) (b : Fin 32) (h : Fin 2) (r : Fin 2048) :
    val_main_v9 (F := Ideal) q k (ix4 p b h r)
      = Softmax.top2 fun x => val_main_v6 (F := Ideal) q k (ix5 p b h r x) := by
  have e : val_main_v7 (F := Ideal) q k (ix4 p b h r)
      = Softmax.top fun x => val_main_v6 (F := Ideal) q k (ix5 p b h r x) := by
    unfold val_main_v7 Softmax.top
    exact lastMax _ _ _ _ p b h r
  rw [val_main_v9_apply, e]
  rfl

/-- The numerator of a weight. -/
theorem numer (p : Fin 4) (b : Fin 32) (h : Fin 2) (r x : Fin 2048) :
    val_main_v13 (F := Ideal) q k (ix5 p b h r x)
      = Ideal.exp (val_main_v6 (F := Ideal) q k (ix5 p b h r x)
          - Softmax.top2 fun x => val_main_v6 (F := Ideal) q k (ix5 p b h r x)) := by
  rw [← rowTop]
  unfold val_main_v13 val_main_v12 val_main_v11 val_main_v10
  generalize val_main_v6 (F := Ideal) q k = s
  generalize val_main_v9 (F := Ideal) q k = t
  pointwise []

/-- A softmax weight. -/
theorem weight (p : Fin 4) (b : Fin 32) (h : Fin 2) (r x : Fin 2048) :
    val_main_v17 (F := Ideal) q k (ix5 p b h r x)
      = Ideal.div (val_main_v13 (F := Ideal) q k (ix5 p b h r x))
          (∑ x, val_main_v13 (F := Ideal) q k (ix5 p b h r x)) := by
  unfold val_main_v17 val_main_v16 val_main_v15 val_main_v14
  generalize val_main_v13 (F := Ideal) q k = e
  pointwise [val_main_cst_1]

/-- An entry of the result. -/
theorem entry (r : Fin 65536) (l : Fin 512) :
    val_main_v21 (F := Ideal) q k v (ix2 r l)
      = Softmax.early
          (fun x : Fin 2048 => ∑ d : Fin 128,
            q (ix3 ⟨l.val / 128, by omega⟩ r ⟨l.val / 64 % 2 * 128 + d.val, by omega⟩)
              * k (ix3 ⟨l.val / 128, by omega⟩ ⟨r.val / 2048 * 2048 + x.val, by omega⟩ ⟨l.val / 64 % 2 * 128 + d.val, by omega⟩))
          (fun x : Fin 2048 => v (ix3 ⟨l.val / 128, by omega⟩ ⟨r.val / 2048 * 2048 + x.val, by omega⟩ ⟨l.val % 128, by omega⟩)) := by
  have h : val_main_v21 (F := Ideal) q k v (ix2 r l)
      = ∑ x : Fin 2048, val_main_v5 (F := Ideal) v (ix5 ⟨l.val / 128, by omega⟩ ⟨r.val / 2048, by omega⟩ x ⟨l.val / 64 % 2, by omega⟩ ⟨l.val % 64, by omega⟩)
          * val_main_v17 (F := Ideal) q k (ix5 ⟨l.val / 128, by omega⟩ ⟨r.val / 2048, by omega⟩ ⟨l.val / 64 % 2, by omega⟩ ⟨r.val % 2048, by omega⟩ x) := by
    unfold val_main_v21 val_main_v20 val_main_v19 val_main_v18
    generalize val_main_v17 (F := Ideal) q k = w
    generalize val_main_v5 (F := Ideal) v = u
    pointwise []
  rw [h, Softmax.early]
  refine Finset.sum_congr rfl fun x _ => ?_
  congr 1
  · pointwise [val_main_v5, val_main_v4]
    congr 2
    exact Fin.ext (show l.val / 64 % 2 * 64 + l.val % 64 = l.val % 128 by omega)
  · have e : (⟨r.val / 2048 * 2048 + r.val % 2048, by omega⟩ : Fin 65536) = r :=
      Fin.ext (show r.val / 2048 * 2048 + r.val % 2048 = r.val by omega)
    rw [weight]
    simp only [numer, score, e]

end Cert.AttnRefRead

end
-- ==== Proof.AttnValue.lean ====
module

public import proofs.«01_k».proof.Proof.Gen.AttnIdeal.Value
public import proofs.«01_k».proof.Proof.AttnBlock
public import proofs.«01_k».proof.Proof.AttnRefRead
public import Idealize.ShloMosaic.Lib.Pipeline.ValueKit

/-! # The attention kernel's result array -/

@[expose] public section

set_option maxRecDepth 16384

noncomputable section

namespace Cert.AttnValue

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- Where the four windows of a grid point lie. -/
theorem idx : ∀ t : Fin cfg0.N, win0_0.index t = ![t.val / 8 % 4, t.val / 32 * 8 + t.val % 8, 0]
    ∧ win0_1.index t = ![t.val / 8 % 4, t.val / 32, 0] ∧ win0_2.index t = ![t.val / 8 % 4, t.val / 32, 0]
    ∧ win0_3.index t = ![t.val / 32 * 8 + t.val % 8, t.val / 8 % 4] :=
  (by decide +kernel : ∀ t : Fin grid0.N, _)

/-- Every query and every key entry is a real number. -/
def Real (c : Dev nD) : Prop :=
  (∀ i : S4x65536x256.Idx, (show EReal from m ((c : Thread nD τ).loc main_arg0) i) ≠ ⊥ ∧ (show EReal from m ((c : Thread nD τ).loc main_arg0) i) ≠ ⊤)
    ∧ ∀ i : S4x65536x256.Idx, (show EReal from m ((c : Thread nD τ).loc main_arg1) i) ≠ ⊥ ∧ (show EReal from m ((c : Thread nD τ).loc main_arg1) i) ≠ ⊤

/-- The result array is the reference's. -/
theorem final (c : Dev nD) (hr : Real m c) : (dats m 0 c).arrAt 3 (cfgs 0).N
    = Cert.AttnRefIdeal.Read.val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨r, l, rfl⟩ : ∃ (r : Fin 256) (l : Fin 128), y = ix2 r l := ⟨y 0, y 1, by ext a; fin_cases a <;> rfl⟩
  have ht : t.val < 1024 := t.isLt
  have hemb : ((View.whole main_v0).slice (win0_3.rect t)).emb (ix2 r l)
      = ix2 (⟨(t.val / 32 * 8 + t.val % 8) * 256 + r.val, by omega⟩ : Fin 65536) (⟨t.val / 8 % 4 * 128 + l.val, by omega⟩ : Fin 512) := by
    blk_ext [idx t]
  rw [hemb, AttnRefRead.entry, AttnBlock.lanes, ← Softmax.late_eq_early]
  · split
    · rw [AttnBlock.head0]
      refine congrArg₂ Softmax.late (funext fun x => Finset.sum_congr rfl fun d _ => congrArg₂ (· * ·) ?_ ?_) (funext fun x => ?_)
      all_goals first
        | (blk_point [iblk, V, idx t]; done)
        | (blk_ext [iblk, V, idx t]; done)
    · rw [AttnBlock.head1]
      refine congrArg₂ Softmax.late (funext fun x => Finset.sum_congr rfl fun d _ => congrArg₂ (· * ·) ?_ ?_) (funext fun x => ?_)
      all_goals first
        | (blk_point [iblk, V, idx t]; done)
        | (blk_ext [iblk, V, idx t]; done)
  · decide
  · exact fun x => Softmax.dot_real _ _ (fun d => hr.1 _) fun d => hr.2 _

end Cert.AttnValue

end
-- ==== Proof.MoeMath.lean ====
module

public import Idealize.ShloMosaic.Lib.Pipeline.ValueKit

/-! # The mathematics of the expert layer, on the extended reals -/

@[expose] public section

noncomputable section

namespace Cert.MoeMath

open Idealize.ShloMosaic

/-- One hidden unit: the gate's `silu` times the up projection. -/
def hidden (a u : EReal) : EReal := a * Ideal.div 1 (1 + Ideal.exp (-a)) * u

/-- One entry of one expert's output: `t` the token's row, `g` and `u` the expert's projections, `w` a column of its
    down projection. -/
def expert (t : Fin 1024 → EReal) (g u : Fin 1024 → Fin 256 → EReal) (w : Fin 256 → EReal) : EReal :=
  ∑ k : Fin 256, hidden (∑ d : Fin 1024, t d * g d k) (∑ d : Fin 1024, t d * u d k) * w k

/-- An expert's output depends on its entries only. -/
theorem expert_congr {t t' : Fin 1024 → EReal} {g g' u u' : Fin 1024 → Fin 256 → EReal} {w w' : Fin 256 → EReal}
    (ht : ∀ d, t d = t' d) (hg : ∀ d k, g d k = g' d k) (hu : ∀ d k, u d k = u' d k) (hw : ∀ k, w k = w' k) :
    expert t g u w = expert t' g' u' w' := by
  rw [funext ht, funext fun d => funext (hg d), funext fun d => funext (hu d), funext hw]

/-- One entry of a row after the root mean square norm with weight `w`. -/
def normed (x : Fin 1024 → EReal) (w : EReal) (j : Fin 1024) : EReal :=
  x j * Ideal.rsqrt (Ideal.div (∑ l : Fin 1024, x l * x l) (Ideal.ofBits .f32 0x44800000#32) + Ideal.ofBits .f32 0x358637BD#32) * w

end Cert.MoeMath

end
-- ==== Proof.MoeBlock.lean ====
module

public import proofs.«01_k».proof.Proof.Gen.MoeIdeal.Skeleton
public import proofs.«01_k».proof.Proof.MoeMath
public import Idealize.ShloMosaic.Lib.WordCmp

/-! # One block of the expert kernel, entry by entry -/

@[expose] public section

set_option maxRecDepth 16384

noncomputable section

namespace Cert.MoeBlock

open Idealize.ShloMosaic Idealize.ShloMosaic.TcCoe Idealize.SL.Sem
open Cert.MoeIdeal Cert.MoeIdeal.Gen

/-- The accumulator starts at zero. -/
theorem zero (r j : Fin 1024) : k0_pay3 (F := Ideal) (ix2 r j) = 0 := by
  pointwise [k0_pay3]

/-- The accumulator is kept as it is computed. -/
theorem keep (a : FVec Ideal S1024x1024 .f32) (r j : Fin 1024) : k0_pay1 (F := Ideal) a (ix2 r j) = a (ix2 r j) := by
  pointwise [k0_pay1]

/-- A sum over the lanes that keeps lane `e` only. -/
theorem pick (e : ℕ) (he : e < 128) (g : Fin 128 → EReal) :
    ∑ l : Fin 128, Scalar.select (IntOp.cmpi .eq (BitVec.ofNat 32 l.val) (BitVec.ofNat 32 e)) (g l) 0 = g ⟨e, he⟩ := by
  rw [Finset.sum_eq_single ⟨e, he⟩]
  · rw [WordCmp.cmpi_eq_ofNat (by omega) (by omega)]; simp [Scalar.select]
  · intro l _ h
    have : l.val ≠ e := fun q => h (Fin.ext q)
    rw [WordCmp.cmpi_eq_ofNat (by omega) (by omega)]; simp [Scalar.select, this]
  · intro h; exact absurd (Finset.mem_univ _) h

/-- One expert's part is added to the accumulator. -/
theorem part (i : grid0.Coords) (t : Vec Ideal S1024x1024 .bf16) (gu : Vec Ideal S1x1024x512 .bf16) (wd : Vec Ideal S1x256x1024 .bf16)
    (g : Vec Ideal S1024x128 .f32) (acc : Vec Ideal S1024x1024 .f32) (e : Fin 128) (he : (i 1).val = e.val) (r j : Fin 1024) :
    k0_pay4 (F := Ideal) i t gu wd g acc (ix2 r j)
      = acc (ix2 r j) + g (ix2 r e)
          * MoeMath.expert (fun d => t (ix2 r d)) (fun d k => gu (ix3 0 d ⟨k.val, by omega⟩))
              (fun d k => gu (ix3 0 d ⟨256 + k.val, by omega⟩)) (fun k => wd (ix3 0 k j)) := by
  pointwise [k0_pay4, MoeMath.expert, MoeMath.hidden]
  simp only [he, pick e.val e.isLt, zero_sub]

/-- The norm of the residual sum. -/
theorem norm (x1 acc : Vec Ideal S1024x1024 .f32) (w : Vec Ideal S1x1024 .f32) (r j : Fin 1024) :
    k0_pay2 (F := Ideal) x1 acc w (ix2 r j)
      = MoeMath.normed (fun l => x1 (ix2 r l) + acc (ix2 r l)) (w (ix2 0 j)) j := by
  pointwise [k0_pay2, MoeMath.normed]

end Cert.MoeBlock

end
-- ==== Proof.MoeRefRead.lean ====
module

public import proofs.«01_k».proof.Proof.Gen.MoeRefIdeal.Read
public import proofs.«01_k».proof.Proof.MoeMath

/-! # The expert reference, entry by entry -/

@[expose] public section

set_option maxRecDepth 16384

noncomputable section

namespace Cert.MoeRefRead

open Idealize.ShloMosaic Idealize.ShloMosaic.TcCoe Idealize.SL.Sem
open Cert.MoeRefIdeal Cert.MoeRefIdeal.Read

variable (x0 : (⟨S65536x1024, .bf16⟩ : BufTy).Contents (Elt Ideal)) (x1 : (⟨S65536x128, .f32⟩ : BufTy).Contents (Elt Ideal))
  (x2 : (⟨S65536x1024, .f32⟩ : BufTy).Contents (Elt Ideal)) (x3 x4 : (⟨S32x1024x256, .f32⟩ : BufTy).Contents (Elt Ideal))
  (x5 : (⟨S32x256x1024, .f32⟩ : BufTy).Contents (Elt Ideal)) (x6 : (⟨S1024, .f32⟩ : BufTy).Contents (Elt Ideal))

/-- The gate projection. -/
theorem gate (n : Fin 65536) (e : Fin 32) (k : Fin 256) :
    val_main_v1 (F := Ideal) x0 x3 (ix3 n e k) = ∑ d : Fin 1024, x0 (ix2 n d) * x3 (ix3 e d k) := by
  pointwise [val_main_v1, val_main_v0]

/-- The up projection. -/
theorem up (n : Fin 65536) (e : Fin 32) (k : Fin 256) :
    val_main_v2 (F := Ideal) x0 x4 (ix3 n e k) = ∑ d : Fin 1024, x0 (ix2 n d) * x4 (ix3 e d k) := by
  pointwise [val_main_v2, val_main_v0]

/-- The hidden units. -/
theorem hidden (n : Fin 65536) (e : Fin 32) (k : Fin 256) :
    val_main_v4 (F := Ideal) x0 x3 x4 (ix3 n e k)
      = MoeMath.hidden (val_main_v1 (F := Ideal) x0 x3 (ix3 n e k)) (val_main_v2 (F := Ideal) x0 x4 (ix3 n e k)) := by
  unfold val_main_v4 val_main_v3 val_main_call0_v5 val_main_call0_v3 val_main_call0_v1 val_main_call0_v0
  generalize val_main_v1 (F := Ideal) x0 x3 = a
  generalize val_main_v2 (F := Ideal) x0 x4 = u
  pointwise [val_main_call0_v4, val_main_call0_v2, val_main_call0_cst, val_main_call0_cst_0, MoeMath.hidden]

/-- One expert's output, at a token. -/
theorem expert (n : Fin 65536) (e : Fin 32) (j : Fin 1024) :
    val_main_v6 (F := Ideal) x0 x3 x4 x5 (ix3 n e j)
      = MoeMath.expert (fun d => x0 (ix2 n d)) (fun d k => x3 (ix3 e d k)) (fun d k => x4 (ix3 e d k)) (fun k => x5 (ix3 e k j)) := by
  have h : val_main_v6 (F := Ideal) x0 x3 x4 x5 (ix3 n e j)
      = ∑ k : Fin 256, x5 (ix3 e k j) * val_main_v4 (F := Ideal) x0 x3 x4 (ix3 n e k) := by
    unfold val_main_v6 val_main_v5
    generalize val_main_v4 (F := Ideal) x0 x3 x4 = h
    pointwise []
  rw [h, MoeMath.expert]
  refine Finset.sum_congr rfl fun k _ => ?_
  rw [hidden, gate, up]
  exact EReal.mul_comm _ _

/-- The experts' outputs, each by its gate, added to the residual. -/
theorem mixed (n : Fin 65536) (j : Fin 1024) :
    val_main_v12 (F := Ideal) x0 x1 x2 x3 x4 x5 (ix2 n j)
      = x2 (ix2 n j) + ∑ e : Fin 32, x1 (ix2 n ⟨e.val, by omega⟩)
          * MoeMath.expert (fun d => x0 (ix2 n d)) (fun d k => x3 (ix3 e d k)) (fun d k => x4 (ix3 e d k)) (fun k => x5 (ix3 e k j)) := by
  simp only [← expert]
  unfold val_main_v12 val_main_v11 val_main_v10
  generalize val_main_v6 (F := Ideal) x0 x3 x4 x5 = y
  pointwise [val_main_v9, val_main_v8, val_main_v7, val_main_cst]

/-- An entry of the result. -/
theorem entry (n : Fin 65536) (j : Fin 1024) :
    val_main_v25 (F := Ideal) x0 x1 x2 x3 x4 x5 x6 (ix2 n j)
      = MoeMath.normed (fun j => x2 (ix2 n j) + ∑ e : Fin 32, x1 (ix2 n ⟨e.val, by omega⟩)
          * MoeMath.expert (fun d => x0 (ix2 n d)) (fun d k => x3 (ix3 e d k)) (fun d k => x4 (ix3 e d k)) (fun k => x5 (ix3 e k j)))
          (x6 (ix1 j)) j := by
  have h : val_main_v25 (F := Ideal) x0 x1 x2 x3 x4 x5 x6 (ix2 n j)
      = MoeMath.normed (fun j => val_main_v12 (F := Ideal) x0 x1 x2 x3 x4 x5 (ix2 n j)) (x6 (ix1 j)) j := by
    unfold val_main_v25 val_main_v22 val_main_v21 val_main_v20 val_main_v19 val_main_v17 val_main_v15 val_main_v14 val_main_v13
    generalize val_main_v12 (F := Ideal) x0 x1 x2 x3 x4 x5 = x
    pointwise [val_main_v24, val_main_v23, val_main_v18, val_main_v16, val_main_cst_0, val_main_cst_1, val_main_cst_2, MoeMath.normed]
  rw [h]
  simp only [mixed]

end Cert.MoeRefRead

end
-- ==== Proof.MoeValue.lean ====
module

public import proofs.«01_k».proof.Proof.Gen.MoeIdeal.Value
public import proofs.«01_k».proof.Proof.MoeBlock
public import proofs.«01_k».proof.Proof.MoeRefRead
public import Idealize.ShloMosaic.Lib.Claim
public import Idealize.ShloMosaic.Lib.Pipeline.ReadBack

/-! # The array the expert kernel leaves -/

@[expose] public section

set_option maxRecDepth 16384

noncomputable section

namespace Cert.MoeValue

open Idealize.ShloMosaic Idealize.ShloMosaic.TcCoe Idealize.SL.Sem
open Cert.MoeIdeal Cert.MoeIdeal.Gen

variable (m : (ℓ : Loc nD τ sig) → Buf (Elt Ideal) ℓ)

/-- The blocks of a grid point: 64 blocks of tokens, 32 experts. -/
theorem idx : ∀ t : Fin cfg0.N, win0_0.index t = ![t.val / 32, 0] ∧ win0_1.index t = ![t.val / 32, 0]
    ∧ win0_2.index t = ![t.val / 32, 0] ∧ win0_3.index t = ![t.val % 32, 0, 0] ∧ win0_4.index t = ![t.val % 32, 0, 0]
    ∧ win0_5.index t = ![0, 0] ∧ win0_6.index t = ![t.val / 32, 0] ∧ (grid0.coords t 1).val = t.val % 32 :=
  (by decide +kernel : ∀ t : Fin grid0.N, _)

/-- What one grid point adds to an entry of the accumulator. -/
def step (c : Dev nD) (t : Fin cfg0.N) (r j : Fin 1024) : EReal :=
  (show Vec Ideal S1024x128 .f32 from iblk m c 1 t) (ix2 r ⟨t.val % 32, by omega⟩)
    * MoeMath.expert (fun d => (show Vec Ideal S1024x1024 .bf16 from iblk m c 0 t) (ix2 r d))
        (fun d k => (show Vec Ideal S1x1024x512 .bf16 from iblk m c 3 t) (ix3 0 d ⟨k.val, by omega⟩))
        (fun d k => (show Vec Ideal S1x1024x512 .bf16 from iblk m c 3 t) (ix3 0 d ⟨256 + k.val, by omega⟩))
        (fun k => (show Vec Ideal S1x256x1024 .bf16 from iblk m c 4 t) (ix3 0 k j))

/-- The accumulator at a point that starts a run. -/
theorem scratch_first (c : Dev nD) (t : Fin cfg0.N) (h0 : t.val % 32 = 0) (r j : Fin 1024) :
    (outsAt0 m c t.val t.isLt).2 (ix2 r j) = 0 + step m c t r j := by
  rw [outsAt0_A m c t h0 (by omega)]; frame_out
  rw [MoeBlock.keep, MoeBlock.part _ _ _ _ _ _ ⟨t.val % 32, by omega⟩ (idx t).2.2.2.2.2.2.2, MoeBlock.zero]
  rfl

/-- The accumulator at a later point of a run. -/
theorem scratch_next (c : Dev nD) (t : Fin cfg0.N) (h0 : ¬t.val % 32 = 0) (r j : Fin 1024) :
    (outsAt0 m c t.val t.isLt).2 (ix2 r j)
      = (outsAt0 m c (t.val - 1) (Nat.lt_of_le_of_lt (Nat.sub_le _ _) t.isLt)).2 (ix2 r j) + step m c t r j := by
  by_cases h1 : t.val % 32 = 31
  · rw [outsAt0_C m c t h0 h1]; frame_out
    rw [MoeBlock.keep, MoeBlock.part _ _ _ _ _ _ ⟨t.val % 32, by omega⟩ (idx t).2.2.2.2.2.2.2, read_unread_whole]
    rfl
  · rw [outsAt0_B m c t h0 h1]; frame_out
    rw [MoeBlock.keep, MoeBlock.part _ _ _ _ _ _ ⟨t.val % 32, by omega⟩ (idx t).2.2.2.2.2.2.2, read_unread_whole]
    rfl

/-- The block a run writes back: the norm of the residual plus the accumulator. -/
theorem out_last (c : Dev nD) (t : Fin cfg0.N) (h1 : t.val % 32 = 31) :
    (outsAt0 m c t.val t.isLt).1
      = k0_pay2 (F := Ideal) (iblk m c 2 t) (outsAt0 m c t.val t.isLt).2 (iblk m c 5 t) := by
  rw [outsAt0_C m c t (by omega) h1]; frame_out

/-- The accumulator at the end of a run: the sum of the run's 32 parts. -/
theorem scratch_last (c : Dev nD) (t : Fin cfg0.N) (h1 : t.val % 32 = 32 - 1) (r j : Fin 1024) :
    (outsAt0 m c t.val t.isLt).2 (ix2 r j)
      = ∑ s : Fin 32, step m c ⟨32 * (t.val / 32) + s.val, Pipeline.run_point_lt_of_flush t h1 s⟩ r j :=
  (Pipeline.eq_sum_fin_of_reset_step_apply_of_flush (fun n h (i : Fin 1024 × Fin 1024) => (outsAt0 m c n h).2 (ix2 i.1 i.2)) 32
    (fun _ => (0 : EReal)) (fun t i => step m c t i.1 i.2) (fun t h i => scratch_first m c t h i.1 i.2)
    (fun t h i => scratch_next m c t h i.1 i.2) t h1 (r, j)).trans (zero_add _)

/-- The result array is the reference's. -/
theorem final (c : Dev nD) : (dats m 0 c).arrAt 6 (cfgs 0).N
    = Cert.MoeRefIdeal.Read.val_main_v25 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 6 _ (by decide +kernel) fun t hf y => ?_
  have h1 := (flush0_6 t).mp hf
  blk_simp
  rw [after0_6, out_last m c t h1]
  obtain ⟨r, j, rfl⟩ : ∃ (r j : Fin 1024), y = ix2 r j := ⟨y 0, y 1, by ext a; fin_cases a <;> rfl⟩
  have ht : t.val < 2048 := t.isLt
  have hemb : ((View.whole main_v4).slice (win0_6.rect t)).emb (ix2 r j)
      = ix2 (⟨t.val / 32 * 1024 + r.val, by omega⟩ : Fin 65536) j := by
    blk_ext [idx t]
  rw [hemb, MoeRefRead.entry, MoeBlock.norm]
  simp only [scratch_last m c t h1]
  refine congr (congrArg₂ MoeMath.normed (funext fun l => congrArg₂ (· + ·) ?_ (Fin.sum_fin_congr fun s => ?_)) ?_) rfl
  · blk_ext [iblk, V, idx t]
  · have hp := idx ⟨_, Pipeline.run_point_lt_of_flush t h1 s⟩
    refine congrArg₂ (· * ·) ?_ (MoeMath.expert_congr (fun d => ?_) (fun d k => ?_) (fun d k => ?_) (fun k => ?_))
    · blk_ext [iblk, V, hp]
    · blk_ext [iblk, V, hp]
    · have he : (win0_3.blk ⟨32 * (t.val / 32) + s.val, Pipeline.run_point_lt_of_flush t h1 s⟩).view.emb (ix3 0 d (⟨k.val, by omega⟩ : Fin 512))
          = ix3 s d (⟨k.val, by omega⟩ : Fin 512) := by
        blk_ext [hp]
      blk_simp [iblk]
      rw [he]
      entry_read
      pointwise []
    · have he : (win0_3.blk ⟨32 * (t.val / 32) + s.val, Pipeline.run_point_lt_of_flush t h1 s⟩).view.emb (ix3 0 d (⟨256 + k.val, by omega⟩ : Fin 512))
          = ix3 s d (⟨256 + k.val, by omega⟩ : Fin 512) := by
        blk_ext [hp]
      blk_simp [iblk]
      rw [he]
      entry_read
      pointwise []
    · blk_simp [iblk, hp]
      entry_read
      pointwise []
      blk_point [hp]
  · blk_simp [iblk, idx t]
    entry_read
    pointwise []
    blk_point [idx t]

end Cert.MoeValue

end
-- ==== Proof.ProjPre.lean ====
module

public import proofs.«01_k».proof.Defs
public import proofs.«01_k».proof.Proof.AttnPre

/-! # What the precondition of the projection claim says -/

@[expose] public section

set_option maxRecDepth 16384

noncomputable section

namespace Cert.ProjPre

open Idealize.ShloMosaic Idealize.SL.Sem
open Cert.Pre_finite_in
open Cert.AttnPre (real_of_abs)

/-- The shape facts the predicate takes. -/
theorem facts : Facts where
  slices_S1024x1696_S1024x16_0_656 := by decide
  bcast_S_S1024x16 := by decide
  bcast_S1024_S1024x1_0 := by decide
  bcast_S_S1024x1 := by decide
  bcast_S1024x1_S1024x16_0_1 := by decide
  shapeCasts_S1024x16_S16384 := by decide
  shapeCasts_S384x768_S384x8x96 := by decide
  slices_S384x8x96_S384x8x16_0_0_80 := by decide
  shapeCasts_S384x8x16_S384x128 := by decide
  bcast_S_S384x128 := by decide
  bcast_S384_S384x1_0 := by decide
  bcast_S_S384x1 := by decide
  bcast_S384x1_S384x128_0_1 := by decide
  shapeCasts_S384x128_S49152 := by decide
  concatenates_S16384_S49152_S65536_d0 := by decide

variable [Facts] (x : FVec Ideal S65536x1024 .f32) (n1 : FVec Ideal S1024 .f32) (w : FVec Ideal S1024x1696 .f32)
  (nq : FVec Ideal S384 .f32) (wq : FVec Ideal S384x768 .f32) (nk : FVec Ideal S256 .f32) (wk : FVec Ideal S256x1024 .f32)
  (h : fn (F := Ideal) x n1 w nq wq nk wk = fun _ => 1#1)

include h

/-- The input norm's weights and the second half of the rotary key columns are real. -/
theorem real_in (d : Fin 1024) (k : Fin 16) :
    ((show EReal from w (ix2 d ⟨656 + k.val, by omega⟩)) ≠ ⊥ ∧ (show EReal from w (ix2 d ⟨656 + k.val, by omega⟩)) ≠ ⊤)
      ∧ ((show EReal from n1 (ix1 d)) ≠ ⊥ ∧ (show EReal from n1 (ix1 d)) ≠ ⊤) := by
  have e : fn (F := Ideal) x n1 w nq wq nk wk (ix1 ⟨16 * d.val + k.val, by omega⟩) = 1#1 := congrFun h _
  revert e
  pointwise [fn, fn_part1]
  simp (disch := omega) only [dif_pos, dif_neg]
  intro e
  rw [WordCmp.andi_ofBool, WordCmp.ofBool_eq_one_iff, Bool.and_eq_true, decide_eq_true_iff, decide_eq_true_iff] at e
  exact ⟨real_of_abs _ e.1, real_of_abs _ e.2⟩

/-- The query norm's weights and the second half of the rotary query columns are real. -/
theorem real_q (d : Fin 384) (g : Fin 8) (k : Fin 16) :
    ((show EReal from wq (ix2 d ⟨96 * g.val + (80 + k.val), by omega⟩)) ≠ ⊥ ∧ (show EReal from wq (ix2 d ⟨96 * g.val + (80 + k.val), by omega⟩)) ≠ ⊤)
      ∧ ((show EReal from nq (ix1 d)) ≠ ⊥ ∧ (show EReal from nq (ix1 d)) ≠ ⊤) := by
  obtain ⟨n, hn⟩ : ∃ n : ℕ, n = 16384 + (128 * d.val + (16 * g.val + k.val)) := ⟨_, rfl⟩
  have e : fn (F := Ideal) x n1 w nq wq nk wk (ix1 ⟨n, by omega⟩) = 1#1 := congrFun h _
  revert e
  pointwise [fn, fn_part1]
  rw [dif_neg (by omega)]
  intro e
  rw [WordCmp.andi_ofBool, WordCmp.ofBool_eq_one_iff, Bool.and_eq_true, decide_eq_true_iff] at e
  have c0 : (⟨(n - 16384) / 128, by omega⟩ : Fin 384) = d := Fin.ext (by show (n - 16384) / 128 = d.val; omega)
  have c1 : (⟨(n - 16384) % 128 / 16 * 96 + (80 + (n - 16384) % 128 % 16), by omega⟩ : Fin 768) = ⟨96 * g.val + (80 + k.val), by omega⟩ :=
    Fin.ext (by show (n - 16384) % 128 / 16 * 96 + (80 + (n - 16384) % 128 % 16) = 96 * g.val + (80 + k.val); omega)
  have a := real_of_abs (wq (ix2 ⟨(n - 16384) / 128, by omega⟩ ⟨(n - 16384) % 128 / 16 * 96 + (80 + (n - 16384) % 128 % 16), by omega⟩)) e.1
  have b := real_of_abs (nq (ix1 ⟨(n - 16384) / 128, by omega⟩)) (of_decide_eq_true e.2)
  rw [c0, c1] at a
  rw [c0] at b
  exact ⟨a, b⟩

end Cert.ProjPre

end
-- ==== Proof.ProjRead.lean ====
module

public import proofs.«01_k».proof.Proof.Gen.ProjInIdeal.Value
public import Idealize.ShloMosaic.Lib.Claim
public import Idealize.ShloMosaic.Lib.Pipeline.ValueKit
public import Idealize.ShloMosaic.Lib.Pipeline.ReadBack

/-! # The blocks a grid point of the input projection reads -/

@[expose] public section

set_option maxRecDepth 16384

noncomputable section

namespace Cert.ProjRead

open Idealize.ShloMosaic Idealize.ShloMosaic.TcCoe Idealize.SL.Sem
open Cert.ProjInIdeal Cert.ProjInIdeal.Gen

variable (m : (ℓ : Loc nD τ sig) → Buf (Elt Ideal) ℓ) (c : Dev nD)

/-- The blocks of a grid point: 128 blocks of tokens, four blocks of positions. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val % 4, 0] ∧ win0_9.index t = ![t.val % 4, 0]
    ∧ win0_10.index t = ![t.val % 4, 0] ∧ win0_11.index t = ![t.val % 4, 0] ∧ win0_12.index t = ![0, t.val, 0]
    ∧ win0_13.index t = ![0, t.val, 0] ∧ win0_14.index t = ![0, t.val, 0] ∧ win0_15.index t = ![t.val, 0]
    ∧ win0_16.index t = ![t.val, 0] :=
  (by decide +kernel : ∀ t : Fin grid0.N, _)

variable (t : Fin cfg0.N) (r : Fin 512) (b : Fin 32) (s : Fin 2048) (hn : 512 * t.val + r.val = 2048 * b.val + s.val)

section Blocks
include hn

theorem b0 (l : Fin 1024) : (show Vec Ideal S512x1024 .f32 from iblk m c 0 t) (ix2 r l)
    = m ((c : Thread nD τ).loc main_arg0) (ix2 ⟨2048 * b.val + s.val, by omega⟩ l) := by
  blk_ext [iblk, V, idx t]

theorem b8 (l : Fin 128) : (show Vec Ideal S512x128 .f32 from iblk m c 8 t) (ix2 r l)
    = (show Vec Ideal S2048x128 .f32 from V m c main_v66) (ix2 s l) := by
  have he : (win0_8.blk t).view.emb (ix2 r l) = ix2 s l := by blk_ext [idx t]
  blk_simp [iblk]
  rw [he]

theorem b9 (l : Fin 128) : (show Vec Ideal S512x128 .f32 from iblk m c 9 t) (ix2 r l)
    = (show Vec Ideal S2048x128 .f32 from V m c main_v69) (ix2 s l) := by
  have he : (win0_9.blk t).view.emb (ix2 r l) = ix2 s l := by blk_ext [idx t]
  blk_simp [iblk]
  rw [he]

theorem b10 (l : Fin 128) : (show Vec Ideal S512x128 .f32 from iblk m c 10 t) (ix2 r l)
    = (show Vec Ideal S2048x128 .f32 from V m c main_v70) (ix2 s l) := by
  have he : (win0_10.blk t).view.emb (ix2 r l) = ix2 s l := by blk_ext [idx t]
  blk_simp [iblk]
  rw [he]

theorem b11 (l : Fin 128) : (show Vec Ideal S512x128 .f32 from iblk m c 11 t) (ix2 r l)
    = (show Vec Ideal S2048x128 .f32 from V m c main_v71) (ix2 s l) := by
  have he : (win0_11.blk t).view.emb (ix2 r l) = ix2 s l := by blk_ext [idx t]
  blk_simp [iblk]
  rw [he]

end Blocks

theorem b1 (l : Fin 1024) : (show Vec Ideal S1x1024 .f32 from iblk m c 1 t) (ix2 0 l)
    = (show Vec Ideal S1x1024 .f32 from V m c main_v31) (ix2 0 l) := by
  have he : (win0_1.blk t).view.emb (ix2 0 l) = ix2 0 l := by blk_ext [idx t]
  blk_simp [iblk]
  rw [he]

theorem b2 (d : Fin 1024) (l : Fin 1920) : (show Vec Ideal S1024x1920 .bf16 from iblk m c 2 t) (ix2 d l)
    = (show Vec Ideal S1024x1920 .bf16 from V m c main_v32) (ix2 d l) := by
  have he : (win0_2.blk t).view.emb (ix2 d l) = ix2 d l := by blk_ext [idx t]
  blk_simp [iblk]
  rw [he]

theorem b3 (l : Fin 384) : (show Vec Ideal S1x384 .f32 from iblk m c 3 t) (ix2 0 l)
    = (show Vec Ideal S1x384 .f32 from V m c main_v33) (ix2 0 l) := by
  have he : (win0_3.blk t).view.emb (ix2 0 l) = ix2 0 l := by blk_ext [idx t]
  blk_simp [iblk]
  rw [he]

theorem b4 (d : Fin 384) (l : Fin 2048) : (show Vec Ideal S384x2048 .bf16 from iblk m c 4 t) (ix2 d l)
    = (show Vec Ideal S384x2048 .bf16 from V m c main_v34) (ix2 d l) := by
  have he : (win0_4.blk t).view.emb (ix2 d l) = ix2 d l := by blk_ext [idx t]
  blk_simp [iblk]
  rw [he]

theorem b5 (l : Fin 256) : (show Vec Ideal S1x256 .f32 from iblk m c 5 t) (ix2 0 l)
    = (show Vec Ideal S1x256 .f32 from V m c main_v35) (ix2 0 l) := by
  have he : (win0_5.blk t).view.emb (ix2 0 l) = ix2 0 l := by blk_ext [idx t]
  blk_simp [iblk]
  rw [he]

theorem b6 (d : Fin 256) (l : Fin 1024) : (show Vec Ideal S256x1024 .bf16 from iblk m c 6 t) (ix2 d l)
    = (show Vec Ideal S256x1024 .bf16 from V m c main_v36) (ix2 d l) := by
  have he : (win0_6.blk t).view.emb (ix2 d l) = ix2 d l := by blk_ext [idx t]
  blk_simp [iblk]
  rw [he]

theorem b7 (d : Fin 256) (l : Fin 512) : (show Vec Ideal S256x512 .bf16 from iblk m c 7 t) (ix2 d l)
    = (show Vec Ideal S256x512 .bf16 from V m c main_v37) (ix2 d l) := by
  have he : (win0_7.blk t).view.emb (ix2 d l) = ix2 d l := by blk_ext [idx t]
  blk_simp [iblk]
  rw [he]

end Cert.ProjRead

end
-- ==== Proof.ProjMath.lean ====
module

public import Idealize.ShloMosaic.Lib.Pipeline.ValueKit

/-! # The input projection's mathematics, one row at a time

A row is normed, projected, and the rotary part of a head is turned. Two spellings of the turn are compared: the
difference `x₁ cos − x₂ sin` scaled afterwards, and a sum of two products, whose second factor is the projection
through the negated column and whose tables carry the scale. -/

@[expose] public section

set_option maxRecDepth 16384

noncomputable section

namespace Cert.ProjMath

open Idealize.ShloMosaic

variable {n : ℕ}

/-- The root mean square norm of a row of `c` entries with weights `g`. -/
def nrm (c : EReal) (x g : Fin n → EReal) (k : Fin n) : EReal :=
  x k * Ideal.rsqrt (Ideal.div (∑ l : Fin n, x l * x l) c + Ideal.ofBits .f32 0x358637BD#32) * g k

/-- A row against a column. -/
def lin (f w : Fin n → EReal) : EReal := ∑ d : Fin n, f d * w d

theorem lin_congr {f f' w w' : Fin n → EReal} (hf : ∀ d, f d = f' d) (hw : ∀ d, w d = w' d) : lin f w = lin f' w' := by
  rw [funext hf, funext hw]

/-- The angle of position `s` and frequency `k`. -/
def ang (s k : ℕ) : EReal :=
  FloatOps.sitofp (F := Ideal) .f32 (BitVec.ofNat 32 s) * Ideal.div 1 (Ideal.pow (Ideal.ofBits .f32 0x461C4000#32)
    (Ideal.div (Ideal.ofBits .f32 0x40000000#32 * FloatOps.sitofp (F := Ideal) .f32 (BitVec.ofNat 32 k)) (Ideal.ofBits .f32 0x42000000#32)))

/-- A zero column gives zero. -/
theorem lin_zero (f : Fin n → EReal) : lin f (fun _ => 0) = 0 := by simp [lin]

/-- The negated column gives the negated product, where every term is real. -/
theorem lin_neg (f w : Fin n → EReal) (hf : ∀ d, f d ≠ ⊥ ∧ f d ≠ ⊤) (hw : ∀ d, w d ≠ ⊥ ∧ w d ≠ ⊤) :
    lin f (fun d => -w d) = -lin f w := by
  have ef : f = fun d => ((f d).toReal : EReal) := funext fun d => (EReal.coe_toReal (hf d).2 (hf d).1).symm
  have ew : w = fun d => ((w d).toReal : EReal) := funext fun d => (EReal.coe_toReal (hw d).2 (hw d).1).symm
  have hs : ∀ s : Finset (Fin n), ∑ d ∈ s, ((f d).toReal : EReal) * -((w d).toReal : EReal)
      = ((-∑ d ∈ s, (f d).toReal * (w d).toReal : ℝ) : EReal) ∧
      ∑ d ∈ s, ((f d).toReal : EReal) * ((w d).toReal : EReal) = ((∑ d ∈ s, (f d).toReal * (w d).toReal : ℝ) : EReal) := by
    intro s
    induction s using Finset.induction_on with
    | empty => simp
    | insert a s ha ih =>
      rw [Finset.sum_insert ha, Finset.sum_insert ha, Finset.sum_insert ha, ih.1, ih.2]
      constructor <;> norm_cast
      ring_nf
  rw [ef, ew]
  unfold lin
  rw [(hs Finset.univ).1, (hs Finset.univ).2, EReal.coe_neg]

/-- The first half of a turn, the scale in the tables and the sign in the column. -/
theorem turn_fst (a b c s k : EReal) (h0 : 0 ≤ k) (h1 : k ≠ ⊤) : a * (c * k) + -b * (s * k) = (a * c - b * s) * k := by
  rw [← mul_assoc, ← mul_assoc, sub_eq_add_neg, ← EReal.neg_mul, EReal.right_distrib_of_nonneg_of_ne_top h0 h1]

/-- The second half of a turn, the scale in the tables. -/
theorem turn_snd (a b c s k : EReal) (h0 : 0 ≤ k) (h1 : k ≠ ⊤) : b * (c * k) + a * (s * k) = (b * c + a * s) * k := by
  rw [← mul_assoc, ← mul_assoc, EReal.right_distrib_of_nonneg_of_ne_top h0 h1]

/-- The norm of a row is real where its weights are: an infinite entry makes the scale zero. -/
theorem nrm_real (c : EReal) (C : ℝ) (hC : 0 < C) (hc : c = (C : EReal)) (x g : Fin n → EReal)
    (hg : ∀ d, g d ≠ ⊥ ∧ g d ≠ ⊤) (k : Fin n) : nrm c x g k ≠ ⊥ ∧ nrm c x g k ≠ ⊤ := by
  obtain ⟨e, he, he'⟩ : ∃ e : ℝ, 0 < e ∧ Ideal.ofBits .f32 0x358637BD#32 = (e : EReal) := by
    refine ⟨_, ?_, by simp [Ideal.ofBits, Ideal.ieee]; rfl⟩
    positivity
  have hreal : ∀ u v : EReal, (u ≠ ⊥ ∧ u ≠ ⊤) → (v ≠ ⊥ ∧ v ≠ ⊤) → (u * v ≠ ⊥ ∧ u * v ≠ ⊤) := by
    intro u v hu hv
    rw [← EReal.coe_toReal hu.2 hu.1, ← EReal.coe_toReal hv.2 hv.1, ← EReal.coe_mul]
    exact ⟨EReal.coe_ne_bot _, EReal.coe_ne_top _⟩
  refine hreal _ _ ?_ (hg k)
  have hsq : ∀ l, 0 ≤ x l * x l := fun l => by
    induction h : x l with
    | bot => simp
    | top => simp
    | coe r => rw [← EReal.coe_mul]; exact_mod_cast mul_self_nonneg r
  by_cases hall : ∀ l, x l ≠ ⊥ ∧ x l ≠ ⊤
  · have hs : ∃ q : ℝ, 0 ≤ q ∧ ∑ l : Fin n, x l * x l = (q : EReal) := by
      refine ⟨∑ l, (x l).toReal * (x l).toReal, Finset.sum_nonneg fun l _ => mul_self_nonneg _, ?_⟩
      have : ∀ s : Finset (Fin n), ∑ l ∈ s, x l * x l = ((∑ l ∈ s, (x l).toReal * (x l).toReal : ℝ) : EReal) := by
        intro s
        induction s using Finset.induction_on with
        | empty => simp
        | insert a s ha ih =>
          rw [Finset.sum_insert ha, Finset.sum_insert ha, ih, EReal.coe_add, EReal.coe_mul, EReal.coe_toReal (hall a).2 (hall a).1]
      exact this _
    obtain ⟨q, hq, hq'⟩ := hs
    have hp : 0 < q * (1 / C) + e := by positivity
    rw [hq', hc, he', Ideal.div_coe hC.ne', ← EReal.coe_mul, ← EReal.coe_add, Ideal.rsqrt_coe, if_neg hp.le.not_gt, if_neg hp.ne']
    exact hreal _ _ (hall k) ⟨EReal.coe_ne_bot _, EReal.coe_ne_top _⟩
  · obtain ⟨l, hl⟩ := not_forall.mp hall
    have ht : ∑ l : Fin n, x l * x l = ⊤ := by
      refine top_le_iff.mp (le_trans (top_le_iff.mpr ?_) (Finset.single_le_sum (fun l _ => hsq l) (Finset.mem_univ l)))
      rcases not_and_or.mp hl with h | h <;> rw [not_not.mp h] <;> simp
    rw [ht, hc, he', Ideal.div_coe hC.ne', EReal.top_mul_coe_of_pos (by positivity), EReal.top_add_coe, Ideal.rsqrt_top, mul_zero]
    exact ⟨by simp, by simp⟩

/-- The scale of the queries is a nonnegative real number. -/
theorem scale_nonneg (b : BitVec 32) (r : ℝ) (hr : 0 ≤ r) (h : Ideal.ofBits .f32 b = (r : EReal)) :
    0 ≤ Ideal.ofBits .f32 b ∧ Ideal.ofBits .f32 b ≠ ⊤ := by
  rw [h]; exact ⟨by exact_mod_cast hr, EReal.coe_ne_top _⟩

end Cert.ProjMath

end
-- ==== Proof.ProjBlock.lean ====
module

public import proofs.«01_k».proof.Proof.Gen.ProjInIdeal.Frame
public import proofs.«01_k».proof.Proof.ProjMath

/-! # One block of the input projection, entry by entry -/

@[expose] public section

set_option maxRecDepth 16384

noncomputable section

namespace Cert.ProjBlock

open Idealize.ShloMosaic Idealize.ShloMosaic.TcCoe Idealize.SL.Sem
open Cert.ProjInIdeal Cert.ProjInIdeal.Gen

variable (x0 : Vec Ideal S512x1024 .f32) (x1 : Vec Ideal S1x1024 .f32) (x2 : Vec Ideal S1024x1920 .bf16)

/-- The combined projection of the normed row. -/
theorem z (r : Fin 512) (c : Fin 1920) :
    k0_pay5 (F := Ideal) x0 x1 x2 (ix2 r c)
      = ProjMath.lin (ProjMath.nrm (Ideal.ofBits .f32 0x44800000#32) (fun l => x0 (ix2 r l)) (fun l => x1 (ix2 0 l)))
          (fun d : Fin 1024 => x2 (ix2 d c)) := by
  pointwise [k0_pay5, ProjMath.lin, ProjMath.nrm]

/-- The queries' up projection of the normed latent. -/
theorem qq (x3 : Vec Ideal S1x384 .f32) (x4 : Vec Ideal S384x2048 .bf16) (r : Fin 512) (c : Fin 2048) :
    k0_pay10 (F := Ideal) (k0_pay8 x0 x1 x2) (k0_pay9 x3) x4 (ix2 r c)
      = ProjMath.lin (ProjMath.nrm (Ideal.ofBits .f32 0x43C00000#32)
            (fun l : Fin 384 => k0_pay5 (F := Ideal) x0 x1 x2 (ix2 r ⟨l.val, by omega⟩)) (fun l => x3 (ix2 0 l)))
          (fun d => x4 (ix2 d c)) := by
  pointwise [k0_pay10, k0_pay8, k0_pay9, ProjMath.lin, ProjMath.nrm]

/-- The keys' up projection of the normed latent. -/
theorem kk (v : FVec Ideal S512x1920 .f32) (x5 : Vec Ideal S1x256 .f32) (x6 : Vec Ideal S256x1024 .bf16) (r : Fin 512) (c : Fin 1024) :
    k0_pay12 (F := Ideal) v x5 x6 (ix2 r c)
      = ProjMath.lin (ProjMath.nrm (Ideal.ofBits .f32 0x43800000#32)
            (fun l : Fin 256 => v (ix2 r ⟨384 + l.val, by omega⟩)) (fun l => x5 (ix2 0 l)))
          (fun d => x6 (ix2 d c)) := by
  pointwise [k0_pay12, k0_pay11, ProjMath.lin, ProjMath.nrm]

/-- The values' up projection of the normed latent. -/
theorem vv (v : FVec Ideal S512x1920 .f32) (x5 : Vec Ideal S1x256 .f32) (x7 : Vec Ideal S256x512 .bf16) (r c : Fin 512) :
    k0_pay13 (F := Ideal) v x5 x7 (ix2 r c)
      = ProjMath.lin (ProjMath.nrm (Ideal.ofBits .f32 0x43800000#32)
            (fun l : Fin 256 => v (ix2 r ⟨384 + l.val, by omega⟩)) (fun l => x5 (ix2 0 l)))
          (fun d => x7 (ix2 d c)) := by
  pointwise [k0_pay13, k0_pay11, ProjMath.lin, ProjMath.nrm]

/-- An entry of the queries' block from the up projection and the two tables: column `c` is lane `c % 128` of its head,
    and its turned partner stands 1024 columns further. -/
def qe (Q : FVec Ideal S512x2048 .f32) (a b : Vec Ideal S512x128 .f32) (r : Fin 512) (c : Fin 1024) : EReal :=
  Q (ix2 r ⟨c.val, by omega⟩) * a (ix2 r ⟨c.val % 128, by omega⟩)
    + Q (ix2 r ⟨1024 + c.val, by omega⟩) * b (ix2 r ⟨c.val % 128, by omega⟩)

/-- An entry of the keys' block from the up projection and the shared rotary key. -/
def ke (K : FVec Ideal S512x1024 .f32) (v : FVec Ideal S512x1920 .f32) (a b : Vec Ideal S512x128 .f32) (r : Fin 512) (c : Fin 1024) : EReal :=
  K (ix2 r c) + (v (ix2 r ⟨1664 + c.val % 128, by omega⟩) * a (ix2 r ⟨c.val % 128, by omega⟩)
    + v (ix2 r ⟨1792 + c.val % 128, by omega⟩) * b (ix2 r ⟨c.val % 128, by omega⟩))

variable (x3 : Vec Ideal S1x384 .f32) (x4 : Vec Ideal S384x2048 .bf16) (x5 : Vec Ideal S1x256 .f32) (x6 : Vec Ideal S256x1024 .bf16)
  (x7 : Vec Ideal S256x512 .bf16) (x8 x9 x10 x11 : Vec Ideal S512x128 .f32)

/-- A piece's index is known from its coordinates. -/
theorem at3 {n0 n1 n2 : ℕ} (x : (⟨3, ![n0, n1, n2]⟩ : Shape).Idx) (a : Fin n0) (b : Fin n1) (c : Fin n2)
    (ha : (x 0 : ℕ) = a) (hb : (x 1 : ℕ) = b) (hc : (x 2 : ℕ) = c) : x = ix3 a b c := by
  ext i; fin_cases i
  · exact ha
  · exact hb
  · exact hc

/-- The four stores of the queries. -/
theorem q0 (Q : FVec Ideal S512x2048 .f32) (a b : Vec Ideal S512x128 .f32) (r : Fin 512) (l : Fin 256) :
    k0_pay19 (F := Ideal) Q (k0_pay14 a) (k0_pay15 b) (ix3 0 r l) = qe Q a b r ⟨l.val, by omega⟩ := by
  pointwise [k0_pay19, k0_pay14, k0_pay15, qe]
  blk_point []

theorem q1 (Q : FVec Ideal S512x2048 .f32) (a b : Vec Ideal S512x128 .f32) (r : Fin 512) (l : Fin 256) :
    k0_pay25 (F := Ideal) (k0_pay24 Q (k0_pay14 a) (k0_pay15 b)) (ix3 0 r l) = qe Q a b r ⟨256 + l.val, by omega⟩ := by
  pointwise [k0_pay25, k0_pay24, k0_pay14, k0_pay15, qe]
  blk_point []

theorem q2 (Q : FVec Ideal S512x2048 .f32) (a b : Vec Ideal S512x128 .f32) (r : Fin 512) (l : Fin 256) :
    k0_pay28 (F := Ideal) Q (k0_pay14 a) (k0_pay15 b) (ix3 0 r l) = qe Q a b r ⟨512 + l.val, by omega⟩ := by
  pointwise [k0_pay28, k0_pay14, k0_pay15, qe]
  blk_point []

theorem q3 (Q : FVec Ideal S512x2048 .f32) (a b : Vec Ideal S512x128 .f32) (r : Fin 512) (l : Fin 256) :
    k0_pay2 (F := Ideal) Q (k0_pay14 a) (k0_pay15 b) (ix3 0 r l) = qe Q a b r ⟨768 + l.val, by omega⟩ := by
  pointwise [k0_pay2, k0_pay14, k0_pay15, qe]
  blk_point []

/-- The queries' block. -/
theorem q (p : Fin 4) (r : Fin 512) (l : Fin 256) :
    out0_12 (F := Ideal) x0 x1 x2 x3 x4 x5 x6 x7 x8 x9 x10 x11 (ix3 p r l)
      = qe (k0_pay10 (F := Ideal) (k0_pay8 x0 x1 x2) (k0_pay9 x3) x4) x8 x9 r ⟨256 * p.val + l.val, by omega⟩ := by
  generalize hy : (ix3 p r l : S4x512x256.Idx) = y
  have e0 : (y 0 : ℕ) = p.val := by rw [← hy]; rfl
  have e1 : (y 1 : ℕ) = r.val := by rw [← hy]; rfl
  have e2 : (y 2 : ℕ) = l.val := by rw [← hy]; rfl
  clear hy
  canon_tiles x h
  case piece0 =>
    unfold k0_pay35 k0_pay36 k0_pay32
    have pv : p.val = 3 := by omega
    obtain rfl := at3 x 0 r l (by omega) (by omega) (by omega)
    frame_out
    exact (q3 _ _ _ _ _).trans (congrArg _ (Fin.ext (by show 768 + l.val = 256 * p.val + l.val; omega)))
  case piece1 =>
    unfold k0_pay35 k0_pay36 k0_pay32
    have pv : p.val = 2 := by omega
    obtain rfl := at3 x 0 r l (by omega) (by omega) (by omega)
    frame_out
    exact (q2 _ _ _ _ _).trans (congrArg _ (Fin.ext (by show 512 + l.val = 256 * p.val + l.val; omega)))
  case piece2 =>
    unfold k0_pay35 k0_pay36 k0_pay32
    have pv : p.val = 1 := by omega
    obtain rfl := at3 x 0 r l (by omega) (by omega) (by omega)
    frame_out
    exact (q1 _ _ _ _ _).trans (congrArg _ (Fin.ext (by show 256 + l.val = 256 * p.val + l.val; omega)))
  case piece3 =>
    unfold k0_pay35 k0_pay36 k0_pay32
    have pv : p.val = 0 := by omega
    obtain rfl := at3 x 0 r l (by omega) (by omega) (by omega)
    frame_out
    exact (q0 _ _ _ _ _).trans (congrArg _ (Fin.ext (by show l.val = 256 * p.val + l.val; omega)))

/-- The four stores of the keys. -/
theorem k0 (K : FVec Ideal S512x1024 .f32) (v : FVec Ideal S512x1920 .f32) (a b : Vec Ideal S512x128 .f32) (r : Fin 512) (l : Fin 256) :
    k0_pay20 (F := Ideal) K (k0_pay16 v a) (k0_pay17 v) b (ix3 0 r l) = ke K v a b r ⟨l.val, by omega⟩ := by
  pointwise [k0_pay20, k0_pay18, k0_pay16, k0_pay17, ke]
  blk_point []

theorem k1 (K : FVec Ideal S512x1024 .f32) (v : FVec Ideal S512x1920 .f32) (a b : Vec Ideal S512x128 .f32) (r : Fin 512) (l : Fin 256) :
    k0_pay26 (F := Ideal) (k0_pay22 K (k0_pay16 v a) (k0_pay17 v) b) (k0_pay23 K (k0_pay16 v a) (k0_pay17 v) b) (ix3 0 r l) = ke K v a b r ⟨256 + l.val, by omega⟩ := by
  pointwise [k0_pay26, k0_pay22, k0_pay23, k0_pay18, k0_pay16, k0_pay17, ke]
  blk_point []

theorem k2 (K : FVec Ideal S512x1024 .f32) (v : FVec Ideal S512x1920 .f32) (a b : Vec Ideal S512x128 .f32) (r : Fin 512) (l : Fin 256) :
    k0_pay29 (F := Ideal) K (k0_pay18 (k0_pay16 v a) (k0_pay17 v) b) (ix3 0 r l) = ke K v a b r ⟨512 + l.val, by omega⟩ := by
  pointwise [k0_pay29, k0_pay18, k0_pay16, k0_pay17, ke]
  blk_point []

theorem k3 (K : FVec Ideal S512x1024 .f32) (v : FVec Ideal S512x1920 .f32) (a b : Vec Ideal S512x128 .f32) (r : Fin 512) (l : Fin 256) :
    k0_pay3 (F := Ideal) K (k0_pay18 (k0_pay16 v a) (k0_pay17 v) b) (ix3 0 r l) = ke K v a b r ⟨768 + l.val, by omega⟩ := by
  pointwise [k0_pay3, k0_pay18, k0_pay16, k0_pay17, ke]
  blk_point []

/-- The keys' block. -/
theorem k (p : Fin 4) (r : Fin 512) (l : Fin 256) :
    out0_13 (F := Ideal) x0 x1 x2 x3 x4 x5 x6 x7 x8 x9 x10 x11 (ix3 p r l)
      = ke (k0_pay12 (F := Ideal) (k0_pay5 x0 x1 x2) x5 x6) (k0_pay5 (F := Ideal) x0 x1 x2) x10 x11 r ⟨256 * p.val + l.val, by omega⟩ := by
  generalize hy : (ix3 p r l : S4x512x256.Idx) = y
  have e0 : (y 0 : ℕ) = p.val := by rw [← hy]; rfl
  have e1 : (y 1 : ℕ) = r.val := by rw [← hy]; rfl
  have e2 : (y 2 : ℕ) = l.val := by rw [← hy]; rfl
  clear hy
  canon_tiles x h
  case piece0 =>
    unfold k0_pay39 k0_pay38 k0_pay37 k0_pay33 k0_pay31
    have pv : p.val = 3 := by omega
    obtain rfl := at3 x 0 r l (by omega) (by omega) (by omega)
    frame_out
    exact (k3 _ _ _ _ _ _).trans (congrArg _ (Fin.ext (by show 768 + l.val = 256 * p.val + l.val; omega)))
  case piece1 =>
    unfold k0_pay39 k0_pay38 k0_pay37 k0_pay33 k0_pay31
    have pv : p.val = 2 := by omega
    obtain rfl := at3 x 0 r l (by omega) (by omega) (by omega)
    frame_out
    exact (k2 _ _ _ _ _ _).trans (congrArg _ (Fin.ext (by show 512 + l.val = 256 * p.val + l.val; omega)))
  case piece2 =>
    unfold k0_pay38 k0_pay37 k0_pay33 k0_pay31
    have pv : p.val = 1 := by omega
    obtain rfl := at3 x 0 r l (by omega) (by omega) (by omega)
    frame_out
    exact (k1 _ _ _ _ _ _).trans (congrArg _ (Fin.ext (by show 256 + l.val = 256 * p.val + l.val; omega)))
  case piece3 =>
    unfold k0_pay38 k0_pay37 k0_pay33 k0_pay31
    have pv : p.val = 0 := by omega
    obtain rfl := at3 x 0 r l (by omega) (by omega) (by omega)
    frame_out
    exact (k0 _ _ _ _ _ _).trans (congrArg _ (Fin.ext (by show l.val = 256 * p.val + l.val; omega)))

/-- An entry of the values' block. -/
def ve (v : FVec Ideal S512x512 .f32) (r c : Fin 512) : EReal := v (ix2 r c)

/-- The four stores of the values. -/
theorem v0 (v : FVec Ideal S512x512 .f32) (r : Fin 512) (l : Fin 128) :
    k0_pay21 (F := Ideal) v (ix3 0 r l) = ve v r ⟨l.val, by omega⟩ := by
  pointwise [ve, k0_pay21]

theorem v1 (v : FVec Ideal S512x512 .f32) (r : Fin 512) (l : Fin 128) :
    k0_pay27 (F := Ideal) v (ix3 0 r l) = ve v r ⟨128 + l.val, by omega⟩ := by
  pointwise [ve, k0_pay27]

theorem v2 (v : FVec Ideal S512x512 .f32) (r : Fin 512) (l : Fin 128) :
    k0_pay1 (F := Ideal) (k0_pay30 v) (ix3 0 r l) = ve v r ⟨256 + l.val, by omega⟩ := by
  pointwise [ve, k0_pay1, k0_pay30]

theorem v3 (v : FVec Ideal S512x512 .f32) (r : Fin 512) (l : Fin 128) :
    k0_pay4 (F := Ideal) v (ix3 0 r l) = ve v r ⟨384 + l.val, by omega⟩ := by
  pointwise [ve, k0_pay4]

/-- The values' block. -/
theorem v (p : Fin 4) (r : Fin 512) (l : Fin 128) :
    out0_14 (F := Ideal) x0 x1 x2 x3 x4 x5 x6 x7 x8 x9 x10 x11 (ix3 p r l)
      = ve (k0_pay13 (F := Ideal) (k0_pay5 x0 x1 x2) x5 x7) r ⟨128 * p.val + l.val, by omega⟩ := by
  generalize hy : (ix3 p r l : S4x512x128.Idx) = y
  have e0 : (y 0 : ℕ) = p.val := by rw [← hy]; rfl
  have e1 : (y 1 : ℕ) = r.val := by rw [← hy]; rfl
  have e2 : (y 2 : ℕ) = l.val := by rw [← hy]; rfl
  clear hy
  canon_tiles x h
  case piece0 =>
    unfold k0_pay34 k0_pay31
    have pv : p.val = 3 := by omega
    obtain rfl := at3 x 0 r l (by omega) (by omega) (by omega)
    frame_out
    exact (v3 _ _ _).trans (congrArg _ (Fin.ext (by show 384 + l.val = 128 * p.val + l.val; omega)))
  case piece1 =>
    unfold k0_pay34 k0_pay31
    have pv : p.val = 2 := by omega
    obtain rfl := at3 x 0 r l (by omega) (by omega) (by omega)
    frame_out
    exact (v2 _ _ _).trans (congrArg _ (Fin.ext (by show 256 + l.val = 128 * p.val + l.val; omega)))
  case piece2 =>
    unfold k0_pay34 k0_pay31
    have pv : p.val = 1 := by omega
    obtain rfl := at3 x 0 r l (by omega) (by omega) (by omega)
    frame_out
    exact (v1 _ _ _).trans (congrArg _ (Fin.ext (by show 128 + l.val = 128 * p.val + l.val; omega)))
  case piece3 =>
    unfold k0_pay34 k0_pay31
    have pv : p.val = 0 := by omega
    obtain rfl := at3 x 0 r l (by omega) (by omega) (by omega)
    frame_out
    exact (v0 _ _ _).trans (congrArg _ (Fin.ext (by show l.val = 128 * p.val + l.val; omega)))

/-- The recurrence's input branch. -/
theorem xbr (r l : Fin 512) :
    out0_15 (F := Ideal) x0 x1 x2 x3 x4 x5 x6 x7 x8 x9 x10 x11 (ix2 r l)
      = k0_pay5 (F := Ideal) x0 x1 x2 (ix2 r ⟨640 + l.val, by omega⟩) := by
  frame_out
  pointwise [k0_pay6]

/-- The recurrence's gate branch. -/
theorem gbr (r l : Fin 512) :
    out0_16 (F := Ideal) x0 x1 x2 x3 x4 x5 x6 x7 x8 x9 x10 x11 (ix2 r l)
      = k0_pay5 (F := Ideal) x0 x1 x2 (ix2 r ⟨1152 + l.val, by omega⟩) := by
  frame_out
  pointwise [k0_pay7]

end Cert.ProjBlock

end
-- ==== Proof.ProjHost.lean ====
module

public import proofs.«01_k».proof.Proof.Gen.ProjInIdeal.Frame
public import proofs.«01_k».proof.Proof.ProjMath
public import Idealize.ShloMosaic.Lib.Claim
public import Idealize.ShloMosaic.Lib.Pipeline.ReadBack
public import Idealize.ShloMosaic.Lib.StableHlo.RunRead

/-! # The operands the input projection is called with, entry by entry -/

@[expose] public section

set_option maxRecDepth 16384

noncomputable section

namespace Cert.ProjHost

open Idealize.ShloMosaic Idealize.ShloMosaic.TcCoe Idealize.SL.Sem
open Cert.ProjInIdeal Cert.ProjInIdeal.Gen
open Cert.ProjMath (ang)

variable (m : (ℓ : Loc nD τ sig) → Buf (Elt Ideal) ℓ) (c : Dev nD)

/-- The combined weight: the two latents' columns stand first. -/
theorem win_lo (d : Fin 1024) (k : Fin 640) :
    (show Vec Ideal S1024x1920 .bf16 from V m c main_v32) (ix2 d ⟨k.val, by omega⟩) = m ((c : Thread nD τ).loc main_arg2) (ix2 d ⟨k.val, by omega⟩) := by
  unfold V
  after_reads_simp
  try pointwise []
  try simp (disch := omega) only [dif_pos, dif_neg]
  after_reads_simp
  try pointwise []
  try simp (disch := omega) only [dif_pos, dif_neg]
  blk_ext []

/-- The input branch's columns. -/
theorem win_x (d : Fin 1024) (k : Fin 512) :
    (show Vec Ideal S1024x1920 .bf16 from V m c main_v32) (ix2 d ⟨640 + k.val, by omega⟩) = m ((c : Thread nD τ).loc main_arg2) (ix2 d ⟨672 + k.val, by omega⟩) := by
  unfold V
  after_reads_simp
  try pointwise []
  try simp (disch := omega) only [dif_pos, dif_neg]
  after_reads_simp
  try pointwise []
  try simp (disch := omega) only [dif_pos, dif_neg]
  blk_ext []

/-- The gate branch's columns. -/
theorem win_g (d : Fin 1024) (k : Fin 512) :
    (show Vec Ideal S1024x1920 .bf16 from V m c main_v32) (ix2 d ⟨1152 + k.val, by omega⟩) = m ((c : Thread nD τ).loc main_arg2) (ix2 d ⟨1184 + k.val, by omega⟩) := by
  unfold V
  after_reads_simp
  try pointwise []
  try simp (disch := omega) only [dif_pos, dif_neg]
  after_reads_simp
  try pointwise []
  try simp (disch := omega) only [dif_pos, dif_neg]
  blk_ext []

/-- The rotary columns. -/
theorem win_p (d : Fin 1024) (k : Fin 32) :
    (show Vec Ideal S1024x1920 .bf16 from V m c main_v32) (ix2 d ⟨1664 + (64 + k.val), by omega⟩) = m ((c : Thread nD τ).loc main_arg2) (ix2 d ⟨640 + k.val, by omega⟩) := by
  unfold V
  after_reads_simp
  try pointwise []
  try simp (disch := omega) only [dif_pos, dif_neg]
  after_reads_simp
  try pointwise []
  try simp (disch := omega) only [dif_pos, dif_neg]
  blk_ext []

/-- The turned rotary columns: the second half, negated, and the first half. -/
theorem win_r1 (d : Fin 1024) (k : Fin 16) :
    (show Vec Ideal S1024x1920 .bf16 from V m c main_v32) (ix2 d ⟨1792 + (64 + k.val), by omega⟩) = -(show EReal from m ((c : Thread nD τ).loc main_arg2) (ix2 d ⟨656 + k.val, by omega⟩)) := by
  unfold V
  after_reads_simp
  try pointwise []
  try simp (disch := omega) only [dif_pos, dif_neg]
  after_reads_simp
  try pointwise []
  try simp (disch := omega) only [dif_pos, dif_neg]
  refine congrArg (fun v : EReal => -v) (congrArg (m ((c : Thread nD τ).loc main_arg2)) ?_)
  blk_ext []

theorem win_r2 (d : Fin 1024) (k : Fin 16) :
    (show Vec Ideal S1024x1920 .bf16 from V m c main_v32) (ix2 d ⟨1792 + (80 + k.val), by omega⟩) = m ((c : Thread nD τ).loc main_arg2) (ix2 d ⟨640 + k.val, by omega⟩) := by
  unfold V
  after_reads_simp
  try pointwise []
  try simp (disch := omega) only [dif_pos, dif_neg]
  after_reads_simp
  try pointwise []
  try simp (disch := omega) only [dif_pos, dif_neg]
  blk_ext []

/-- The queries' weight, head by head. -/
theorem wq_p (d : Fin 384) (h : Fin 8) (k : Fin 96) :
    (show Vec Ideal S384x2048 .bf16 from V m c main_v34) (ix2 d ⟨128 * h.val + k.val, by omega⟩) = m ((c : Thread nD τ).loc main_arg4) (ix2 d ⟨96 * h.val + k.val, by omega⟩) := by
  unfold V
  after_reads_simp
  try pointwise []
  try simp (disch := omega) only [dif_pos, dif_neg]
  after_reads_simp
  try pointwise []
  try simp (disch := omega) only [dif_pos, dif_neg]
  after_reads_simp
  try pointwise []
  try simp (disch := omega) only [dif_pos, dif_neg]
  blk_ext []

/-- The queries' turned weight: the second rotary half, negated, and the first half. -/
theorem wq_r1 (d : Fin 384) (h : Fin 8) (k : Fin 16) :
    (show Vec Ideal S384x2048 .bf16 from V m c main_v34) (ix2 d ⟨1024 + (128 * h.val + (64 + k.val)), by omega⟩) = -(show EReal from m ((c : Thread nD τ).loc main_arg4) (ix2 d ⟨96 * h.val + (80 + k.val), by omega⟩)) := by
  unfold V
  after_reads_simp
  try pointwise []
  try simp (disch := omega) only [dif_pos, dif_neg]
  after_reads_simp
  try pointwise []
  try simp (disch := omega) only [dif_pos, dif_neg]
  after_reads_simp
  try pointwise []
  try simp (disch := omega) only [dif_pos, dif_neg]
  refine congrArg (fun v : EReal => -v) (congrArg (m ((c : Thread nD τ).loc main_arg4)) ?_)
  blk_ext []

theorem wq_r2 (d : Fin 384) (h : Fin 8) (k : Fin 16) :
    (show Vec Ideal S384x2048 .bf16 from V m c main_v34) (ix2 d ⟨1024 + (128 * h.val + (80 + k.val)), by omega⟩) = m ((c : Thread nD τ).loc main_arg4) (ix2 d ⟨96 * h.val + (64 + k.val), by omega⟩) := by
  unfold V
  after_reads_simp
  try pointwise []
  try simp (disch := omega) only [dif_pos, dif_neg]
  after_reads_simp
  try pointwise []
  try simp (disch := omega) only [dif_pos, dif_neg]
  after_reads_simp
  try pointwise []
  try simp (disch := omega) only [dif_pos, dif_neg]
  blk_ext []

/-- The keys' weight: 64 columns of each head, then zeros. -/
theorem wk_lo (d : Fin 256) (h : Fin 8) (k : Fin 64) :
    (show Vec Ideal S256x1024 .bf16 from V m c main_v36) (ix2 d ⟨128 * h.val + k.val, by omega⟩) = m ((c : Thread nD τ).loc main_arg6) (ix2 d ⟨128 * h.val + k.val, by omega⟩) := by
  unfold V
  after_reads_simp
  try pointwise []
  try simp (disch := omega) only [dif_pos, dif_neg]
  after_reads_simp
  try pointwise []
  try simp (disch := omega) only [dif_pos, dif_neg]
  blk_ext []

theorem wk_hi (d : Fin 256) (h : Fin 8) (k : Fin 64) :
    (show Vec Ideal S256x1024 .bf16 from V m c main_v36) (ix2 d ⟨128 * h.val + (64 + k.val), by omega⟩) = 0 := by
  unfold V
  after_reads_simp
  try pointwise []
  try simp (disch := omega) only [dif_pos, dif_neg]
  after_reads_simp
  try pointwise []
  try simp (disch := omega) only [dif_pos, dif_neg]

/-- The values' weight: the other 64 columns of each head. -/
theorem wv (d : Fin 256) (h : Fin 8) (k : Fin 64) :
    (show Vec Ideal S256x512 .bf16 from V m c main_v37) (ix2 d ⟨64 * h.val + k.val, by omega⟩) = m ((c : Thread nD τ).loc main_arg6) (ix2 d ⟨128 * h.val + (64 + k.val), by omega⟩) := by
  unfold V
  after_reads_simp
  try pointwise []
  try simp (disch := omega) only [dif_pos, dif_neg]
  blk_ext []

/-- The queries' cosine table, which carries the scale. -/
theorem cq_lo (s : Fin 2048) (k : Fin 64) :
    (show Vec Ideal S2048x128 .f32 from V m c main_v66) (ix2 s ⟨k.val, by omega⟩) = Ideal.ofBits .f32 0x3DD105EC#32 := by
  unfold V
  after_reads_simp
  try pointwise []
  try simp (disch := omega) only [dif_pos, dif_neg]
  after_reads_simp
  try pointwise []
  try simp (disch := omega) only [dif_pos, dif_neg]

theorem cq_1 (s : Fin 2048) (k : Fin 16) :
    (show Vec Ideal S2048x128 .f32 from V m c main_v66) (ix2 s ⟨64 + k.val, by omega⟩) = Ideal.cos (ang s.val k.val) * Ideal.ofBits .f32 0x3DD105EC#32 := by
  unfold V
  after_reads_simp
  try pointwise []
  try simp (disch := omega) only [dif_pos, dif_neg]
  after_reads_simp
  try pointwise []
  try simp (disch := omega) only [dif_pos, dif_neg]
  rfl

theorem cq_2 (s : Fin 2048) (k : Fin 16) :
    (show Vec Ideal S2048x128 .f32 from V m c main_v66) (ix2 s ⟨80 + k.val, by omega⟩) = Ideal.cos (ang s.val k.val) * Ideal.ofBits .f32 0x3DD105EC#32 := by
  unfold V
  after_reads_simp
  try pointwise []
  try simp (disch := omega) only [dif_pos, dif_neg]
  after_reads_simp
  try pointwise []
  try simp (disch := omega) only [dif_pos, dif_neg]
  rw [show 80 + k.val - 64 - 16 = k.val by omega]
  rfl

theorem cq_hi (s : Fin 2048) (k : Fin 32) :
    (show Vec Ideal S2048x128 .f32 from V m c main_v66) (ix2 s ⟨96 + k.val, by omega⟩) = 0 := by
  unfold V
  after_reads_simp
  try pointwise []
  try simp (disch := omega) only [dif_pos, dif_neg]
  after_reads_simp
  try pointwise []
  try simp (disch := omega) only [dif_pos, dif_neg]
  rw [zero_mul]

/-- The queries' sine table. -/
theorem sq_lo (s : Fin 2048) (k : Fin 64) :
    (show Vec Ideal S2048x128 .f32 from V m c main_v69) (ix2 s ⟨k.val, by omega⟩) = 0 := by
  unfold V
  after_reads_simp
  try pointwise []
  try simp (disch := omega) only [dif_pos, dif_neg]
  after_reads_simp
  try pointwise []
  try simp (disch := omega) only [dif_pos, dif_neg]
  rw [zero_mul]

theorem sq_1 (s : Fin 2048) (k : Fin 16) :
    (show Vec Ideal S2048x128 .f32 from V m c main_v69) (ix2 s ⟨64 + k.val, by omega⟩) = Ideal.sin (ang s.val k.val) * Ideal.ofBits .f32 0x3DD105EC#32 := by
  unfold V
  after_reads_simp
  try pointwise []
  try simp (disch := omega) only [dif_pos, dif_neg]
  after_reads_simp
  try pointwise []
  try simp (disch := omega) only [dif_pos, dif_neg]
  rfl

theorem sq_2 (s : Fin 2048) (k : Fin 16) :
    (show Vec Ideal S2048x128 .f32 from V m c main_v69) (ix2 s ⟨80 + k.val, by omega⟩) = Ideal.sin (ang s.val k.val) * Ideal.ofBits .f32 0x3DD105EC#32 := by
  unfold V
  after_reads_simp
  try pointwise []
  try simp (disch := omega) only [dif_pos, dif_neg]
  after_reads_simp
  try pointwise []
  try simp (disch := omega) only [dif_pos, dif_neg]
  rw [show 80 + k.val - 64 - 16 = k.val by omega]
  rfl

theorem sq_hi (s : Fin 2048) (k : Fin 32) :
    (show Vec Ideal S2048x128 .f32 from V m c main_v69) (ix2 s ⟨96 + k.val, by omega⟩) = 0 := by
  unfold V
  after_reads_simp
  try pointwise []
  try simp (disch := omega) only [dif_pos, dif_neg]
  after_reads_simp
  try pointwise []
  try simp (disch := omega) only [dif_pos, dif_neg]
  rw [zero_mul]

/-- The keys' cosine table. -/
theorem ck_lo (s : Fin 2048) (k : Fin 64) :
    (show Vec Ideal S2048x128 .f32 from V m c main_v70) (ix2 s ⟨k.val, by omega⟩) = 0 := by
  unfold V
  after_reads_simp
  try pointwise []
  try simp (disch := omega) only [dif_pos, dif_neg]
  after_reads_simp
  try pointwise []
  try simp (disch := omega) only [dif_pos, dif_neg]

theorem ck_1 (s : Fin 2048) (k : Fin 16) :
    (show Vec Ideal S2048x128 .f32 from V m c main_v70) (ix2 s ⟨64 + k.val, by omega⟩) = Ideal.cos (ang s.val k.val) := by
  unfold V
  after_reads_simp
  try pointwise []
  try simp (disch := omega) only [dif_pos, dif_neg]
  after_reads_simp
  try pointwise []
  try simp (disch := omega) only [dif_pos, dif_neg]
  rfl

theorem ck_2 (s : Fin 2048) (k : Fin 16) :
    (show Vec Ideal S2048x128 .f32 from V m c main_v70) (ix2 s ⟨80 + k.val, by omega⟩) = Ideal.cos (ang s.val k.val) := by
  unfold V
  after_reads_simp
  try pointwise []
  try simp (disch := omega) only [dif_pos, dif_neg]
  after_reads_simp
  try pointwise []
  try simp (disch := omega) only [dif_pos, dif_neg]
  rw [show 80 + k.val - 64 - 16 = k.val by omega]
  rfl

theorem ck_hi (s : Fin 2048) (k : Fin 32) :
    (show Vec Ideal S2048x128 .f32 from V m c main_v70) (ix2 s ⟨96 + k.val, by omega⟩) = 0 := by
  unfold V
  after_reads_simp
  try pointwise []
  try simp (disch := omega) only [dif_pos, dif_neg]
  after_reads_simp
  try pointwise []
  try simp (disch := omega) only [dif_pos, dif_neg]

/-- The keys' sine table. -/
theorem sk_lo (s : Fin 2048) (k : Fin 64) :
    (show Vec Ideal S2048x128 .f32 from V m c main_v71) (ix2 s ⟨k.val, by omega⟩) = 0 := by
  unfold V
  after_reads_simp
  try pointwise []
  try simp (disch := omega) only [dif_pos, dif_neg]
  after_reads_simp
  try pointwise []
  try simp (disch := omega) only [dif_pos, dif_neg]

theorem sk_1 (s : Fin 2048) (k : Fin 16) :
    (show Vec Ideal S2048x128 .f32 from V m c main_v71) (ix2 s ⟨64 + k.val, by omega⟩) = Ideal.sin (ang s.val k.val) := by
  unfold V
  after_reads_simp
  try pointwise []
  try simp (disch := omega) only [dif_pos, dif_neg]
  after_reads_simp
  try pointwise []
  try simp (disch := omega) only [dif_pos, dif_neg]
  rfl

theorem sk_2 (s : Fin 2048) (k : Fin 16) :
    (show Vec Ideal S2048x128 .f32 from V m c main_v71) (ix2 s ⟨80 + k.val, by omega⟩) = Ideal.sin (ang s.val k.val) := by
  unfold V
  after_reads_simp
  try pointwise []
  try simp (disch := omega) only [dif_pos, dif_neg]
  after_reads_simp
  try pointwise []
  try simp (disch := omega) only [dif_pos, dif_neg]
  rw [show 80 + k.val - 64 - 16 = k.val by omega]
  rfl

theorem sk_hi (s : Fin 2048) (k : Fin 32) :
    (show Vec Ideal S2048x128 .f32 from V m c main_v71) (ix2 s ⟨96 + k.val, by omega⟩) = 0 := by
  unfold V
  after_reads_simp
  try pointwise []
  try simp (disch := omega) only [dif_pos, dif_neg]
  after_reads_simp
  try pointwise []
  try simp (disch := omega) only [dif_pos, dif_neg]

/-- The input's norm weights, as a row. -/
theorem n1 (d : Fin 1024) :
    (show Vec Ideal S1x1024 .f32 from V m c main_v31) (ix2 0 d) = m ((c : Thread nD τ).loc main_arg1) (ix1 d) := by
  unfold V
  after_reads_simp
  pointwise []
  blk_ext []

/-- The query latent's norm weights, as a row. -/
theorem nq (d : Fin 384) :
    (show Vec Ideal S1x384 .f32 from V m c main_v33) (ix2 0 d) = m ((c : Thread nD τ).loc main_arg3) (ix1 d) := by
  unfold V
  after_reads_simp
  pointwise []
  blk_ext []

/-- The key and value latent's norm weights, as a row. -/
theorem nk (d : Fin 256) :
    (show Vec Ideal S1x256 .f32 from V m c main_v35) (ix2 0 d) = m ((c : Thread nD τ).loc main_arg5) (ix1 d) := by
  unfold V
  after_reads_simp
  pointwise []
  blk_ext []

end Cert.ProjHost

end
-- ==== Proof.ProjRefRead.lean ====
module

public import proofs.«01_k».proof.Proof.Gen.ProjInRefIdeal.Read
public import proofs.«01_k».proof.Proof.ProjMath
public import Idealize.ShloMosaic.Lib.KernelVsHost

/-! # The projection reference, entry by entry -/

@[expose] public section

set_option maxRecDepth 16384

noncomputable section

namespace Cert.ProjRefRead

open Idealize.ShloMosaic Idealize.ShloMosaic.TcCoe Idealize.SL.Sem
open Cert.ProjInRefIdeal Cert.ProjInRefIdeal.Read
open Cert.ProjMath (nrm lin ang)

variable (x0 : (⟨S65536x1024, .f32⟩ : BufTy).Contents (Elt Ideal)) (x1 : (⟨S1024, .f32⟩ : BufTy).Contents (Elt Ideal))
  (x2 : (⟨S1024x1696, .f32⟩ : BufTy).Contents (Elt Ideal)) (x3 : (⟨S384, .f32⟩ : BufTy).Contents (Elt Ideal))
  (x4 : (⟨S384x768, .f32⟩ : BufTy).Contents (Elt Ideal)) (x5 : (⟨S256, .f32⟩ : BufTy).Contents (Elt Ideal))
  (x6 : (⟨S256x1024, .f32⟩ : BufTy).Contents (Elt Ideal))

/-- The normed input row. -/
def fin (n : Fin 65536) (d : Fin 1024) : EReal :=
  nrm (Ideal.ofBits .f32 0x44800000#32) (fun l : Fin 1024 => x0 (ix2 n l)) (fun l : Fin 1024 => x1 (ix1 l)) d

/-- An entry of the combined projection. -/
def zz (n : Fin 65536) (c : Fin 1696) : EReal := lin (fin x0 x1 n) (fun d : Fin 1024 => x2 (ix2 d c))

/-- The normed query latent. -/
def fq (n : Fin 65536) (d : Fin 384) : EReal :=
  nrm (Ideal.ofBits .f32 0x43C00000#32) (fun l : Fin 384 => zz x0 x1 x2 n ⟨l.val, by omega⟩) (fun l : Fin 384 => x3 (ix1 l)) d

/-- The normed key and value latent. -/
def fk (n : Fin 65536) (d : Fin 256) : EReal :=
  nrm (Ideal.ofBits .f32 0x43800000#32) (fun l : Fin 256 => zz x0 x1 x2 n ⟨384 + l.val, by omega⟩) (fun l : Fin 256 => x5 (ix1 l)) d

/-- An entry of the queries before the turn. -/
def qu (n : Fin 65536) (c : Fin 768) : EReal := lin (fq x0 x1 x2 x3 n) (fun d : Fin 384 => x4 (ix2 d c))

/-- An entry of the keys and values. -/
def ku (n : Fin 65536) (c : Fin 1024) : EReal := lin (fk x0 x1 x2 x5 n) (fun d : Fin 256 => x6 (ix2 d c))

theorem z (n : Fin 65536) (c : Fin 1696) : val_main_v13 (F := Ideal) x0 x1 x2 (ix2 n c) = zz x0 x1 x2 n c := by
  have h : ∀ d : Fin 1024, val_main_v12 (F := Ideal) x0 x1 (ix2 n d) = fin x0 x1 n d := fun d => by
    pointwise [val_main_v12, val_main_v11, val_main_v10, val_main_v9, val_main_v8, val_main_v7, val_main_v6, val_main_v5, val_main_v4,
      val_main_v3, val_main_v2, val_main_v1, val_main_v0, val_main_cst, val_main_cst_0, val_main_cst_1, fin, nrm]
  unfold zz lin
  simp only [← h]
  unfold val_main_v13
  generalize val_main_v12 (F := Ideal) x0 x1 = f
  pointwise []

theorem qup (n : Fin 65536) (c : Fin 768) : val_main_v32 (F := Ideal) x0 x1 x2 x3 x4 (ix2 n c) = qu x0 x1 x2 x3 x4 n c := by
  have h : ∀ d : Fin 384, val_main_v31 (F := Ideal) x0 x1 x2 x3 (ix2 n d) = fq x0 x1 x2 x3 n d := fun d => by
    unfold fq
    simp only [← z]
    unfold val_main_v31 val_main_v28 val_main_v27 val_main_v26 val_main_v25 val_main_v23 val_main_v21 val_main_v20 val_main_v19 val_main_v14
    generalize val_main_v13 (F := Ideal) x0 x1 x2 = v
    pointwise [val_main_v30, val_main_v29, val_main_v24, val_main_v22, val_main_cst_2, val_main_cst_3, val_main_cst_4, nrm]
  unfold qu lin
  simp only [← h]
  unfold val_main_v32
  generalize val_main_v31 (F := Ideal) x0 x1 x2 x3 = f
  pointwise []

theorem kup (n : Fin 65536) (c : Fin 1024) : val_main_v47 (F := Ideal) x0 x1 x2 x5 x6 (ix2 n c) = ku x0 x1 x2 x5 x6 n c := by
  have h : ∀ d : Fin 256, val_main_v46 (F := Ideal) x0 x1 x2 x5 (ix2 n d) = fk x0 x1 x2 x5 n d := fun d => by
    unfold fk
    simp only [← z]
    unfold val_main_v46 val_main_v43 val_main_v42 val_main_v41 val_main_v40 val_main_v38 val_main_v36 val_main_v35 val_main_v34 val_main_v15
    generalize val_main_v13 (F := Ideal) x0 x1 x2 = v
    pointwise [val_main_v45, val_main_v44, val_main_v39, val_main_v37, val_main_cst_5, val_main_cst_6, val_main_cst_7, nrm]
  unfold ku lin
  simp only [← h]
  unfold val_main_v47
  generalize val_main_v46 (F := Ideal) x0 x1 x2 x5 = f
  pointwise []

/-- The table of cosines. -/
theorem cos (s : Fin 2048) (k : Fin 16) : val_main_v67 (F := Ideal) (ix4 0 s 0 k) = Ideal.cos (ang s.val k.val) := by
  pointwise [val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_v50, val_main_v49,
    val_main_cst_8, val_main_cst_9, val_main_cst_10, val_main_cst_11, val_main_cst_12, ang]

/-- The table of sines. -/
theorem sin (s : Fin 2048) (k : Fin 16) : val_main_v69 (F := Ideal) (ix4 0 s 0 k) = Ideal.sin (ang s.val k.val) := by
  pointwise [val_main_v69, val_main_v68, val_main_v65, val_main_v64, val_main_v63, val_main_v62, val_main_v61, val_main_v60, val_main_v59,
    val_main_v58, val_main_v57, val_main_v56, val_main_v55, val_main_v54, val_main_v53, val_main_v52, val_main_v51, val_main_v50, val_main_v49,
    val_main_cst_8, val_main_cst_9, val_main_cst_10, val_main_cst_11, val_main_cst_12, ang]

/-- The queries by head. -/
theorem qhead (b : Fin 32) (s : Fin 2048) (h : Fin 8) (j : Fin 96) :
    val_main_v33 (F := Ideal) x0 x1 x2 x3 x4 (ix4 b s h j)
      = qu x0 x1 x2 x3 x4 ⟨2048 * b.val + s.val, by omega⟩ ⟨96 * h.val + j.val, by omega⟩ := by
  rw [← qup]
  unfold val_main_v33
  generalize val_main_v32 (F := Ideal) x0 x1 x2 x3 x4 = v
  pointwise []
  blk_ext []

/-- The keys and values by head. -/
theorem khead (b : Fin 32) (s : Fin 2048) (h : Fin 8) (j : Fin 128) :
    val_main_v48 (F := Ideal) x0 x1 x2 x5 x6 (ix4 b s h j)
      = ku x0 x1 x2 x5 x6 ⟨2048 * b.val + s.val, by omega⟩ ⟨128 * h.val + j.val, by omega⟩ := by
  rw [← kup]
  unfold val_main_v48
  generalize val_main_v47 (F := Ideal) x0 x1 x2 x5 x6 = v
  pointwise []
  blk_ext []

/-- The key's rotary part. -/
theorem krope (b : Fin 32) (s : Fin 2048) (j : Fin 32) :
    val_main_v84 (F := Ideal) x0 x1 x2 (ix4 b s 0 j) = zz x0 x1 x2 ⟨2048 * b.val + s.val, by omega⟩ ⟨640 + j.val, by omega⟩ := by
  rw [← z]
  unfold val_main_v84 val_main_v16
  generalize val_main_v13 (F := Ideal) x0 x1 x2 = v
  pointwise []
  blk_ext []

/-- The first 64 lanes of a query head: the scaled projection. -/
theorem q_lo (b : Fin 32) (s : Fin 2048) (h : Fin 8) (k : Fin 64) :
    val_main_v108 (F := Ideal) x0 x1 x2 x3 x4 (ix4 b s h ⟨k.val, by omega⟩)
      = qu x0 x1 x2 x3 x4 ⟨2048 * b.val + s.val, by omega⟩ ⟨96 * h.val + k.val, by omega⟩ * Ideal.ofBits .f32 0x3DD105EC#32 := by
  rw [show qu x0 x1 x2 x3 x4 ⟨2048 * b.val + s.val, by omega⟩ ⟨96 * h.val + k.val, by omega⟩ = _ from (qhead x0 x1 x2 x3 x4 b s h ⟨k.val, by omega⟩).symm]
  unfold val_main_v108 val_main_v101 val_main_v99 val_main_v98
  generalize val_main_v33 (F := Ideal) x0 x1 x2 x3 x4 = v
  generalize val_main_v83 (F := Ideal) x0 x1 x2 x3 x4 = w
  pointwise [val_main_v100, val_main_cst_13]
  simp (disch := omega) only [dif_pos, dif_neg]

/-- The first half of the turned lanes of a query head. -/
theorem q_1 (b : Fin 32) (s : Fin 2048) (h : Fin 8) (k : Fin 16) :
    val_main_v108 (F := Ideal) x0 x1 x2 x3 x4 (ix4 b s h ⟨64 + k.val, by omega⟩)
      = (qu x0 x1 x2 x3 x4 ⟨2048 * b.val + s.val, by omega⟩ ⟨96 * h.val + (64 + k.val), by omega⟩ * Ideal.cos (ang s.val k.val)
        - qu x0 x1 x2 x3 x4 ⟨2048 * b.val + s.val, by omega⟩ ⟨96 * h.val + (80 + k.val), by omega⟩ * Ideal.sin (ang s.val k.val)) * Ideal.ofBits .f32 0x3DD105EC#32 := by
  rw [show qu x0 x1 x2 x3 x4 ⟨2048 * b.val + s.val, by omega⟩ ⟨96 * h.val + (64 + k.val), by omega⟩ = _ from (qhead x0 x1 x2 x3 x4 b s h ⟨64 + k.val, by omega⟩).symm,
    show qu x0 x1 x2 x3 x4 ⟨2048 * b.val + s.val, by omega⟩ ⟨96 * h.val + (80 + k.val), by omega⟩ = _ from (qhead x0 x1 x2 x3 x4 b s h ⟨80 + k.val, by omega⟩).symm,
    ← cos s k, ← sin s k]
  unfold val_main_v108 val_main_v101 val_main_v99 val_main_v98 val_main_v83 val_main_v82 val_main_v81 val_main_v80 val_main_v79 val_main_v78
    val_main_v77 val_main_v76 val_main_v75 val_main_v74 val_main_v73 val_main_v72 val_main_v71 val_main_v70
  generalize val_main_v33 (F := Ideal) x0 x1 x2 x3 x4 = v
  generalize val_main_v67 (F := Ideal) = c
  generalize val_main_v69 (F := Ideal) = d
  pointwise [val_main_v100, val_main_cst_13]
  simp (disch := omega) only [dif_pos, dif_neg]
  blk_point []

/-- The second half of the turned lanes of a query head. -/
theorem q_2 (b : Fin 32) (s : Fin 2048) (h : Fin 8) (k : Fin 16) :
    val_main_v108 (F := Ideal) x0 x1 x2 x3 x4 (ix4 b s h ⟨80 + k.val, by omega⟩)
      = (qu x0 x1 x2 x3 x4 ⟨2048 * b.val + s.val, by omega⟩ ⟨96 * h.val + (80 + k.val), by omega⟩ * Ideal.cos (ang s.val k.val)
        + qu x0 x1 x2 x3 x4 ⟨2048 * b.val + s.val, by omega⟩ ⟨96 * h.val + (64 + k.val), by omega⟩ * Ideal.sin (ang s.val k.val)) * Ideal.ofBits .f32 0x3DD105EC#32 := by
  rw [show qu x0 x1 x2 x3 x4 ⟨2048 * b.val + s.val, by omega⟩ ⟨96 * h.val + (64 + k.val), by omega⟩ = _ from (qhead x0 x1 x2 x3 x4 b s h ⟨64 + k.val, by omega⟩).symm,
    show qu x0 x1 x2 x3 x4 ⟨2048 * b.val + s.val, by omega⟩ ⟨96 * h.val + (80 + k.val), by omega⟩ = _ from (qhead x0 x1 x2 x3 x4 b s h ⟨80 + k.val, by omega⟩).symm,
    ← cos s k, ← sin s k]
  unfold val_main_v108 val_main_v101 val_main_v99 val_main_v98 val_main_v83 val_main_v82 val_main_v81 val_main_v80 val_main_v79 val_main_v78
    val_main_v77 val_main_v76 val_main_v75 val_main_v74 val_main_v73 val_main_v72 val_main_v71 val_main_v70
  generalize val_main_v33 (F := Ideal) x0 x1 x2 x3 x4 = v
  generalize val_main_v67 (F := Ideal) = c
  generalize val_main_v69 (F := Ideal) = d
  pointwise [val_main_v100, val_main_cst_13]
  simp (disch := omega) only [dif_pos, dif_neg]
  blk_point []

/-- The padded lanes of a query head. -/
theorem q_hi (b : Fin 32) (s : Fin 2048) (h : Fin 8) (k : Fin 32) :
    val_main_v108 (F := Ideal) x0 x1 x2 x3 x4 (ix4 b s h ⟨96 + k.val, by omega⟩) = 0 := by
  unfold val_main_v108
  generalize val_main_v101 (F := Ideal) x0 x1 x2 x3 x4 = w
  pointwise [val_main_call0_v0, val_main_c]
  exact sitofp_zero (φ := .f32)

/-- The first 64 lanes of a key head. -/
theorem k_lo (b : Fin 32) (s : Fin 2048) (h : Fin 8) (k : Fin 64) :
    val_main_v112 (F := Ideal) x0 x1 x2 x5 x6 (ix4 b s h ⟨k.val, by omega⟩)
      = ku x0 x1 x2 x5 x6 ⟨2048 * b.val + s.val, by omega⟩ ⟨128 * h.val + k.val, by omega⟩ := by
  rw [show ku x0 x1 x2 x5 x6 ⟨2048 * b.val + s.val, by omega⟩ ⟨128 * h.val + k.val, by omega⟩ = _ from (khead x0 x1 x2 x5 x6 b s h ⟨k.val, by omega⟩).symm]
  unfold val_main_v112 val_main_v104 val_main_v102
  generalize val_main_v48 (F := Ideal) x0 x1 x2 x5 x6 = v
  generalize val_main_v103 (F := Ideal) x0 x1 x2 = w
  pointwise []
  simp (disch := omega) only [dif_pos, dif_neg]

/-- The first half of the turned lanes of a key head. -/
theorem k_1 (b : Fin 32) (s : Fin 2048) (h : Fin 8) (k : Fin 16) :
    val_main_v112 (F := Ideal) x0 x1 x2 x5 x6 (ix4 b s h ⟨64 + k.val, by omega⟩)
      = zz x0 x1 x2 ⟨2048 * b.val + s.val, by omega⟩ ⟨640 + k.val, by omega⟩ * Ideal.cos (ang s.val k.val) - zz x0 x1 x2 ⟨2048 * b.val + s.val, by omega⟩ ⟨656 + k.val, by omega⟩ * Ideal.sin (ang s.val k.val) := by
  rw [show zz x0 x1 x2 ⟨2048 * b.val + s.val, by omega⟩ ⟨640 + k.val, by omega⟩ = _ from (krope x0 x1 x2 b s ⟨k.val, by omega⟩).symm,
    show zz x0 x1 x2 ⟨2048 * b.val + s.val, by omega⟩ ⟨656 + k.val, by omega⟩ = val_main_v84 (F := Ideal) x0 x1 x2 (ix4 b s 0 ⟨16 + k.val, by omega⟩) from
      (congrArg (zz x0 x1 x2 _) (Fin.ext (by show 656 + k.val = 640 + (16 + k.val); omega))).trans (krope x0 x1 x2 b s ⟨16 + k.val, by omega⟩).symm,
    ← cos s k, ← sin s k]
  unfold val_main_v112 val_main_v104 val_main_v103 val_main_v97 val_main_v96 val_main_v95 val_main_v94 val_main_v93 val_main_v92
    val_main_v91 val_main_v90 val_main_v89 val_main_v88 val_main_v87 val_main_v86 val_main_v85
  generalize val_main_v102 (F := Ideal) x0 x1 x2 x5 x6 = u
  generalize val_main_v84 (F := Ideal) x0 x1 x2 = v
  generalize val_main_v67 (F := Ideal) = c
  generalize val_main_v69 (F := Ideal) = d
  pointwise []
  simp (disch := omega) only [dif_pos, dif_neg]

/-- The second half of the turned lanes of a key head. -/
theorem k_2 (b : Fin 32) (s : Fin 2048) (h : Fin 8) (k : Fin 16) :
    val_main_v112 (F := Ideal) x0 x1 x2 x5 x6 (ix4 b s h ⟨80 + k.val, by omega⟩)
      = zz x0 x1 x2 ⟨2048 * b.val + s.val, by omega⟩ ⟨656 + k.val, by omega⟩ * Ideal.cos (ang s.val k.val) + zz x0 x1 x2 ⟨2048 * b.val + s.val, by omega⟩ ⟨640 + k.val, by omega⟩ * Ideal.sin (ang s.val k.val) := by
  rw [show zz x0 x1 x2 ⟨2048 * b.val + s.val, by omega⟩ ⟨640 + k.val, by omega⟩ = _ from (krope x0 x1 x2 b s ⟨k.val, by omega⟩).symm,
    show zz x0 x1 x2 ⟨2048 * b.val + s.val, by omega⟩ ⟨656 + k.val, by omega⟩ = val_main_v84 (F := Ideal) x0 x1 x2 (ix4 b s 0 ⟨16 + k.val, by omega⟩) from
      (congrArg (zz x0 x1 x2 _) (Fin.ext (by show 656 + k.val = 640 + (16 + k.val); omega))).trans (krope x0 x1 x2 b s ⟨16 + k.val, by omega⟩).symm,
    ← cos s k, ← sin s k]
  unfold val_main_v112 val_main_v104 val_main_v103 val_main_v97 val_main_v96 val_main_v95 val_main_v94 val_main_v93 val_main_v92
    val_main_v91 val_main_v90 val_main_v89 val_main_v88 val_main_v87 val_main_v86 val_main_v85
  generalize val_main_v102 (F := Ideal) x0 x1 x2 x5 x6 = u
  generalize val_main_v84 (F := Ideal) x0 x1 x2 = v
  generalize val_main_v67 (F := Ideal) = c
  generalize val_main_v69 (F := Ideal) = d
  pointwise []
  simp (disch := omega) only [dif_pos, dif_neg]
  blk_point []

/-- The padded lanes of a key head. -/
theorem k_hi (b : Fin 32) (s : Fin 2048) (h : Fin 8) (k : Fin 32) :
    val_main_v112 (F := Ideal) x0 x1 x2 x5 x6 (ix4 b s h ⟨96 + k.val, by omega⟩) = 0 := by
  unfold val_main_v112
  generalize val_main_v104 (F := Ideal) x0 x1 x2 x5 x6 = w
  pointwise [val_main_call1_v0, val_main_c_14]
  exact sitofp_zero (φ := .f32)

/-- The query result, two heads in a row. -/
theorem q_at (p : Fin 4) (n : Fin 65536) (l : Fin 256) :
    val_main_v111 (F := Ideal) x0 x1 x2 x3 x4 (ix3 p n l)
      = val_main_v108 (F := Ideal) x0 x1 x2 x3 x4 (ix4 ⟨n.val / 2048, by omega⟩ ⟨n.val % 2048, by omega⟩
          ⟨2 * p.val + l.val / 128, by omega⟩ ⟨l.val % 128, by omega⟩) := by
  unfold val_main_v111 val_main_v110 val_main_v109
  generalize val_main_v108 (F := Ideal) x0 x1 x2 x3 x4 = w
  pointwise []
  blk_ext []

/-- The key result, two heads in a row. -/
theorem k_at (p : Fin 4) (n : Fin 65536) (l : Fin 256) :
    val_main_v115 (F := Ideal) x0 x1 x2 x5 x6 (ix3 p n l)
      = val_main_v112 (F := Ideal) x0 x1 x2 x5 x6 (ix4 ⟨n.val / 2048, by omega⟩ ⟨n.val % 2048, by omega⟩
          ⟨2 * p.val + l.val / 128, by omega⟩ ⟨l.val % 128, by omega⟩) := by
  unfold val_main_v115 val_main_v114 val_main_v113
  generalize val_main_v112 (F := Ideal) x0 x1 x2 x5 x6 = w
  pointwise []
  blk_ext []

/-- The value result, two heads in a row. -/
theorem v_at (p : Fin 4) (n : Fin 65536) (l : Fin 128) :
    val_main_v116 (F := Ideal) x0 x1 x2 x5 x6 (ix3 p n l)
      = ku x0 x1 x2 x5 x6 n ⟨128 * (2 * p.val + l.val / 64) + (64 + l.val % 64), by omega⟩ := by
  have h := khead x0 x1 x2 x5 x6 ⟨n.val / 2048, by omega⟩ ⟨n.val % 2048, by omega⟩ ⟨2 * p.val + l.val / 64, by omega⟩
    ⟨64 + l.val % 64, by omega⟩
  refine Eq.trans ?_ (h.trans (congrArg (fun n => ku x0 x1 x2 x5 x6 n _) (Fin.ext (by show 2048 * (n.val / 2048) + n.val % 2048 = n.val; omega))))
  unfold val_main_v116 val_main_v107 val_main_v106 val_main_v105
  generalize val_main_v48 (F := Ideal) x0 x1 x2 x5 x6 = w
  pointwise []
  blk_ext []

/-- The input branch. -/
theorem x_at (n : Fin 65536) (l : Fin 512) :
    val_main_v117 (F := Ideal) x0 x1 x2 (ix2 n l) = zz x0 x1 x2 n ⟨672 + l.val, by omega⟩ := by
  rw [← z]
  unfold val_main_v117 val_main_v17
  generalize val_main_v13 (F := Ideal) x0 x1 x2 = v
  pointwise []
  blk_ext []

/-- The gate branch. -/
theorem g_at (n : Fin 65536) (l : Fin 512) :
    val_main_v118 (F := Ideal) x0 x1 x2 (ix2 n l) = zz x0 x1 x2 n ⟨1184 + l.val, by omega⟩ := by
  rw [← z]
  unfold val_main_v118 val_main_v18
  generalize val_main_v13 (F := Ideal) x0 x1 x2 = v
  pointwise []
  blk_ext []

end Cert.ProjRefRead

end
-- ==== Proof.ProjRow.lean ====
module

public import proofs.«01_k».proof.Proof.ProjRead
public import proofs.«01_k».proof.Proof.ProjBlock
public import proofs.«01_k».proof.Proof.ProjHost
public import proofs.«01_k».proof.Proof.ProjRefRead

/-! # One row of a grid point, against the reference's row of the same token -/

@[expose] public section

set_option maxRecDepth 16384

noncomputable section

namespace Cert.ProjRow

open Idealize.ShloMosaic Idealize.ShloMosaic.TcCoe Idealize.SL.Sem
open Cert.ProjInIdeal Cert.ProjInIdeal.Gen
open Cert.ProjMath (nrm lin ang lin_congr lin_neg lin_zero nrm_real turn_fst turn_snd scale_nonneg)
open Cert.ProjRefRead (zz fq fk qu ku)

variable (m : (ℓ : Loc nD τ sig) → Buf (Elt Ideal) ℓ) (c : Dev nD)

/-- The constants the rows are divided by. -/
theorem c1024 : Ideal.ofBits .f32 0x44800000#32 = ((1024 : ℝ) : EReal) := by
  simp [Ideal.ofBits, Ideal.ieee]; norm_num
  rw [← EReal.coe_mul]; norm_num

theorem c384 : Ideal.ofBits .f32 0x43C00000#32 = ((384 : ℝ) : EReal) := by
  simp [Ideal.ofBits, Ideal.ieee]; norm_num
  rw [← EReal.coe_mul]; norm_num

/-- The queries' scale is a nonnegative real number. -/
theorem scale : 0 ≤ Ideal.ofBits .f32 0x3DD105EC#32 ∧ Ideal.ofBits .f32 0x3DD105EC#32 ≠ ⊤ := by
  refine scale_nonneg _ _ ?_ (by simp [Ideal.ofBits, Ideal.ieee]; rfl)
  positivity

/-- An entry of the queries' block by head and lane, from the four numbers it is made of. -/
theorem qe_at (Q : FVec Ideal S512x2048 .f32) (x y : Vec Ideal S512x128 .f32) (r : Fin 512) (h : Fin 8) (j : Fin 128) {u v p : EReal}
    (hp : Q (ix2 r ⟨128 * h.val + j.val, by omega⟩) = p) (hu : x (ix2 r j) = u)
    (hv : y (ix2 r j) = v) :
    ProjBlock.qe Q x y r ⟨128 * h.val + j.val, by omega⟩
      = p * u + Q (ix2 r ⟨1024 + (128 * h.val + j.val), by omega⟩) * v := by
  have e : (⟨(128 * h.val + j.val) % 128, by omega⟩ : Fin 128) = j := Fin.ext (by show (128 * h.val + j.val) % 128 = j.val; omega)
  unfold ProjBlock.qe
  rw [e, hp, hu, hv]

/-- An entry of the keys' block by head and lane, from the numbers it is made of. -/
theorem ke_at (K : FVec Ideal S512x1024 .f32) (z : FVec Ideal S512x1920 .f32) (x y : Vec Ideal S512x128 .f32) (r : Fin 512) (h : Fin 8)
    (j : Fin 128) {u v p : EReal} (hp : K (ix2 r ⟨128 * h.val + j.val, by omega⟩) = p) (hu : x (ix2 r j) = u) (hv : y (ix2 r j) = v) :
    ProjBlock.ke K z x y r ⟨128 * h.val + j.val, by omega⟩
      = p + (z (ix2 r ⟨1664 + j.val, by omega⟩) * u + z (ix2 r ⟨1792 + j.val, by omega⟩) * v) := by
  have e : (128 * h.val + j.val) % 128 = j.val := by omega
  unfold ProjBlock.ke
  simp only [e]
  rw [hp, hu, hv]

/-- The weights whose columns the kernel negates, and the norms those columns meet, are real. -/
def Real : Prop :=
  (∀ (d : Fin 1024) (k : Fin 16), (show EReal from m ((c : Thread nD τ).loc main_arg2) (ix2 d ⟨656 + k.val, by omega⟩)) ≠ ⊥
      ∧ (show EReal from m ((c : Thread nD τ).loc main_arg2) (ix2 d ⟨656 + k.val, by omega⟩)) ≠ ⊤)
    ∧ (∀ d : Fin 1024, (show EReal from m ((c : Thread nD τ).loc main_arg1) (ix1 d)) ≠ ⊥
      ∧ (show EReal from m ((c : Thread nD τ).loc main_arg1) (ix1 d)) ≠ ⊤)
    ∧ (∀ (d : Fin 384) (h : Fin 8) (k : Fin 16),
      (show EReal from m ((c : Thread nD τ).loc main_arg4) (ix2 d ⟨96 * h.val + (80 + k.val), by omega⟩)) ≠ ⊥
      ∧ (show EReal from m ((c : Thread nD τ).loc main_arg4) (ix2 d ⟨96 * h.val + (80 + k.val), by omega⟩)) ≠ ⊤)
    ∧ ∀ d : Fin 384, (show EReal from m ((c : Thread nD τ).loc main_arg3) (ix1 d)) ≠ ⊥
      ∧ (show EReal from m ((c : Thread nD τ).loc main_arg3) (ix1 d)) ≠ ⊤

variable (t : Fin cfg0.N) (r : Fin 512) (b : Fin 32) (s : Fin 2048) (hn : 512 * t.val + r.val = 2048 * b.val + s.val)

include hn

/-- A column of the combined projection. -/
theorem z_lin (k : Fin 1920) (w : Fin 1024 → EReal) (hw : ∀ d, (show Vec Ideal S1024x1920 .bf16 from V m c main_v32) (ix2 d k) = w d) :
    k0_pay5 (F := Ideal) (iblk m c 0 t) (iblk m c 1 t) (iblk m c 2 t) (ix2 r k) = lin (Cert.ProjRefRead.fin (m ((c : Thread nD τ).loc main_arg0)) (m ((c : Thread nD τ).loc main_arg1)) ⟨2048 * b.val + s.val, by omega⟩) w :=
  (ProjBlock.z _ _ _ r k).trans <| lin_congr
    (fun d => congrArg₂ (fun x g => nrm _ x g d) (funext fun l => ProjRead.b0 m c t r b s hn l)
      (funext fun l => (ProjRead.b1 m c t l).trans (ProjHost.n1 m c l)))
    fun d => (ProjRead.b2 m c t d k).trans (hw d)

/-- The two latents' columns. -/
theorem z_lo (k : Fin 640) : k0_pay5 (F := Ideal) (iblk m c 0 t) (iblk m c 1 t) (iblk m c 2 t) (ix2 r ⟨k.val, by omega⟩) = zz (m ((c : Thread nD τ).loc main_arg0)) (m ((c : Thread nD τ).loc main_arg1)) (m ((c : Thread nD τ).loc main_arg2)) ⟨2048 * b.val + s.val, by omega⟩ ⟨k.val, by omega⟩ :=
  z_lin m c t r b s hn _ _ fun d => ProjHost.win_lo m c d k

/-- The input branch. -/
theorem z_x (k : Fin 512) : k0_pay5 (F := Ideal) (iblk m c 0 t) (iblk m c 1 t) (iblk m c 2 t) (ix2 r ⟨640 + k.val, by omega⟩) = zz (m ((c : Thread nD τ).loc main_arg0)) (m ((c : Thread nD τ).loc main_arg1)) (m ((c : Thread nD τ).loc main_arg2)) ⟨2048 * b.val + s.val, by omega⟩ ⟨672 + k.val, by omega⟩ :=
  z_lin m c t r b s hn _ _ fun d => ProjHost.win_x m c d k

/-- The gate branch. -/
theorem z_g (k : Fin 512) : k0_pay5 (F := Ideal) (iblk m c 0 t) (iblk m c 1 t) (iblk m c 2 t) (ix2 r ⟨1152 + k.val, by omega⟩) = zz (m ((c : Thread nD τ).loc main_arg0)) (m ((c : Thread nD τ).loc main_arg1)) (m ((c : Thread nD τ).loc main_arg2)) ⟨2048 * b.val + s.val, by omega⟩ ⟨1184 + k.val, by omega⟩ :=
  z_lin m c t r b s hn _ _ fun d => ProjHost.win_g m c d k

/-- The rotary key. -/
theorem z_p (k : Fin 32) : k0_pay5 (F := Ideal) (iblk m c 0 t) (iblk m c 1 t) (iblk m c 2 t) (ix2 r ⟨1664 + (64 + k.val), by omega⟩) = zz (m ((c : Thread nD τ).loc main_arg0)) (m ((c : Thread nD τ).loc main_arg1)) (m ((c : Thread nD τ).loc main_arg2)) ⟨2048 * b.val + s.val, by omega⟩ ⟨640 + k.val, by omega⟩ :=
  z_lin m c t r b s hn _ _ fun d => ProjHost.win_p m c d k

/-- The turned rotary key: the second half, negated. -/
theorem z_r1 (hr : Real m c) (k : Fin 16) :
    k0_pay5 (F := Ideal) (iblk m c 0 t) (iblk m c 1 t) (iblk m c 2 t) (ix2 r ⟨1792 + (64 + k.val), by omega⟩) = -zz (m ((c : Thread nD τ).loc main_arg0)) (m ((c : Thread nD τ).loc main_arg1)) (m ((c : Thread nD τ).loc main_arg2)) ⟨2048 * b.val + s.val, by omega⟩ ⟨656 + k.val, by omega⟩ :=
  (z_lin m c t r b s hn _ _ fun d => ProjHost.win_r1 m c d k).trans
    (lin_neg _ _ (nrm_real _ 1024 (by norm_num) c1024 _ _ hr.2.1) fun d => hr.1 d k)

/-- The turned rotary key: the first half. -/
theorem z_r2 (k : Fin 16) : k0_pay5 (F := Ideal) (iblk m c 0 t) (iblk m c 1 t) (iblk m c 2 t) (ix2 r ⟨1792 + (80 + k.val), by omega⟩) = zz (m ((c : Thread nD τ).loc main_arg0)) (m ((c : Thread nD τ).loc main_arg1)) (m ((c : Thread nD τ).loc main_arg2)) ⟨2048 * b.val + s.val, by omega⟩ ⟨640 + k.val, by omega⟩ :=
  z_lin m c t r b s hn _ _ fun d => ProjHost.win_r2 m c d k

/-- A column of the queries. -/
theorem q_lin (k : Fin 2048) (w : Fin 384 → EReal) (hw : ∀ d, (show Vec Ideal S384x2048 .bf16 from V m c main_v34) (ix2 d k) = w d) :
    k0_pay10 (F := Ideal) (k0_pay8 (iblk m c 0 t) (iblk m c 1 t) (iblk m c 2 t)) (k0_pay9 (iblk m c 3 t)) (iblk m c 4 t) (ix2 r k) = lin (fq (m ((c : Thread nD τ).loc main_arg0)) (m ((c : Thread nD τ).loc main_arg1)) (m ((c : Thread nD τ).loc main_arg2)) (m ((c : Thread nD τ).loc main_arg3)) ⟨2048 * b.val + s.val, by omega⟩) w :=
  (ProjBlock.qq _ _ _ _ _ r k).trans <| lin_congr
    (fun d => congrArg₂ (fun x g => nrm _ x g d) (funext fun l => z_lo m c t r b s hn ⟨l.val, by omega⟩)
      (funext fun l => (ProjRead.b3 m c t l).trans (ProjHost.nq m c l)))
    fun d => (ProjRead.b4 m c t d k).trans (hw d)

theorem q_p (h : Fin 8) (k : Fin 96) :
    k0_pay10 (F := Ideal) (k0_pay8 (iblk m c 0 t) (iblk m c 1 t) (iblk m c 2 t)) (k0_pay9 (iblk m c 3 t)) (iblk m c 4 t) (ix2 r ⟨128 * h.val + k.val, by omega⟩) = qu (m ((c : Thread nD τ).loc main_arg0)) (m ((c : Thread nD τ).loc main_arg1)) (m ((c : Thread nD τ).loc main_arg2)) (m ((c : Thread nD τ).loc main_arg3)) (m ((c : Thread nD τ).loc main_arg4)) ⟨2048 * b.val + s.val, by omega⟩ ⟨96 * h.val + k.val, by omega⟩ :=
  q_lin m c t r b s hn _ _ fun d => ProjHost.wq_p m c d h k

theorem q_r1 (hr : Real m c) (h : Fin 8) (k : Fin 16) :
    k0_pay10 (F := Ideal) (k0_pay8 (iblk m c 0 t) (iblk m c 1 t) (iblk m c 2 t)) (k0_pay9 (iblk m c 3 t)) (iblk m c 4 t) (ix2 r ⟨1024 + (128 * h.val + (64 + k.val)), by omega⟩) = -qu (m ((c : Thread nD τ).loc main_arg0)) (m ((c : Thread nD τ).loc main_arg1)) (m ((c : Thread nD τ).loc main_arg2)) (m ((c : Thread nD τ).loc main_arg3)) (m ((c : Thread nD τ).loc main_arg4)) ⟨2048 * b.val + s.val, by omega⟩ ⟨96 * h.val + (80 + k.val), by omega⟩ :=
  (q_lin m c t r b s hn _ _ fun d => ProjHost.wq_r1 m c d h k).trans
    (lin_neg _ _ (nrm_real _ 384 (by norm_num) c384 _ _ hr.2.2.2) fun d => hr.2.2.1 d h k)

theorem q_r2 (h : Fin 8) (k : Fin 16) :
    k0_pay10 (F := Ideal) (k0_pay8 (iblk m c 0 t) (iblk m c 1 t) (iblk m c 2 t)) (k0_pay9 (iblk m c 3 t)) (iblk m c 4 t) (ix2 r ⟨1024 + (128 * h.val + (80 + k.val)), by omega⟩) = qu (m ((c : Thread nD τ).loc main_arg0)) (m ((c : Thread nD τ).loc main_arg1)) (m ((c : Thread nD τ).loc main_arg2)) (m ((c : Thread nD τ).loc main_arg3)) (m ((c : Thread nD τ).loc main_arg4)) ⟨2048 * b.val + s.val, by omega⟩ ⟨96 * h.val + (64 + k.val), by omega⟩ :=
  q_lin m c t r b s hn _ _ fun d => ProjHost.wq_r2 m c d h k

/-- A column of the keys. -/
theorem k_lin (k : Fin 1024) (w : Fin 256 → EReal) (hw : ∀ d, (show Vec Ideal S256x1024 .bf16 from V m c main_v36) (ix2 d k) = w d) :
    k0_pay12 (F := Ideal) (k0_pay5 (iblk m c 0 t) (iblk m c 1 t) (iblk m c 2 t)) (iblk m c 5 t) (iblk m c 6 t) (ix2 r k) = lin (fk (m ((c : Thread nD τ).loc main_arg0)) (m ((c : Thread nD τ).loc main_arg1)) (m ((c : Thread nD τ).loc main_arg2)) (m ((c : Thread nD τ).loc main_arg5)) ⟨2048 * b.val + s.val, by omega⟩) w :=
  (ProjBlock.kk _ _ _ r k).trans <| lin_congr
    (fun d => congrArg₂ (fun x g => nrm _ x g d) (funext fun l => z_lo m c t r b s hn ⟨384 + l.val, by omega⟩)
      (funext fun l => (ProjRead.b5 m c t l).trans (ProjHost.nk m c l)))
    fun d => (ProjRead.b6 m c t d k).trans (hw d)

theorem k_lo (h : Fin 8) (k : Fin 64) :
    k0_pay12 (F := Ideal) (k0_pay5 (iblk m c 0 t) (iblk m c 1 t) (iblk m c 2 t)) (iblk m c 5 t) (iblk m c 6 t) (ix2 r ⟨128 * h.val + k.val, by omega⟩) = ku (m ((c : Thread nD τ).loc main_arg0)) (m ((c : Thread nD τ).loc main_arg1)) (m ((c : Thread nD τ).loc main_arg2)) (m ((c : Thread nD τ).loc main_arg5)) (m ((c : Thread nD τ).loc main_arg6)) ⟨2048 * b.val + s.val, by omega⟩ ⟨128 * h.val + k.val, by omega⟩ :=
  k_lin m c t r b s hn _ _ fun d => ProjHost.wk_lo m c d h k

theorem k_hi (h : Fin 8) (k : Fin 64) : k0_pay12 (F := Ideal) (k0_pay5 (iblk m c 0 t) (iblk m c 1 t) (iblk m c 2 t)) (iblk m c 5 t) (iblk m c 6 t) (ix2 r ⟨128 * h.val + (64 + k.val), by omega⟩) = 0 :=
  (k_lin m c t r b s hn _ _ fun d => ProjHost.wk_hi m c d h k).trans (lin_zero _)

/-- A column of the values. -/
theorem v_lin (k : Fin 512) (w : Fin 256 → EReal) (hw : ∀ d, (show Vec Ideal S256x512 .bf16 from V m c main_v37) (ix2 d k) = w d) :
    k0_pay13 (F := Ideal) (k0_pay5 (iblk m c 0 t) (iblk m c 1 t) (iblk m c 2 t)) (iblk m c 5 t) (iblk m c 7 t) (ix2 r k) = lin (fk (m ((c : Thread nD τ).loc main_arg0)) (m ((c : Thread nD τ).loc main_arg1)) (m ((c : Thread nD τ).loc main_arg2)) (m ((c : Thread nD τ).loc main_arg5)) ⟨2048 * b.val + s.val, by omega⟩) w :=
  (ProjBlock.vv _ _ _ r k).trans <| lin_congr
    (fun d => congrArg₂ (fun x g => nrm _ x g d) (funext fun l => z_lo m c t r b s hn ⟨384 + l.val, by omega⟩)
      (funext fun l => (ProjRead.b5 m c t l).trans (ProjHost.nk m c l)))
    fun d => (ProjRead.b7 m c t d k).trans (hw d)

theorem v_at (h : Fin 8) (k : Fin 64) :
    k0_pay13 (F := Ideal) (k0_pay5 (iblk m c 0 t) (iblk m c 1 t) (iblk m c 2 t)) (iblk m c 5 t) (iblk m c 7 t) (ix2 r ⟨64 * h.val + k.val, by omega⟩) = ku (m ((c : Thread nD τ).loc main_arg0)) (m ((c : Thread nD τ).loc main_arg1)) (m ((c : Thread nD τ).loc main_arg2)) (m ((c : Thread nD τ).loc main_arg5)) (m ((c : Thread nD τ).loc main_arg6)) ⟨2048 * b.val + s.val, by omega⟩ ⟨128 * h.val + (64 + k.val), by omega⟩ :=
  v_lin m c t r b s hn _ _ fun d => ProjHost.wv m c d h k

/-- The first 64 lanes of a query head. -/
theorem qe_lo (h : Fin 8) (k : Fin 64) :
    ProjBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + k.val, by omega⟩
      = Cert.ProjInRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h ⟨k.val, by omega⟩) := by
  rw [ProjRefRead.q_lo]
  refine (qe_at _ _ _ r h ⟨k.val, by omega⟩ (q_p m c t r b s hn h ⟨k.val, by omega⟩)
    ((ProjRead.b8 m c t r b s hn _).trans (ProjHost.cq_lo m c s k)) ((ProjRead.b9 m c t r b s hn _).trans (ProjHost.sq_lo m c s k))).trans ?_
  rw [mul_zero, add_zero]

/-- The first half of the turned lanes of a query head. -/
theorem qe_1 (hr : Real m c) (h : Fin 8) (k : Fin 16) :
    ProjBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + (64 + k.val), by omega⟩
      = Cert.ProjInRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h ⟨64 + k.val, by omega⟩) := by
  rw [ProjRefRead.q_1]
  refine (qe_at _ _ _ r h ⟨64 + k.val, by omega⟩ (q_p m c t r b s hn h ⟨64 + k.val, by omega⟩)
    ((ProjRead.b8 m c t r b s hn _).trans (ProjHost.cq_1 m c s k)) ((ProjRead.b9 m c t r b s hn _).trans (ProjHost.sq_1 m c s k))).trans ?_
  exact (congrArg (fun y : EReal => _ + y * _) (q_r1 m c t r b s hn hr h k)).trans (turn_fst _ _ _ _ _ scale.1 scale.2)

/-- The second half of the turned lanes of a query head. -/
theorem qe_2 (h : Fin 8) (k : Fin 16) :
    ProjBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + (80 + k.val), by omega⟩
      = Cert.ProjInRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h ⟨80 + k.val, by omega⟩) := by
  rw [ProjRefRead.q_2]
  refine (qe_at _ _ _ r h ⟨80 + k.val, by omega⟩ (q_p m c t r b s hn h ⟨80 + k.val, by omega⟩)
    ((ProjRead.b8 m c t r b s hn _).trans (ProjHost.cq_2 m c s k)) ((ProjRead.b9 m c t r b s hn _).trans (ProjHost.sq_2 m c s k))).trans ?_
  exact (congrArg (fun y : EReal => _ + y * _) (q_r2 m c t r b s hn h k)).trans (turn_snd _ _ _ _ _ scale.1 scale.2)

/-- The padded lanes of a query head. -/
theorem qe_hi (h : Fin 8) (k : Fin 32) :
    ProjBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + (96 + k.val), by omega⟩
      = Cert.ProjInRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h ⟨96 + k.val, by omega⟩) := by
  rw [ProjRefRead.q_hi]
  refine (qe_at _ _ _ r h ⟨96 + k.val, by omega⟩ rfl
    ((ProjRead.b8 m c t r b s hn _).trans (ProjHost.cq_hi m c s k)) ((ProjRead.b9 m c t r b s hn _).trans (ProjHost.sq_hi m c s k))).trans ?_
  rw [mul_zero, mul_zero, add_zero]

/-- The first 64 lanes of a key head. -/
theorem ke_lo (h : Fin 8) (k : Fin 64) :
    ProjBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + k.val, by omega⟩
      = Cert.ProjInRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h ⟨k.val, by omega⟩) := by
  rw [ProjRefRead.k_lo]
  refine (ke_at _ _ _ _ r h ⟨k.val, by omega⟩ (k_lo m c t r b s hn h ⟨k.val, by omega⟩)
    ((ProjRead.b10 m c t r b s hn _).trans (ProjHost.ck_lo m c s k)) ((ProjRead.b11 m c t r b s hn _).trans (ProjHost.sk_lo m c s k))).trans ?_
  rw [mul_zero, mul_zero, add_zero, add_zero]

/-- The first half of the turned lanes of a key head. -/
theorem ke_1 (hr : Real m c) (h : Fin 8) (k : Fin 16) :
    ProjBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + (64 + k.val), by omega⟩
      = Cert.ProjInRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h ⟨64 + k.val, by omega⟩) := by
  rw [ProjRefRead.k_1]
  refine (ke_at _ _ _ _ r h ⟨64 + k.val, by omega⟩ (k_hi m c t r b s hn h ⟨k.val, by omega⟩)
    ((ProjRead.b10 m c t r b s hn _).trans (ProjHost.ck_1 m c s k)) ((ProjRead.b11 m c t r b s hn _).trans (ProjHost.sk_1 m c s k))).trans ?_
  rw [sub_eq_add_neg, ← EReal.neg_mul, zero_add]
  exact congrArg₂ (fun x y : EReal => x * _ + y * _) (z_p m c t r b s hn ⟨k.val, by omega⟩) (z_r1 m c t r b s hn hr k)

/-- The second half of the turned lanes of a key head. -/
theorem ke_2 (h : Fin 8) (k : Fin 16) :
    ProjBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + (80 + k.val), by omega⟩
      = Cert.ProjInRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h ⟨80 + k.val, by omega⟩) := by
  rw [ProjRefRead.k_2]
  refine (ke_at _ _ _ _ r h ⟨80 + k.val, by omega⟩ ((congrArg (k0_pay12 (F := Ideal) _ _ _) (congrArg (ix2 r) (Fin.ext (by
      show 128 * h.val + (80 + k.val) = 128 * h.val + (64 + (16 + k.val)); omega)))).trans (k_hi m c t r b s hn h ⟨16 + k.val, by omega⟩))
    ((ProjRead.b10 m c t r b s hn _).trans (ProjHost.ck_2 m c s k)) ((ProjRead.b11 m c t r b s hn _).trans (ProjHost.sk_2 m c s k))).trans ?_
  rw [zero_add]
  refine congrArg₂ (fun x y : EReal => x * _ + y * _) ?_ (z_r2 m c t r b s hn k)
  refine (congrArg (k0_pay5 (F := Ideal) _ _ _) (congrArg (ix2 r) (Fin.ext ?_))).trans ((z_p m c t r b s hn ⟨16 + k.val, by omega⟩).trans
    (congrArg (zz _ _ _ _) (Fin.ext ?_)))
  · show 1664 + (80 + k.val) = 1664 + (64 + (16 + k.val)); omega
  · show 640 + (16 + k.val) = 656 + k.val; omega

/-- The padded lanes of a key head. -/
theorem ke_hi (h : Fin 8) (k : Fin 32) :
    ProjBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + (96 + k.val), by omega⟩
      = Cert.ProjInRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h ⟨96 + k.val, by omega⟩) := by
  rw [ProjRefRead.k_hi]
  refine (ke_at _ _ _ _ r h ⟨96 + k.val, by omega⟩ ((congrArg (k0_pay12 (F := Ideal) _ _ _) (congrArg (ix2 r) (Fin.ext (by
      show 128 * h.val + (96 + k.val) = 128 * h.val + (64 + (32 + k.val)); omega)))).trans (k_hi m c t r b s hn h ⟨32 + k.val, by omega⟩))
    ((ProjRead.b10 m c t r b s hn _).trans (ProjHost.ck_hi m c s k)) ((ProjRead.b11 m c t r b s hn _).trans (ProjHost.sk_hi m c s k))).trans ?_
  rw [mul_zero, mul_zero, add_zero, add_zero]

end Cert.ProjRow

end
-- ==== Proof.ProjValue.lean ====
module

public import proofs.«01_k».proof.Proof.ProjRow

/-! # The five arrays the input projection leaves -/

@[expose] public section

set_option maxRecDepth 16384

noncomputable section

namespace Cert.ProjValue

open Idealize.ShloMosaic Idealize.ShloMosaic.TcCoe Idealize.SL.Sem
open Cert.ProjInIdeal Cert.ProjInIdeal.Gen

variable (m : (ℓ : Loc nD τ sig) → Buf (Elt Ideal) ℓ) (c : Dev nD)

/-- A lane is one of the four kinds. -/
theorem lanes (P : Fin 128 → Prop) (h0 : ∀ k : Fin 64, P ⟨k.val, by omega⟩) (h1 : ∀ k : Fin 16, P ⟨64 + k.val, by omega⟩)
    (h2 : ∀ k : Fin 16, P ⟨80 + k.val, by omega⟩) (h3 : ∀ k : Fin 32, P ⟨96 + k.val, by omega⟩) (j : Fin 128) : P j := by
  have hj := j.isLt
  rcases lt_or_ge j.val 64 with a | a
  · exact h0 ⟨j.val, a⟩
  rcases lt_or_ge j.val 80 with b | b
  · rw [show j = ⟨64 + (j.val - 64), by omega⟩ from Fin.ext (by show j.val = 64 + (j.val - 64); omega)]
    exact h1 ⟨j.val - 64, by omega⟩
  rcases lt_or_ge j.val 96 with d | d
  · rw [show j = ⟨80 + (j.val - 80), by omega⟩ from Fin.ext (by show j.val = 80 + (j.val - 80); omega)]
    exact h2 ⟨j.val - 80, by omega⟩
  · rw [show j = ⟨96 + (j.val - 96), by omega⟩ from Fin.ext (by show j.val = 96 + (j.val - 96); omega)]
    exact h3 ⟨j.val - 96, by omega⟩

/-- A query head, at every lane. -/
theorem qe_all (hr : ProjRow.Real m c) (t : Fin cfg0.N) (r : Fin 512) (b : Fin 32) (s : Fin 2048)
    (hn : 512 * t.val + r.val = 2048 * b.val + s.val) (h : Fin 8) (j : Fin 128) :
    ProjBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + j.val, by omega⟩
      = Cert.ProjInRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h j) :=
  lanes (fun j => ProjBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + j.val, by omega⟩
      = Cert.ProjInRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h j))
    (ProjRow.qe_lo m c t r b s hn h) (ProjRow.qe_1 m c t r b s hn hr h) (ProjRow.qe_2 m c t r b s hn h) (ProjRow.qe_hi m c t r b s hn h) j

/-- A key head, at every lane. -/
theorem ke_all (hr : ProjRow.Real m c) (t : Fin cfg0.N) (r : Fin 512) (b : Fin 32) (s : Fin 2048)
    (hn : 512 * t.val + r.val = 2048 * b.val + s.val) (h : Fin 8) (j : Fin 128) :
    ProjBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + j.val, by omega⟩
      = Cert.ProjInRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h j) :=
  lanes (fun j => ProjBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + j.val, by omega⟩
      = Cert.ProjInRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h j))
    (ProjRow.ke_lo m c t r b s hn h) (ProjRow.ke_1 m c t r b s hn hr h) (ProjRow.ke_2 m c t r b s hn h) (ProjRow.ke_hi m c t r b s hn h) j

/-- The queries. -/
theorem final_q (hr : ProjRow.Real m c) : (dats m 0 c).arrAt 12 (cfgs 0).N
    = Cert.ProjInRefIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t _ y => ?_
  blk_simp
  rw [after0_12]
  obtain ⟨p, r, l, rfl⟩ : ∃ (p : Fin 4) (r : Fin 512) (l : Fin 256), y = ix3 p r l := ⟨y 0, y 1, y 2, by ext a; fin_cases a <;> rfl⟩
  have ht : t.val < 128 := t.isLt
  have hemb : ((View.whole main_v72_0).slice (win0_12.rect t)).emb (ix3 p r l)
      = ix3 p (⟨t.val * 512 + r.val, by omega⟩ : Fin 65536) l := by
    blk_ext [ProjRead.idx t]
  rw [hemb, ProjRefRead.q_at, ProjBlock.q]
  have hn : 512 * t.val + r.val = 2048 * ((t.val * 512 + r.val) / 2048) + (t.val * 512 + r.val) % 2048 := by omega
  refine Eq.trans (congrArg (ProjBlock.qe _ _ _ r) (Fin.ext ?_)) (qe_all m c hr t r ⟨(t.val * 512 + r.val) / 2048, by omega⟩
    ⟨(t.val * 512 + r.val) % 2048, by omega⟩ hn ⟨2 * p.val + l.val / 128, by omega⟩ ⟨l.val % 128, by omega⟩)
  show 256 * p.val + l.val = 128 * (2 * p.val + l.val / 128) + l.val % 128; omega

/-- The keys. -/
theorem final_k (hr : ProjRow.Real m c) : (dats m 0 c).arrAt 13 (cfgs 0).N
    = Cert.ProjInRefIdeal.Read.val_main_v115 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 13 _ (by decide +kernel) fun t _ y => ?_
  blk_simp
  rw [after0_13]
  obtain ⟨p, r, l, rfl⟩ : ∃ (p : Fin 4) (r : Fin 512) (l : Fin 256), y = ix3 p r l := ⟨y 0, y 1, y 2, by ext a; fin_cases a <;> rfl⟩
  have ht : t.val < 128 := t.isLt
  have hemb : ((View.whole main_v72_1).slice (win0_13.rect t)).emb (ix3 p r l)
      = ix3 p (⟨t.val * 512 + r.val, by omega⟩ : Fin 65536) l := by
    blk_ext [ProjRead.idx t]
  rw [hemb, ProjRefRead.k_at, ProjBlock.k]
  have hn : 512 * t.val + r.val = 2048 * ((t.val * 512 + r.val) / 2048) + (t.val * 512 + r.val) % 2048 := by omega
  refine Eq.trans (congrArg (ProjBlock.ke _ _ _ _ r) (Fin.ext ?_)) (ke_all m c hr t r ⟨(t.val * 512 + r.val) / 2048, by omega⟩
    ⟨(t.val * 512 + r.val) % 2048, by omega⟩ hn ⟨2 * p.val + l.val / 128, by omega⟩ ⟨l.val % 128, by omega⟩)
  show 256 * p.val + l.val = 128 * (2 * p.val + l.val / 128) + l.val % 128; omega

/-- The values. -/
theorem final_v : (dats m 0 c).arrAt 14 (cfgs 0).N
    = Cert.ProjInRefIdeal.Read.val_main_v116 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 14 _ (by decide +kernel) fun t _ y => ?_
  blk_simp
  rw [after0_14]
  obtain ⟨p, r, l, rfl⟩ : ∃ (p : Fin 4) (r : Fin 512) (l : Fin 128), y = ix3 p r l := ⟨y 0, y 1, y 2, by ext a; fin_cases a <;> rfl⟩
  have ht : t.val < 128 := t.isLt
  have hemb : ((View.whole main_v72_2).slice (win0_14.rect t)).emb (ix3 p r l)
      = ix3 p (⟨t.val * 512 + r.val, by omega⟩ : Fin 65536) l := by
    blk_ext [ProjRead.idx t]
  rw [hemb, ProjRefRead.v_at, ProjBlock.v]
  have hn : 512 * t.val + r.val = 2048 * ((t.val * 512 + r.val) / 2048) + (t.val * 512 + r.val) % 2048 := by omega
  refine Eq.trans (congrArg (fun k => ProjBlock.ve _ r k) (Fin.ext ?_)) ((ProjRow.v_at m c t r ⟨(t.val * 512 + r.val) / 2048, by omega⟩
    ⟨(t.val * 512 + r.val) % 2048, by omega⟩ hn ⟨2 * p.val + l.val / 64, by omega⟩ ⟨l.val % 64, by omega⟩).trans
      (congrArg (fun n => ProjRefRead.ku _ _ _ _ _ n _) (Fin.ext ?_)))
  · show 128 * p.val + l.val = 64 * (2 * p.val + l.val / 64) + l.val % 64; omega
  · show 2048 * ((t.val * 512 + r.val) / 2048) + (t.val * 512 + r.val) % 2048 = t.val * 512 + r.val; omega

/-- The input branch. -/
theorem final_xbr : (dats m 0 c).arrAt 15 (cfgs 0).N
    = Cert.ProjInRefIdeal.Read.val_main_v117 (F := Ideal) (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  obtain ⟨r, l, rfl⟩ : ∃ (r l : Fin 512), y = ix2 r l := ⟨y 0, y 1, by ext a; fin_cases a <;> rfl⟩
  have ht : t.val < 128 := t.isLt
  have hemb : ((View.whole main_v72_3).slice (win0_15.rect t)).emb (ix2 r l)
      = ix2 (⟨t.val * 512 + r.val, by omega⟩ : Fin 65536) l := by
    blk_ext [ProjRead.idx t]
  rw [hemb, ProjRefRead.x_at, ProjBlock.xbr]
  have hn : 512 * t.val + r.val = 2048 * ((t.val * 512 + r.val) / 2048) + (t.val * 512 + r.val) % 2048 := by omega
  refine (ProjRow.z_x m c t r ⟨(t.val * 512 + r.val) / 2048, by omega⟩ ⟨(t.val * 512 + r.val) % 2048, by omega⟩ hn l).trans
      (congrArg (fun n => ProjRefRead.zz _ _ _ n _) (Fin.ext ?_))
  show 2048 * ((t.val * 512 + r.val) / 2048) + (t.val * 512 + r.val) % 2048 = t.val * 512 + r.val; omega

/-- The gate branch. -/
theorem final_gbr : (dats m 0 c).arrAt 16 (cfgs 0).N
    = Cert.ProjInRefIdeal.Read.val_main_v118 (F := Ideal) (m ((c : Thread nD τ).loc main_arg0)) (m ((c : Thread nD τ).loc main_arg1)) (m ((c : Thread nD τ).loc main_arg2)) := by
  refine (dats m 0 c).arrAt_eq_of_covers 16 _ (by decide +kernel) fun t _ y => ?_
  blk_simp
  rw [after0_16]
  obtain ⟨r, l, rfl⟩ : ∃ (r l : Fin 512), y = ix2 r l := ⟨y 0, y 1, by ext a; fin_cases a <;> rfl⟩
  have ht : t.val < 128 := t.isLt
  have hemb : ((View.whole main_v72_4).slice (win0_16.rect t)).emb (ix2 r l)
      = ix2 (⟨t.val * 512 + r.val, by omega⟩ : Fin 65536) l := by
    blk_ext [ProjRead.idx t]
  rw [hemb, ProjRefRead.g_at, ProjBlock.gbr]
  have hn : 512 * t.val + r.val = 2048 * ((t.val * 512 + r.val) / 2048) + (t.val * 512 + r.val) % 2048 := by omega
  refine (ProjRow.z_g m c t r ⟨(t.val * 512 + r.val) / 2048, by omega⟩ ⟨(t.val * 512 + r.val) % 2048, by omega⟩ hn l).trans
      (congrArg (fun n => ProjRefRead.zz _ _ _ n _) (Fin.ext ?_))
  show 2048 * ((t.val * 512 + r.val) / 2048) + (t.val * 512 + r.val) % 2048 = t.val * 512 + r.val; omega

end Cert.ProjValue

end
-- ==== Proof.AttnLongBlock.lean ====
module

public import proofs.«01_k».proof.Proof.Gen.AttnLongIdeal.Skeleton
public import proofs.«01_k».proof.Proof.Softmax
public import Idealize.ShloMosaic.Lib.WordCmp

/-! # One block of the attention kernel, entry by entry: sequences of 4096 tokens -/

@[expose] public section

set_option maxRecDepth 16384

noncomputable section

namespace Cert.AttnLongBlock

open Idealize.ShloMosaic Idealize.ShloMosaic.TcCoe Idealize.SL.Sem
open Cert.AttnLongIdeal Cert.AttnLongIdeal.Gen

/-- The first head of the pair. -/
theorem head0 (v : Vec Ideal S1x4096x128 .bf16) (q : Vec Ideal S1x256x128 .bf16) (k : Vec Ideal S1x4096x128 .bf16)
    (r : Fin 256) (l : Fin 128) :
    k0_pay3 (F := Ideal) v q k (ix2 r l)
      = Softmax.late (fun x => ∑ d : Fin 128, q (ix3 0 r d) * k (ix3 0 x d)) (fun x => v (ix3 0 x l)) := by
  pointwise [k0_pay3, k0_pay2, Softmax.late, Softmax.top]

/-- The second head of the pair. -/
theorem head1 (v : Vec Ideal S1x4096x128 .bf16) (q : Vec Ideal S1x256x128 .bf16) (k : Vec Ideal S1x4096x128 .bf16)
    (r : Fin 256) (l : Fin 128) :
    k0_pay4 (F := Ideal) v q k (ix2 r l)
      = Softmax.late (fun x => ∑ d : Fin 128, q (ix3 0 r d) * k (ix3 0 x d)) (fun x => v (ix3 0 x l)) := by
  pointwise [k0_pay4, k0_pay2, Softmax.late, Softmax.top]

/-- The lanes below 64 are the first head's, the others the second's. -/
theorem lanes (a b : FVec Ideal S256x128 .f32) (r : Fin 256) (l : Fin 128) :
    k0_pay1 (F := Ideal) a b (ix2 r l) = if l.val < 64 then a (ix2 r l) else b (ix2 r l) := by
  pointwise [k0_pay1]
  rw [WordCmp.cmpi_slt_ofNat (by omega) (by decide)]
  by_cases h : l.val < 64 <;> simp [h, Scalar.select]

end Cert.AttnLongBlock

end
-- ==== Proof.AttnLongRefRead.lean ====
module

public import proofs.«01_k».proof.Proof.Gen.AttnLongRefIdeal.Read
public import proofs.«01_k».proof.Proof.Softmax

/-! # The attention reference, entry by entry: sequences of 4096 tokens -/

@[expose] public section

set_option maxRecDepth 16384

noncomputable section

namespace Cert.AttnLongRefRead

open Idealize.ShloMosaic Idealize.ShloMosaic.TcCoe Idealize.SL.Sem
open Cert.AttnLongRefIdeal Cert.AttnLongRefIdeal.Read

variable (q k : (⟨S4x65536x256, .bf16⟩ : BufTy).Contents (Elt Ideal)) (v : (⟨S4x65536x128, .bf16⟩ : BufTy).Contents (Elt Ideal))

/-- The score of one query and one key of one head. -/
theorem score (p : Fin 4) (b : Fin 16) (h : Fin 2) (r x : Fin 4096) :
    val_main_v6 (F := Ideal) q k (ix5 p b h r x)
      = ∑ d : Fin 128, q (ix3 p ⟨b.val * 4096 + r.val, by omega⟩ ⟨h.val * 128 + d.val, by omega⟩)
          * k (ix3 p ⟨b.val * 4096 + x.val, by omega⟩ ⟨h.val * 128 + d.val, by omega⟩) := by
  pointwise [val_main_v6, val_main_v3, val_main_v2, val_main_v1, val_main_v0]

/-- A maximum over the last of five axes, from a starting value. -/
theorem lastMax {n0 n1 n2 n3 n4 : ℕ} (s : FVec Ideal ⟨5, ![n0, n1, n2, n3, n4]⟩ .f32) (z : FVec Ideal ⟨0, ![]⟩ .f32)
    (h : (⟨5, ![n0, n1, n2, n3, n4]⟩ : Shape).ReducesTo [4] ⟨4, ![n0, n1, n2, n3]⟩) (hu : 0 < (⟨0, ![]⟩ : Shape).numel)
    (p : Fin n0) (b : Fin n1) (c : Fin n2) (r : Fin n3) :
    Host.reduce FloatOps.maximumf s z h hu (ix4 p b c r)
      = Finset.univ.fold max (z (Shape.Idx.first hu)) fun k : Fin n4 => s (ix5 p b c r k) := by
  simp only [pointwise]

/-- The largest score of a row. -/
theorem rowTop (p : Fin 4) (b : Fin 16) (h : Fin 2) (r : Fin 4096) :
    val_main_v9 (F := Ideal) q k (ix4 p b h r)
      = Softmax.top2 fun x => val_main_v6 (F := Ideal) q k (ix5 p b h r x) := by
  have e : val_main_v7 (F := Ideal) q k (ix4 p b h r)
      = Softmax.top fun x => val_main_v6 (F := Ideal) q k (ix5 p b h r x) := by
    unfold val_main_v7 Softmax.top
    exact lastMax _ _ _ _ p b h r
  rw [val_main_v9_apply, e]
  rfl

/-- The numerator of a weight. -/
theorem numer (p : Fin 4) (b : Fin 16) (h : Fin 2) (r x : Fin 4096) :
    val_main_v13 (F := Ideal) q k (ix5 p b h r x)
      = Ideal.exp (val_main_v6 (F := Ideal) q k (ix5 p b h r x)
          - Softmax.top2 fun x => val_main_v6 (F := Ideal) q k (ix5 p b h r x)) := by
  rw [← rowTop]
  unfold val_main_v13 val_main_v12 val_main_v11 val_main_v10
  generalize val_main_v6 (F := Ideal) q k = s
  generalize val_main_v9 (F := Ideal) q k = t
  pointwise []

/-- A softmax weight. -/
theorem weight (p : Fin 4) (b : Fin 16) (h : Fin 2) (r x : Fin 4096) :
    val_main_v17 (F := Ideal) q k (ix5 p b h r x)
      = Ideal.div (val_main_v13 (F := Ideal) q k (ix5 p b h r x))
          (∑ x, val_main_v13 (F := Ideal) q k (ix5 p b h r x)) := by
  unfold val_main_v17 val_main_v16 val_main_v15 val_main_v14
  generalize val_main_v13 (F := Ideal) q k = e
  pointwise [val_main_cst_1]

/-- An entry of the result. -/
theorem entry (r : Fin 65536) (l : Fin 512) :
    val_main_v21 (F := Ideal) q k v (ix2 r l)
      = Softmax.early
          (fun x : Fin 4096 => ∑ d : Fin 128,
            q (ix3 ⟨l.val / 128, by omega⟩ r ⟨l.val / 64 % 2 * 128 + d.val, by omega⟩)
              * k (ix3 ⟨l.val / 128, by omega⟩ ⟨r.val / 4096 * 4096 + x.val, by omega⟩ ⟨l.val / 64 % 2 * 128 + d.val, by omega⟩))
          (fun x : Fin 4096 => v (ix3 ⟨l.val / 128, by omega⟩ ⟨r.val / 4096 * 4096 + x.val, by omega⟩ ⟨l.val % 128, by omega⟩)) := by
  have h : val_main_v21 (F := Ideal) q k v (ix2 r l)
      = ∑ x : Fin 4096, val_main_v5 (F := Ideal) v (ix5 ⟨l.val / 128, by omega⟩ ⟨r.val / 4096, by omega⟩ x ⟨l.val / 64 % 2, by omega⟩ ⟨l.val % 64, by omega⟩)
          * val_main_v17 (F := Ideal) q k (ix5 ⟨l.val / 128, by omega⟩ ⟨r.val / 4096, by omega⟩ ⟨l.val / 64 % 2, by omega⟩ ⟨r.val % 4096, by omega⟩ x) := by
    unfold val_main_v21 val_main_v20 val_main_v19 val_main_v18
    generalize val_main_v17 (F := Ideal) q k = w
    generalize val_main_v5 (F := Ideal) v = u
    pointwise []
  rw [h, Softmax.early]
  refine Finset.sum_congr rfl fun x _ => ?_
  congr 1
  · pointwise [val_main_v5, val_main_v4]
    congr 2
    exact Fin.ext (show l.val / 64 % 2 * 64 + l.val % 64 = l.val % 128 by omega)
  · have e : (⟨r.val / 4096 * 4096 + r.val % 4096, by omega⟩ : Fin 65536) = r :=
      Fin.ext (show r.val / 4096 * 4096 + r.val % 4096 = r.val by omega)
    rw [weight]
    simp only [numer, score, e]

end Cert.AttnLongRefRead

end
-- ==== Proof.AttnLongValue.lean ====
module

public import proofs.«01_k».proof.Proof.Gen.AttnLongIdeal.Value
public import proofs.«01_k».proof.Proof.AttnLongBlock
public import proofs.«01_k».proof.Proof.AttnLongRefRead
public import Idealize.ShloMosaic.Lib.Pipeline.ValueKit

/-! # The attention kernel's result array: sequences of 4096 tokens -/

@[expose] public section

set_option maxRecDepth 16384

noncomputable section

namespace Cert.AttnLongValue

open Idealize.ShloMosaic Idealize.ShloMosaic.TcCoe Idealize.SL.Sem
open Idealize.ShloMosaic.Pipeline (Dat)
open Cert.AttnLongIdeal Cert.AttnLongIdeal.Gen

variable (m : (ℓ : Loc nD τ sig) → Buf (Elt Ideal) ℓ)

/-- Where the four windows of a grid point lie. -/
theorem idx : ∀ t : Fin cfg0.N, win0_0.index t = ![t.val / 16 % 4, t.val / 64 * 16 + t.val % 16, 0]
    ∧ win0_1.index t = ![t.val / 16 % 4, t.val / 64, 0] ∧ win0_2.index t = ![t.val / 16 % 4, t.val / 64, 0]
    ∧ win0_3.index t = ![t.val / 64 * 16 + t.val % 16, t.val / 16 % 4] :=
  (by decide +kernel : ∀ t : Fin grid0.N, _)

/-- Every query and every key entry is a real number. -/
def Real (c : Dev nD) : Prop :=
  (∀ i : S4x65536x256.Idx, (show EReal from m ((c : Thread nD τ).loc main_arg0) i) ≠ ⊥ ∧ (show EReal from m ((c : Thread nD τ).loc main_arg0) i) ≠ ⊤)
    ∧ ∀ i : S4x65536x256.Idx, (show EReal from m ((c : Thread nD τ).loc main_arg1) i) ≠ ⊥ ∧ (show EReal from m ((c : Thread nD τ).loc main_arg1) i) ≠ ⊤

/-- The result array is the reference's. -/
theorem final (c : Dev nD) (hr : Real m c) : (dats m 0 c).arrAt 3 (cfgs 0).N
    = Cert.AttnLongRefIdeal.Read.val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨r, l, rfl⟩ : ∃ (r : Fin 256) (l : Fin 128), y = ix2 r l := ⟨y 0, y 1, by ext a; fin_cases a <;> rfl⟩
  have ht : t.val < 1024 := t.isLt
  have hemb : ((View.whole main_v0).slice (win0_3.rect t)).emb (ix2 r l)
      = ix2 (⟨(t.val / 64 * 16 + t.val % 16) * 256 + r.val, by omega⟩ : Fin 65536) (⟨t.val / 16 % 4 * 128 + l.val, by omega⟩ : Fin 512) := by
    blk_ext [idx t]
  rw [hemb, AttnLongRefRead.entry, AttnLongBlock.lanes, ← Softmax.late_eq_early]
  · split
    · rw [AttnLongBlock.head0]
      refine congrArg₂ Softmax.late (funext fun x => Finset.sum_congr rfl fun d _ => congrArg₂ (· * ·) ?_ ?_) (funext fun x => ?_)
      all_goals first
        | (blk_point [iblk, V, idx t]; done)
        | (blk_ext [iblk, V, idx t]; done)
    · rw [AttnLongBlock.head1]
      refine congrArg₂ Softmax.late (funext fun x => Finset.sum_congr rfl fun d _ => congrArg₂ (· * ·) ?_ ?_) (funext fun x => ?_)
      all_goals first
        | (blk_point [iblk, V, idx t]; done)
        | (blk_ext [iblk, V, idx t]; done)
  · decide
  · exact fun x => Softmax.dot_real _ _ (fun d => hr.1 _) fun d => hr.2 _

end Cert.AttnLongValue

end
-- ==== Proof.ProjLongRead.lean ====
module

public import proofs.«01_k».proof.Proof.Gen.ProjInLongIdeal.Value
public import Idealize.ShloMosaic.Lib.Claim
public import Idealize.ShloMosaic.Lib.Pipeline.ValueKit
public import Idealize.ShloMosaic.Lib.Pipeline.ReadBack

/-! # The blocks a grid point of the input projection reads: sequences of 4096 tokens -/

@[expose] public section

set_option maxRecDepth 16384

noncomputable section

namespace Cert.ProjLongRead

open Idealize.ShloMosaic Idealize.ShloMosaic.TcCoe Idealize.SL.Sem
open Cert.ProjInLongIdeal Cert.ProjInLongIdeal.Gen

variable (m : (ℓ : Loc nD τ sig) → Buf (Elt Ideal) ℓ) (c : Dev nD)

/-- The blocks of a grid point: 128 blocks of tokens, four blocks of positions. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val % 8, 0] ∧ win0_9.index t = ![t.val % 8, 0]
    ∧ win0_10.index t = ![t.val % 8, 0] ∧ win0_11.index t = ![t.val % 8, 0] ∧ win0_12.index t = ![0, t.val, 0]
    ∧ win0_13.index t = ![0, t.val, 0] ∧ win0_14.index t = ![0, t.val, 0] ∧ win0_15.index t = ![t.val, 0]
    ∧ win0_16.index t = ![t.val, 0] :=
  (by decide +kernel : ∀ t : Fin grid0.N, _)

variable (t : Fin cfg0.N) (r : Fin 512) (b : Fin 16) (s : Fin 4096) (hn : 512 * t.val + r.val = 4096 * b.val + s.val)

section Blocks
include hn

theorem b0 (l : Fin 1024) : (show Vec Ideal S512x1024 .f32 from iblk m c 0 t) (ix2 r l)
    = m ((c : Thread nD τ).loc main_arg0) (ix2 ⟨4096 * b.val + s.val, by omega⟩ l) := by
  blk_ext [iblk, V, idx t]

theorem b8 (l : Fin 128) : (show Vec Ideal S512x128 .f32 from iblk m c 8 t) (ix2 r l)
    = (show Vec Ideal S4096x128 .f32 from V m c main_v66) (ix2 s l) := by
  have he : (win0_8.blk t).view.emb (ix2 r l) = ix2 s l := by blk_ext [idx t]
  blk_simp [iblk]
  rw [he]

theorem b9 (l : Fin 128) : (show Vec Ideal S512x128 .f32 from iblk m c 9 t) (ix2 r l)
    = (show Vec Ideal S4096x128 .f32 from V m c main_v69) (ix2 s l) := by
  have he : (win0_9.blk t).view.emb (ix2 r l) = ix2 s l := by blk_ext [idx t]
  blk_simp [iblk]
  rw [he]

theorem b10 (l : Fin 128) : (show Vec Ideal S512x128 .f32 from iblk m c 10 t) (ix2 r l)
    = (show Vec Ideal S4096x128 .f32 from V m c main_v70) (ix2 s l) := by
  have he : (win0_10.blk t).view.emb (ix2 r l) = ix2 s l := by blk_ext [idx t]
  blk_simp [iblk]
  rw [he]

theorem b11 (l : Fin 128) : (show Vec Ideal S512x128 .f32 from iblk m c 11 t) (ix2 r l)
    = (show Vec Ideal S4096x128 .f32 from V m c main_v71) (ix2 s l) := by
  have he : (win0_11.blk t).view.emb (ix2 r l) = ix2 s l := by blk_ext [idx t]
  blk_simp [iblk]
  rw [he]

end Blocks

theorem b1 (l : Fin 1024) : (show Vec Ideal S1x1024 .f32 from iblk m c 1 t) (ix2 0 l)
    = (show Vec Ideal S1x1024 .f32 from V m c main_v31) (ix2 0 l) := by
  have he : (win0_1.blk t).view.emb (ix2 0 l) = ix2 0 l := by blk_ext [idx t]
  blk_simp [iblk]
  rw [he]

theorem b2 (d : Fin 1024) (l : Fin 1920) : (show Vec Ideal S1024x1920 .bf16 from iblk m c 2 t) (ix2 d l)
    = (show Vec Ideal S1024x1920 .bf16 from V m c main_v32) (ix2 d l) := by
  have he : (win0_2.blk t).view.emb (ix2 d l) = ix2 d l := by blk_ext [idx t]
  blk_simp [iblk]
  rw [he]

theorem b3 (l : Fin 384) : (show Vec Ideal S1x384 .f32 from iblk m c 3 t) (ix2 0 l)
    = (show Vec Ideal S1x384 .f32 from V m c main_v33) (ix2 0 l) := by
  have he : (win0_3.blk t).view.emb (ix2 0 l) = ix2 0 l := by blk_ext [idx t]
  blk_simp [iblk]
  rw [he]

theorem b4 (d : Fin 384) (l : Fin 2048) : (show Vec Ideal S384x2048 .bf16 from iblk m c 4 t) (ix2 d l)
    = (show Vec Ideal S384x2048 .bf16 from V m c main_v34) (ix2 d l) := by
  have he : (win0_4.blk t).view.emb (ix2 d l) = ix2 d l := by blk_ext [idx t]
  blk_simp [iblk]
  rw [he]

theorem b5 (l : Fin 256) : (show Vec Ideal S1x256 .f32 from iblk m c 5 t) (ix2 0 l)
    = (show Vec Ideal S1x256 .f32 from V m c main_v35) (ix2 0 l) := by
  have he : (win0_5.blk t).view.emb (ix2 0 l) = ix2 0 l := by blk_ext [idx t]
  blk_simp [iblk]
  rw [he]

theorem b6 (d : Fin 256) (l : Fin 1024) : (show Vec Ideal S256x1024 .bf16 from iblk m c 6 t) (ix2 d l)
    = (show Vec Ideal S256x1024 .bf16 from V m c main_v36) (ix2 d l) := by
  have he : (win0_6.blk t).view.emb (ix2 d l) = ix2 d l := by blk_ext [idx t]
  blk_simp [iblk]
  rw [he]

theorem b7 (d : Fin 256) (l : Fin 512) : (show Vec Ideal S256x512 .bf16 from iblk m c 7 t) (ix2 d l)
    = (show Vec Ideal S256x512 .bf16 from V m c main_v37) (ix2 d l) := by
  have he : (win0_7.blk t).view.emb (ix2 d l) = ix2 d l := by blk_ext [idx t]
  blk_simp [iblk]
  rw [he]

end Cert.ProjLongRead

end
-- ==== Proof.ProjLongBlock.lean ====
module

public import proofs.«01_k».proof.Proof.Gen.ProjInLongIdeal.Frame
public import proofs.«01_k».proof.Proof.ProjMath

/-! # One block of the input projection, entry by entry: sequences of 4096 tokens -/

@[expose] public section

set_option maxRecDepth 16384

noncomputable section

namespace Cert.ProjLongBlock

open Idealize.ShloMosaic Idealize.ShloMosaic.TcCoe Idealize.SL.Sem
open Cert.ProjInLongIdeal Cert.ProjInLongIdeal.Gen

variable (x0 : Vec Ideal S512x1024 .f32) (x1 : Vec Ideal S1x1024 .f32) (x2 : Vec Ideal S1024x1920 .bf16)

/-- The combined projection of the normed row. -/
theorem z (r : Fin 512) (c : Fin 1920) :
    k0_pay5 (F := Ideal) x0 x1 x2 (ix2 r c)
      = ProjMath.lin (ProjMath.nrm (Ideal.ofBits .f32 0x44800000#32) (fun l => x0 (ix2 r l)) (fun l => x1 (ix2 0 l)))
          (fun d : Fin 1024 => x2 (ix2 d c)) := by
  pointwise [k0_pay5, ProjMath.lin, ProjMath.nrm]

/-- The queries' up projection of the normed latent. -/
theorem qq (x3 : Vec Ideal S1x384 .f32) (x4 : Vec Ideal S384x2048 .bf16) (r : Fin 512) (c : Fin 2048) :
    k0_pay10 (F := Ideal) (k0_pay8 x0 x1 x2) (k0_pay9 x3) x4 (ix2 r c)
      = ProjMath.lin (ProjMath.nrm (Ideal.ofBits .f32 0x43C00000#32)
            (fun l : Fin 384 => k0_pay5 (F := Ideal) x0 x1 x2 (ix2 r ⟨l.val, by omega⟩)) (fun l => x3 (ix2 0 l)))
          (fun d => x4 (ix2 d c)) := by
  pointwise [k0_pay10, k0_pay8, k0_pay9, ProjMath.lin, ProjMath.nrm]

/-- The keys' up projection of the normed latent. -/
theorem kk (v : FVec Ideal S512x1920 .f32) (x5 : Vec Ideal S1x256 .f32) (x6 : Vec Ideal S256x1024 .bf16) (r : Fin 512) (c : Fin 1024) :
    k0_pay12 (F := Ideal) v x5 x6 (ix2 r c)
      = ProjMath.lin (ProjMath.nrm (Ideal.ofBits .f32 0x43800000#32)
            (fun l : Fin 256 => v (ix2 r ⟨384 + l.val, by omega⟩)) (fun l => x5 (ix2 0 l)))
          (fun d => x6 (ix2 d c)) := by
  pointwise [k0_pay12, k0_pay11, ProjMath.lin, ProjMath.nrm]

/-- The values' up projection of the normed latent. -/
theorem vv (v : FVec Ideal S512x1920 .f32) (x5 : Vec Ideal S1x256 .f32) (x7 : Vec Ideal S256x512 .bf16) (r c : Fin 512) :
    k0_pay13 (F := Ideal) v x5 x7 (ix2 r c)
      = ProjMath.lin (ProjMath.nrm (Ideal.ofBits .f32 0x43800000#32)
            (fun l : Fin 256 => v (ix2 r ⟨384 + l.val, by omega⟩)) (fun l => x5 (ix2 0 l)))
          (fun d => x7 (ix2 d c)) := by
  pointwise [k0_pay13, k0_pay11, ProjMath.lin, ProjMath.nrm]

/-- An entry of the queries' block from the up projection and the two tables: column `c` is lane `c % 128` of its head,
    and its turned partner stands 1024 columns further. -/
def qe (Q : FVec Ideal S512x2048 .f32) (a b : Vec Ideal S512x128 .f32) (r : Fin 512) (c : Fin 1024) : EReal :=
  Q (ix2 r ⟨c.val, by omega⟩) * a (ix2 r ⟨c.val % 128, by omega⟩)
    + Q (ix2 r ⟨1024 + c.val, by omega⟩) * b (ix2 r ⟨c.val % 128, by omega⟩)

/-- An entry of the keys' block from the up projection and the shared rotary key. -/
def ke (K : FVec Ideal S512x1024 .f32) (v : FVec Ideal S512x1920 .f32) (a b : Vec Ideal S512x128 .f32) (r : Fin 512) (c : Fin 1024) : EReal :=
  K (ix2 r c) + (v (ix2 r ⟨1664 + c.val % 128, by omega⟩) * a (ix2 r ⟨c.val % 128, by omega⟩)
    + v (ix2 r ⟨1792 + c.val % 128, by omega⟩) * b (ix2 r ⟨c.val % 128, by omega⟩))

variable (x3 : Vec Ideal S1x384 .f32) (x4 : Vec Ideal S384x2048 .bf16) (x5 : Vec Ideal S1x256 .f32) (x6 : Vec Ideal S256x1024 .bf16)
  (x7 : Vec Ideal S256x512 .bf16) (x8 x9 x10 x11 : Vec Ideal S512x128 .f32)

/-- A piece's index is known from its coordinates. -/
theorem at3 {n0 n1 n2 : ℕ} (x : (⟨3, ![n0, n1, n2]⟩ : Shape).Idx) (a : Fin n0) (b : Fin n1) (c : Fin n2)
    (ha : (x 0 : ℕ) = a) (hb : (x 1 : ℕ) = b) (hc : (x 2 : ℕ) = c) : x = ix3 a b c := by
  ext i; fin_cases i
  · exact ha
  · exact hb
  · exact hc

/-- The four stores of the queries. -/
theorem q0 (Q : FVec Ideal S512x2048 .f32) (a b : Vec Ideal S512x128 .f32) (r : Fin 512) (l : Fin 256) :
    k0_pay19 (F := Ideal) Q (k0_pay14 a) (k0_pay15 b) (ix3 0 r l) = qe Q a b r ⟨l.val, by omega⟩ := by
  pointwise [k0_pay19, k0_pay14, k0_pay15, qe]
  blk_point []

theorem q1 (Q : FVec Ideal S512x2048 .f32) (a b : Vec Ideal S512x128 .f32) (r : Fin 512) (l : Fin 256) :
    k0_pay25 (F := Ideal) (k0_pay24 Q (k0_pay14 a) (k0_pay15 b)) (ix3 0 r l) = qe Q a b r ⟨256 + l.val, by omega⟩ := by
  pointwise [k0_pay25, k0_pay24, k0_pay14, k0_pay15, qe]
  blk_point []

theorem q2 (Q : FVec Ideal S512x2048 .f32) (a b : Vec Ideal S512x128 .f32) (r : Fin 512) (l : Fin 256) :
    k0_pay28 (F := Ideal) Q (k0_pay14 a) (k0_pay15 b) (ix3 0 r l) = qe Q a b r ⟨512 + l.val, by omega⟩ := by
  pointwise [k0_pay28, k0_pay14, k0_pay15, qe]
  blk_point []

theorem q3 (Q : FVec Ideal S512x2048 .f32) (a b : Vec Ideal S512x128 .f32) (r : Fin 512) (l : Fin 256) :
    k0_pay2 (F := Ideal) Q (k0_pay14 a) (k0_pay15 b) (ix3 0 r l) = qe Q a b r ⟨768 + l.val, by omega⟩ := by
  pointwise [k0_pay2, k0_pay14, k0_pay15, qe]
  blk_point []

/-- The queries' block. -/
theorem q (p : Fin 4) (r : Fin 512) (l : Fin 256) :
    out0_12 (F := Ideal) x0 x1 x2 x3 x4 x5 x6 x7 x8 x9 x10 x11 (ix3 p r l)
      = qe (k0_pay10 (F := Ideal) (k0_pay8 x0 x1 x2) (k0_pay9 x3) x4) x8 x9 r ⟨256 * p.val + l.val, by omega⟩ := by
  generalize hy : (ix3 p r l : S4x512x256.Idx) = y
  have e0 : (y 0 : ℕ) = p.val := by rw [← hy]; rfl
  have e1 : (y 1 : ℕ) = r.val := by rw [← hy]; rfl
  have e2 : (y 2 : ℕ) = l.val := by rw [← hy]; rfl
  clear hy
  canon_tiles x h
  case piece0 =>
    unfold k0_pay35 k0_pay36 k0_pay32
    have pv : p.val = 3 := by omega
    obtain rfl := at3 x 0 r l (by omega) (by omega) (by omega)
    frame_out
    exact (q3 _ _ _ _ _).trans (congrArg _ (Fin.ext (by show 768 + l.val = 256 * p.val + l.val; omega)))
  case piece1 =>
    unfold k0_pay35 k0_pay36 k0_pay32
    have pv : p.val = 2 := by omega
    obtain rfl := at3 x 0 r l (by omega) (by omega) (by omega)
    frame_out
    exact (q2 _ _ _ _ _).trans (congrArg _ (Fin.ext (by show 512 + l.val = 256 * p.val + l.val; omega)))
  case piece2 =>
    unfold k0_pay35 k0_pay36 k0_pay32
    have pv : p.val = 1 := by omega
    obtain rfl := at3 x 0 r l (by omega) (by omega) (by omega)
    frame_out
    exact (q1 _ _ _ _ _).trans (congrArg _ (Fin.ext (by show 256 + l.val = 256 * p.val + l.val; omega)))
  case piece3 =>
    unfold k0_pay35 k0_pay36 k0_pay32
    have pv : p.val = 0 := by omega
    obtain rfl := at3 x 0 r l (by omega) (by omega) (by omega)
    frame_out
    exact (q0 _ _ _ _ _).trans (congrArg _ (Fin.ext (by show l.val = 256 * p.val + l.val; omega)))

/-- The four stores of the keys. -/
theorem k0 (K : FVec Ideal S512x1024 .f32) (v : FVec Ideal S512x1920 .f32) (a b : Vec Ideal S512x128 .f32) (r : Fin 512) (l : Fin 256) :
    k0_pay20 (F := Ideal) K (k0_pay16 v a) (k0_pay17 v) b (ix3 0 r l) = ke K v a b r ⟨l.val, by omega⟩ := by
  pointwise [k0_pay20, k0_pay18, k0_pay16, k0_pay17, ke]
  blk_point []

theorem k1 (K : FVec Ideal S512x1024 .f32) (v : FVec Ideal S512x1920 .f32) (a b : Vec Ideal S512x128 .f32) (r : Fin 512) (l : Fin 256) :
    k0_pay26 (F := Ideal) (k0_pay22 K (k0_pay16 v a) (k0_pay17 v) b) (k0_pay23 K (k0_pay16 v a) (k0_pay17 v) b) (ix3 0 r l) = ke K v a b r ⟨256 + l.val, by omega⟩ := by
  pointwise [k0_pay26, k0_pay22, k0_pay23, k0_pay18, k0_pay16, k0_pay17, ke]
  blk_point []

theorem k2 (K : FVec Ideal S512x1024 .f32) (v : FVec Ideal S512x1920 .f32) (a b : Vec Ideal S512x128 .f32) (r : Fin 512) (l : Fin 256) :
    k0_pay29 (F := Ideal) K (k0_pay18 (k0_pay16 v a) (k0_pay17 v) b) (ix3 0 r l) = ke K v a b r ⟨512 + l.val, by omega⟩ := by
  pointwise [k0_pay29, k0_pay18, k0_pay16, k0_pay17, ke]
  blk_point []

theorem k3 (K : FVec Ideal S512x1024 .f32) (v : FVec Ideal S512x1920 .f32) (a b : Vec Ideal S512x128 .f32) (r : Fin 512) (l : Fin 256) :
    k0_pay3 (F := Ideal) K (k0_pay18 (k0_pay16 v a) (k0_pay17 v) b) (ix3 0 r l) = ke K v a b r ⟨768 + l.val, by omega⟩ := by
  pointwise [k0_pay3, k0_pay18, k0_pay16, k0_pay17, ke]
  blk_point []

/-- The keys' block. -/
theorem k (p : Fin 4) (r : Fin 512) (l : Fin 256) :
    out0_13 (F := Ideal) x0 x1 x2 x3 x4 x5 x6 x7 x8 x9 x10 x11 (ix3 p r l)
      = ke (k0_pay12 (F := Ideal) (k0_pay5 x0 x1 x2) x5 x6) (k0_pay5 (F := Ideal) x0 x1 x2) x10 x11 r ⟨256 * p.val + l.val, by omega⟩ := by
  generalize hy : (ix3 p r l : S4x512x256.Idx) = y
  have e0 : (y 0 : ℕ) = p.val := by rw [← hy]; rfl
  have e1 : (y 1 : ℕ) = r.val := by rw [← hy]; rfl
  have e2 : (y 2 : ℕ) = l.val := by rw [← hy]; rfl
  clear hy
  canon_tiles x h
  case piece0 =>
    unfold k0_pay39 k0_pay38 k0_pay37 k0_pay33 k0_pay31
    have pv : p.val = 3 := by omega
    obtain rfl := at3 x 0 r l (by omega) (by omega) (by omega)
    frame_out
    exact (k3 _ _ _ _ _ _).trans (congrArg _ (Fin.ext (by show 768 + l.val = 256 * p.val + l.val; omega)))
  case piece1 =>
    unfold k0_pay39 k0_pay38 k0_pay37 k0_pay33 k0_pay31
    have pv : p.val = 2 := by omega
    obtain rfl := at3 x 0 r l (by omega) (by omega) (by omega)
    frame_out
    exact (k2 _ _ _ _ _ _).trans (congrArg _ (Fin.ext (by show 512 + l.val = 256 * p.val + l.val; omega)))
  case piece2 =>
    unfold k0_pay38 k0_pay37 k0_pay33 k0_pay31
    have pv : p.val = 1 := by omega
    obtain rfl := at3 x 0 r l (by omega) (by omega) (by omega)
    frame_out
    exact (k1 _ _ _ _ _ _).trans (congrArg _ (Fin.ext (by show 256 + l.val = 256 * p.val + l.val; omega)))
  case piece3 =>
    unfold k0_pay38 k0_pay37 k0_pay33 k0_pay31
    have pv : p.val = 0 := by omega
    obtain rfl := at3 x 0 r l (by omega) (by omega) (by omega)
    frame_out
    exact (k0 _ _ _ _ _ _).trans (congrArg _ (Fin.ext (by show l.val = 256 * p.val + l.val; omega)))

/-- An entry of the values' block. -/
def ve (v : FVec Ideal S512x512 .f32) (r c : Fin 512) : EReal := v (ix2 r c)

/-- The four stores of the values. -/
theorem v0 (v : FVec Ideal S512x512 .f32) (r : Fin 512) (l : Fin 128) :
    k0_pay21 (F := Ideal) v (ix3 0 r l) = ve v r ⟨l.val, by omega⟩ := by
  pointwise [ve, k0_pay21]

theorem v1 (v : FVec Ideal S512x512 .f32) (r : Fin 512) (l : Fin 128) :
    k0_pay27 (F := Ideal) v (ix3 0 r l) = ve v r ⟨128 + l.val, by omega⟩ := by
  pointwise [ve, k0_pay27]

theorem v2 (v : FVec Ideal S512x512 .f32) (r : Fin 512) (l : Fin 128) :
    k0_pay1 (F := Ideal) (k0_pay30 v) (ix3 0 r l) = ve v r ⟨256 + l.val, by omega⟩ := by
  pointwise [ve, k0_pay1, k0_pay30]

theorem v3 (v : FVec Ideal S512x512 .f32) (r : Fin 512) (l : Fin 128) :
    k0_pay4 (F := Ideal) v (ix3 0 r l) = ve v r ⟨384 + l.val, by omega⟩ := by
  pointwise [ve, k0_pay4]

/-- The values' block. -/
theorem v (p : Fin 4) (r : Fin 512) (l : Fin 128) :
    out0_14 (F := Ideal) x0 x1 x2 x3 x4 x5 x6 x7 x8 x9 x10 x11 (ix3 p r l)
      = ve (k0_pay13 (F := Ideal) (k0_pay5 x0 x1 x2) x5 x7) r ⟨128 * p.val + l.val, by omega⟩ := by
  generalize hy : (ix3 p r l : S4x512x128.Idx) = y
  have e0 : (y 0 : ℕ) = p.val := by rw [← hy]; rfl
  have e1 : (y 1 : ℕ) = r.val := by rw [← hy]; rfl
  have e2 : (y 2 : ℕ) = l.val := by rw [← hy]; rfl
  clear hy
  canon_tiles x h
  case piece0 =>
    unfold k0_pay34 k0_pay31
    have pv : p.val = 3 := by omega
    obtain rfl := at3 x 0 r l (by omega) (by omega) (by omega)
    frame_out
    exact (v3 _ _ _).trans (congrArg _ (Fin.ext (by show 384 + l.val = 128 * p.val + l.val; omega)))
  case piece1 =>
    unfold k0_pay34 k0_pay31
    have pv : p.val = 2 := by omega
    obtain rfl := at3 x 0 r l (by omega) (by omega) (by omega)
    frame_out
    exact (v2 _ _ _).trans (congrArg _ (Fin.ext (by show 256 + l.val = 128 * p.val + l.val; omega)))
  case piece2 =>
    unfold k0_pay34 k0_pay31
    have pv : p.val = 1 := by omega
    obtain rfl := at3 x 0 r l (by omega) (by omega) (by omega)
    frame_out
    exact (v1 _ _ _).trans (congrArg _ (Fin.ext (by show 128 + l.val = 128 * p.val + l.val; omega)))
  case piece3 =>
    unfold k0_pay34 k0_pay31
    have pv : p.val = 0 := by omega
    obtain rfl := at3 x 0 r l (by omega) (by omega) (by omega)
    frame_out
    exact (v0 _ _ _).trans (congrArg _ (Fin.ext (by show l.val = 128 * p.val + l.val; omega)))

/-- The recurrence's input branch. -/
theorem xbr (r l : Fin 512) :
    out0_15 (F := Ideal) x0 x1 x2 x3 x4 x5 x6 x7 x8 x9 x10 x11 (ix2 r l)
      = k0_pay5 (F := Ideal) x0 x1 x2 (ix2 r ⟨640 + l.val, by omega⟩) := by
  frame_out
  pointwise [k0_pay6]

/-- The recurrence's gate branch. -/
theorem gbr (r l : Fin 512) :
    out0_16 (F := Ideal) x0 x1 x2 x3 x4 x5 x6 x7 x8 x9 x10 x11 (ix2 r l)
      = k0_pay5 (F := Ideal) x0 x1 x2 (ix2 r ⟨1152 + l.val, by omega⟩) := by
  frame_out
  pointwise [k0_pay7]

end Cert.ProjLongBlock

end
-- ==== Proof.ProjLongHost.lean ====
module

public import proofs.«01_k».proof.Proof.Gen.ProjInLongIdeal.Frame
public import proofs.«01_k».proof.Proof.ProjMath
public import Idealize.ShloMosaic.Lib.Claim
public import Idealize.ShloMosaic.Lib.Pipeline.ReadBack
public import Idealize.ShloMosaic.Lib.StableHlo.RunRead

/-! # The operands the input projection is called with, entry by entry: sequences of 4096 tokens -/

@[expose] public section

set_option maxRecDepth 16384

noncomputable section

namespace Cert.ProjLongHost

open Idealize.ShloMosaic Idealize.ShloMosaic.TcCoe Idealize.SL.Sem
open Cert.ProjInLongIdeal Cert.ProjInLongIdeal.Gen
open Cert.ProjMath (ang)

variable (m : (ℓ : Loc nD τ sig) → Buf (Elt Ideal) ℓ) (c : Dev nD)

/-- The combined weight: the two latents' columns stand first. -/
theorem win_lo (d : Fin 1024) (k : Fin 640) :
    (show Vec Ideal S1024x1920 .bf16 from V m c main_v32) (ix2 d ⟨k.val, by omega⟩) = m ((c : Thread nD τ).loc main_arg2) (ix2 d ⟨k.val, by omega⟩) := by
  unfold V
  after_reads_simp
  try pointwise []
  try simp (disch := omega) only [dif_pos, dif_neg]
  after_reads_simp
  try pointwise []
  try simp (disch := omega) only [dif_pos, dif_neg]
  blk_ext []

/-- The input branch's columns. -/
theorem win_x (d : Fin 1024) (k : Fin 512) :
    (show Vec Ideal S1024x1920 .bf16 from V m c main_v32) (ix2 d ⟨640 + k.val, by omega⟩) = m ((c : Thread nD τ).loc main_arg2) (ix2 d ⟨672 + k.val, by omega⟩) := by
  unfold V
  after_reads_simp
  try pointwise []
  try simp (disch := omega) only [dif_pos, dif_neg]
  after_reads_simp
  try pointwise []
  try simp (disch := omega) only [dif_pos, dif_neg]
  blk_ext []

/-- The gate branch's columns. -/
theorem win_g (d : Fin 1024) (k : Fin 512) :
    (show Vec Ideal S1024x1920 .bf16 from V m c main_v32) (ix2 d ⟨1152 + k.val, by omega⟩) = m ((c : Thread nD τ).loc main_arg2) (ix2 d ⟨1184 + k.val, by omega⟩) := by
  unfold V
  after_reads_simp
  try pointwise []
  try simp (disch := omega) only [dif_pos, dif_neg]
  after_reads_simp
  try pointwise []
  try simp (disch := omega) only [dif_pos, dif_neg]
  blk_ext []

/-- The rotary columns. -/
theorem win_p (d : Fin 1024) (k : Fin 32) :
    (show Vec Ideal S1024x1920 .bf16 from V m c main_v32) (ix2 d ⟨1664 + (64 + k.val), by omega⟩) = m ((c : Thread nD τ).loc main_arg2) (ix2 d ⟨640 + k.val, by omega⟩) := by
  unfold V
  after_reads_simp
  try pointwise []
  try simp (disch := omega) only [dif_pos, dif_neg]
  after_reads_simp
  try pointwise []
  try simp (disch := omega) only [dif_pos, dif_neg]
  blk_ext []

/-- The turned rotary columns: the second half, negated, and the first half. -/
theorem win_r1 (d : Fin 1024) (k : Fin 16) :
    (show Vec Ideal S1024x1920 .bf16 from V m c main_v32) (ix2 d ⟨1792 + (64 + k.val), by omega⟩) = -(show EReal from m ((c : Thread nD τ).loc main_arg2) (ix2 d ⟨656 + k.val, by omega⟩)) := by
  unfold V
  after_reads_simp
  try pointwise []
  try simp (disch := omega) only [dif_pos, dif_neg]
  after_reads_simp
  try pointwise []
  try simp (disch := omega) only [dif_pos, dif_neg]
  refine congrArg (fun v : EReal => -v) (congrArg (m ((c : Thread nD τ).loc main_arg2)) ?_)
  blk_ext []

theorem win_r2 (d : Fin 1024) (k : Fin 16) :
    (show Vec Ideal S1024x1920 .bf16 from V m c main_v32) (ix2 d ⟨1792 + (80 + k.val), by omega⟩) = m ((c : Thread nD τ).loc main_arg2) (ix2 d ⟨640 + k.val, by omega⟩) := by
  unfold V
  after_reads_simp
  try pointwise []
  try simp (disch := omega) only [dif_pos, dif_neg]
  after_reads_simp
  try pointwise []
  try simp (disch := omega) only [dif_pos, dif_neg]
  blk_ext []

/-- The queries' weight, head by head. -/
theorem wq_p (d : Fin 384) (h : Fin 8) (k : Fin 96) :
    (show Vec Ideal S384x2048 .bf16 from V m c main_v34) (ix2 d ⟨128 * h.val + k.val, by omega⟩) = m ((c : Thread nD τ).loc main_arg4) (ix2 d ⟨96 * h.val + k.val, by omega⟩) := by
  unfold V
  after_reads_simp
  try pointwise []
  try simp (disch := omega) only [dif_pos, dif_neg]
  after_reads_simp
  try pointwise []
  try simp (disch := omega) only [dif_pos, dif_neg]
  after_reads_simp
  try pointwise []
  try simp (disch := omega) only [dif_pos, dif_neg]
  blk_ext []

/-- The queries' turned weight: the second rotary half, negated, and the first half. -/
theorem wq_r1 (d : Fin 384) (h : Fin 8) (k : Fin 16) :
    (show Vec Ideal S384x2048 .bf16 from V m c main_v34) (ix2 d ⟨1024 + (128 * h.val + (64 + k.val)), by omega⟩) = -(show EReal from m ((c : Thread nD τ).loc main_arg4) (ix2 d ⟨96 * h.val + (80 + k.val), by omega⟩)) := by
  unfold V
  after_reads_simp
  try pointwise []
  try simp (disch := omega) only [dif_pos, dif_neg]
  after_reads_simp
  try pointwise []
  try simp (disch := omega) only [dif_pos, dif_neg]
  after_reads_simp
  try pointwise []
  try simp (disch := omega) only [dif_pos, dif_neg]
  refine congrArg (fun v : EReal => -v) (congrArg (m ((c : Thread nD τ).loc main_arg4)) ?_)
  blk_ext []

theorem wq_r2 (d : Fin 384) (h : Fin 8) (k : Fin 16) :
    (show Vec Ideal S384x2048 .bf16 from V m c main_v34) (ix2 d ⟨1024 + (128 * h.val + (80 + k.val)), by omega⟩) = m ((c : Thread nD τ).loc main_arg4) (ix2 d ⟨96 * h.val + (64 + k.val), by omega⟩) := by
  unfold V
  after_reads_simp
  try pointwise []
  try simp (disch := omega) only [dif_pos, dif_neg]
  after_reads_simp
  try pointwise []
  try simp (disch := omega) only [dif_pos, dif_neg]
  after_reads_simp
  try pointwise []
  try simp (disch := omega) only [dif_pos, dif_neg]
  blk_ext []

/-- The keys' weight: 64 columns of each head, then zeros. -/
theorem wk_lo (d : Fin 256) (h : Fin 8) (k : Fin 64) :
    (show Vec Ideal S256x1024 .bf16 from V m c main_v36) (ix2 d ⟨128 * h.val + k.val, by omega⟩) = m ((c : Thread nD τ).loc main_arg6) (ix2 d ⟨128 * h.val + k.val, by omega⟩) := by
  unfold V
  after_reads_simp
  try pointwise []
  try simp (disch := omega) only [dif_pos, dif_neg]
  after_reads_simp
  try pointwise []
  try simp (disch := omega) only [dif_pos, dif_neg]
  blk_ext []

theorem wk_hi (d : Fin 256) (h : Fin 8) (k : Fin 64) :
    (show Vec Ideal S256x1024 .bf16 from V m c main_v36) (ix2 d ⟨128 * h.val + (64 + k.val), by omega⟩) = 0 := by
  unfold V
  after_reads_simp
  try pointwise []
  try simp (disch := omega) only [dif_pos, dif_neg]
  after_reads_simp
  try pointwise []
  try simp (disch := omega) only [dif_pos, dif_neg]

/-- The values' weight: the other 64 columns of each head. -/
theorem wv (d : Fin 256) (h : Fin 8) (k : Fin 64) :
    (show Vec Ideal S256x512 .bf16 from V m c main_v37) (ix2 d ⟨64 * h.val + k.val, by omega⟩) = m ((c : Thread nD τ).loc main_arg6) (ix2 d ⟨128 * h.val + (64 + k.val), by omega⟩) := by
  unfold V
  after_reads_simp
  try pointwise []
  try simp (disch := omega) only [dif_pos, dif_neg]
  blk_ext []

/-- The queries' cosine table, which carries the scale. -/
theorem cq_lo (s : Fin 4096) (k : Fin 64) :
    (show Vec Ideal S4096x128 .f32 from V m c main_v66) (ix2 s ⟨k.val, by omega⟩) = Ideal.ofBits .f32 0x3DD105EC#32 := by
  unfold V
  after_reads_simp
  try pointwise []
  try simp (disch := omega) only [dif_pos, dif_neg]
  after_reads_simp
  try pointwise []
  try simp (disch := omega) only [dif_pos, dif_neg]

theorem cq_1 (s : Fin 4096) (k : Fin 16) :
    (show Vec Ideal S4096x128 .f32 from V m c main_v66) (ix2 s ⟨64 + k.val, by omega⟩) = Ideal.cos (ang s.val k.val) * Ideal.ofBits .f32 0x3DD105EC#32 := by
  unfold V
  after_reads_simp
  try pointwise []
  try simp (disch := omega) only [dif_pos, dif_neg]
  after_reads_simp
  try pointwise []
  try simp (disch := omega) only [dif_pos, dif_neg]
  rfl

theorem cq_2 (s : Fin 4096) (k : Fin 16) :
    (show Vec Ideal S4096x128 .f32 from V m c main_v66) (ix2 s ⟨80 + k.val, by omega⟩) = Ideal.cos (ang s.val k.val) * Ideal.ofBits .f32 0x3DD105EC#32 := by
  unfold V
  after_reads_simp
  try pointwise []
  try simp (disch := omega) only [dif_pos, dif_neg]
  after_reads_simp
  try pointwise []
  try simp (disch := omega) only [dif_pos, dif_neg]
  rw [show 80 + k.val - 64 - 16 = k.val by omega]
  rfl

theorem cq_hi (s : Fin 4096) (k : Fin 32) :
    (show Vec Ideal S4096x128 .f32 from V m c main_v66) (ix2 s ⟨96 + k.val, by omega⟩) = 0 := by
  unfold V
  after_reads_simp
  try pointwise []
  try simp (disch := omega) only [dif_pos, dif_neg]
  after_reads_simp
  try pointwise []
  try simp (disch := omega) only [dif_pos, dif_neg]
  rw [zero_mul]

/-- The queries' sine table. -/
theorem sq_lo (s : Fin 4096) (k : Fin 64) :
    (show Vec Ideal S4096x128 .f32 from V m c main_v69) (ix2 s ⟨k.val, by omega⟩) = 0 := by
  unfold V
  after_reads_simp
  try pointwise []
  try simp (disch := omega) only [dif_pos, dif_neg]
  after_reads_simp
  try pointwise []
  try simp (disch := omega) only [dif_pos, dif_neg]
  rw [zero_mul]

theorem sq_1 (s : Fin 4096) (k : Fin 16) :
    (show Vec Ideal S4096x128 .f32 from V m c main_v69) (ix2 s ⟨64 + k.val, by omega⟩) = Ideal.sin (ang s.val k.val) * Ideal.ofBits .f32 0x3DD105EC#32 := by
  unfold V
  after_reads_simp
  try pointwise []
  try simp (disch := omega) only [dif_pos, dif_neg]
  after_reads_simp
  try pointwise []
  try simp (disch := omega) only [dif_pos, dif_neg]
  rfl

theorem sq_2 (s : Fin 4096) (k : Fin 16) :
    (show Vec Ideal S4096x128 .f32 from V m c main_v69) (ix2 s ⟨80 + k.val, by omega⟩) = Ideal.sin (ang s.val k.val) * Ideal.ofBits .f32 0x3DD105EC#32 := by
  unfold V
  after_reads_simp
  try pointwise []
  try simp (disch := omega) only [dif_pos, dif_neg]
  after_reads_simp
  try pointwise []
  try simp (disch := omega) only [dif_pos, dif_neg]
  rw [show 80 + k.val - 64 - 16 = k.val by omega]
  rfl

theorem sq_hi (s : Fin 4096) (k : Fin 32) :
    (show Vec Ideal S4096x128 .f32 from V m c main_v69) (ix2 s ⟨96 + k.val, by omega⟩) = 0 := by
  unfold V
  after_reads_simp
  try pointwise []
  try simp (disch := omega) only [dif_pos, dif_neg]
  after_reads_simp
  try pointwise []
  try simp (disch := omega) only [dif_pos, dif_neg]
  rw [zero_mul]

/-- The keys' cosine table. -/
theorem ck_lo (s : Fin 4096) (k : Fin 64) :
    (show Vec Ideal S4096x128 .f32 from V m c main_v70) (ix2 s ⟨k.val, by omega⟩) = 0 := by
  unfold V
  after_reads_simp
  try pointwise []
  try simp (disch := omega) only [dif_pos, dif_neg]
  after_reads_simp
  try pointwise []
  try simp (disch := omega) only [dif_pos, dif_neg]

theorem ck_1 (s : Fin 4096) (k : Fin 16) :
    (show Vec Ideal S4096x128 .f32 from V m c main_v70) (ix2 s ⟨64 + k.val, by omega⟩) = Ideal.cos (ang s.val k.val) := by
  unfold V
  after_reads_simp
  try pointwise []
  try simp (disch := omega) only [dif_pos, dif_neg]
  after_reads_simp
  try pointwise []
  try simp (disch := omega) only [dif_pos, dif_neg]
  rfl

theorem ck_2 (s : Fin 4096) (k : Fin 16) :
    (show Vec Ideal S4096x128 .f32 from V m c main_v70) (ix2 s ⟨80 + k.val, by omega⟩) = Ideal.cos (ang s.val k.val) := by
  unfold V
  after_reads_simp
  try pointwise []
  try simp (disch := omega) only [dif_pos, dif_neg]
  after_reads_simp
  try pointwise []
  try simp (disch := omega) only [dif_pos, dif_neg]
  rw [show 80 + k.val - 64 - 16 = k.val by omega]
  rfl

theorem ck_hi (s : Fin 4096) (k : Fin 32) :
    (show Vec Ideal S4096x128 .f32 from V m c main_v70) (ix2 s ⟨96 + k.val, by omega⟩) = 0 := by
  unfold V
  after_reads_simp
  try pointwise []
  try simp (disch := omega) only [dif_pos, dif_neg]
  after_reads_simp
  try pointwise []
  try simp (disch := omega) only [dif_pos, dif_neg]

/-- The keys' sine table. -/
theorem sk_lo (s : Fin 4096) (k : Fin 64) :
    (show Vec Ideal S4096x128 .f32 from V m c main_v71) (ix2 s ⟨k.val, by omega⟩) = 0 := by
  unfold V
  after_reads_simp
  try pointwise []
  try simp (disch := omega) only [dif_pos, dif_neg]
  after_reads_simp
  try pointwise []
  try simp (disch := omega) only [dif_pos, dif_neg]

theorem sk_1 (s : Fin 4096) (k : Fin 16) :
    (show Vec Ideal S4096x128 .f32 from V m c main_v71) (ix2 s ⟨64 + k.val, by omega⟩) = Ideal.sin (ang s.val k.val) := by
  unfold V
  after_reads_simp
  try pointwise []
  try simp (disch := omega) only [dif_pos, dif_neg]
  after_reads_simp
  try pointwise []
  try simp (disch := omega) only [dif_pos, dif_neg]
  rfl

theorem sk_2 (s : Fin 4096) (k : Fin 16) :
    (show Vec Ideal S4096x128 .f32 from V m c main_v71) (ix2 s ⟨80 + k.val, by omega⟩) = Ideal.sin (ang s.val k.val) := by
  unfold V
  after_reads_simp
  try pointwise []
  try simp (disch := omega) only [dif_pos, dif_neg]
  after_reads_simp
  try pointwise []
  try simp (disch := omega) only [dif_pos, dif_neg]
  rw [show 80 + k.val - 64 - 16 = k.val by omega]
  rfl

theorem sk_hi (s : Fin 4096) (k : Fin 32) :
    (show Vec Ideal S4096x128 .f32 from V m c main_v71) (ix2 s ⟨96 + k.val, by omega⟩) = 0 := by
  unfold V
  after_reads_simp
  try pointwise []
  try simp (disch := omega) only [dif_pos, dif_neg]
  after_reads_simp
  try pointwise []
  try simp (disch := omega) only [dif_pos, dif_neg]

/-- The input's norm weights, as a row. -/
theorem n1 (d : Fin 1024) :
    (show Vec Ideal S1x1024 .f32 from V m c main_v31) (ix2 0 d) = m ((c : Thread nD τ).loc main_arg1) (ix1 d) := by
  unfold V
  after_reads_simp
  pointwise []
  blk_ext []

/-- The query latent's norm weights, as a row. -/
theorem nq (d : Fin 384) :
    (show Vec Ideal S1x384 .f32 from V m c main_v33) (ix2 0 d) = m ((c : Thread nD τ).loc main_arg3) (ix1 d) := by
  unfold V
  after_reads_simp
  pointwise []
  blk_ext []

/-- The key and value latent's norm weights, as a row. -/
theorem nk (d : Fin 256) :
    (show Vec Ideal S1x256 .f32 from V m c main_v35) (ix2 0 d) = m ((c : Thread nD τ).loc main_arg5) (ix1 d) := by
  unfold V
  after_reads_simp
  pointwise []
  blk_ext []

end Cert.ProjLongHost

end
-- ==== Proof.ProjLongRefRead.lean ====
module

public import proofs.«01_k».proof.Proof.Gen.ProjInLongRefIdeal.Read
public import proofs.«01_k».proof.Proof.ProjMath
public import Idealize.ShloMosaic.Lib.KernelVsHost

/-! # The projection reference, entry by entry: sequences of 4096 tokens -/

@[expose] public section

set_option maxRecDepth 16384

noncomputable section

namespace Cert.ProjLongRefRead

open Idealize.ShloMosaic Idealize.ShloMosaic.TcCoe Idealize.SL.Sem
open Cert.ProjInLongRefIdeal Cert.ProjInLongRefIdeal.Read
open Cert.ProjMath (nrm lin ang)

variable (x0 : (⟨S65536x1024, .f32⟩ : BufTy).Contents (Elt Ideal)) (x1 : (⟨S1024, .f32⟩ : BufTy).Contents (Elt Ideal))
  (x2 : (⟨S1024x1696, .f32⟩ : BufTy).Contents (Elt Ideal)) (x3 : (⟨S384, .f32⟩ : BufTy).Contents (Elt Ideal))
  (x4 : (⟨S384x768, .f32⟩ : BufTy).Contents (Elt Ideal)) (x5 : (⟨S256, .f32⟩ : BufTy).Contents (Elt Ideal))
  (x6 : (⟨S256x1024, .f32⟩ : BufTy).Contents (Elt Ideal))

/-- The normed input row. -/
def fin (n : Fin 65536) (d : Fin 1024) : EReal :=
  nrm (Ideal.ofBits .f32 0x44800000#32) (fun l : Fin 1024 => x0 (ix2 n l)) (fun l : Fin 1024 => x1 (ix1 l)) d

/-- An entry of the combined projection. -/
def zz (n : Fin 65536) (c : Fin 1696) : EReal := lin (fin x0 x1 n) (fun d : Fin 1024 => x2 (ix2 d c))

/-- The normed query latent. -/
def fq (n : Fin 65536) (d : Fin 384) : EReal :=
  nrm (Ideal.ofBits .f32 0x43C00000#32) (fun l : Fin 384 => zz x0 x1 x2 n ⟨l.val, by omega⟩) (fun l : Fin 384 => x3 (ix1 l)) d

/-- The normed key and value latent. -/
def fk (n : Fin 65536) (d : Fin 256) : EReal :=
  nrm (Ideal.ofBits .f32 0x43800000#32) (fun l : Fin 256 => zz x0 x1 x2 n ⟨384 + l.val, by omega⟩) (fun l : Fin 256 => x5 (ix1 l)) d

/-- An entry of the queries before the turn. -/
def qu (n : Fin 65536) (c : Fin 768) : EReal := lin (fq x0 x1 x2 x3 n) (fun d : Fin 384 => x4 (ix2 d c))

/-- An entry of the keys and values. -/
def ku (n : Fin 65536) (c : Fin 1024) : EReal := lin (fk x0 x1 x2 x5 n) (fun d : Fin 256 => x6 (ix2 d c))

theorem z (n : Fin 65536) (c : Fin 1696) : val_main_v13 (F := Ideal) x0 x1 x2 (ix2 n c) = zz x0 x1 x2 n c := by
  have h : ∀ d : Fin 1024, val_main_v12 (F := Ideal) x0 x1 (ix2 n d) = fin x0 x1 n d := fun d => by
    pointwise [val_main_v12, val_main_v11, val_main_v10, val_main_v9, val_main_v8, val_main_v7, val_main_v6, val_main_v5, val_main_v4,
      val_main_v3, val_main_v2, val_main_v1, val_main_v0, val_main_cst, val_main_cst_0, val_main_cst_1, fin, nrm]
  unfold zz lin
  simp only [← h]
  unfold val_main_v13
  generalize val_main_v12 (F := Ideal) x0 x1 = f
  pointwise []

theorem qup (n : Fin 65536) (c : Fin 768) : val_main_v32 (F := Ideal) x0 x1 x2 x3 x4 (ix2 n c) = qu x0 x1 x2 x3 x4 n c := by
  have h : ∀ d : Fin 384, val_main_v31 (F := Ideal) x0 x1 x2 x3 (ix2 n d) = fq x0 x1 x2 x3 n d := fun d => by
    unfold fq
    simp only [← z]
    unfold val_main_v31 val_main_v28 val_main_v27 val_main_v26 val_main_v25 val_main_v23 val_main_v21 val_main_v20 val_main_v19 val_main_v14
    generalize val_main_v13 (F := Ideal) x0 x1 x2 = v
    pointwise [val_main_v30, val_main_v29, val_main_v24, val_main_v22, val_main_cst_2, val_main_cst_3, val_main_cst_4, nrm]
  unfold qu lin
  simp only [← h]
  unfold val_main_v32
  generalize val_main_v31 (F := Ideal) x0 x1 x2 x3 = f
  pointwise []

theorem kup (n : Fin 65536) (c : Fin 1024) : val_main_v47 (F := Ideal) x0 x1 x2 x5 x6 (ix2 n c) = ku x0 x1 x2 x5 x6 n c := by
  have h : ∀ d : Fin 256, val_main_v46 (F := Ideal) x0 x1 x2 x5 (ix2 n d) = fk x0 x1 x2 x5 n d := fun d => by
    unfold fk
    simp only [← z]
    unfold val_main_v46 val_main_v43 val_main_v42 val_main_v41 val_main_v40 val_main_v38 val_main_v36 val_main_v35 val_main_v34 val_main_v15
    generalize val_main_v13 (F := Ideal) x0 x1 x2 = v
    pointwise [val_main_v45, val_main_v44, val_main_v39, val_main_v37, val_main_cst_5, val_main_cst_6, val_main_cst_7, nrm]
  unfold ku lin
  simp only [← h]
  unfold val_main_v47
  generalize val_main_v46 (F := Ideal) x0 x1 x2 x5 = f
  pointwise []

/-- The table of cosines. -/
theorem cos (s : Fin 4096) (k : Fin 16) : val_main_v67 (F := Ideal) (ix4 0 s 0 k) = Ideal.cos (ang s.val k.val) := by
  pointwise [val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_v50, val_main_v49,
    val_main_cst_8, val_main_cst_9, val_main_cst_10, val_main_cst_11, val_main_cst_12, ang]

/-- The table of sines. -/
theorem sin (s : Fin 4096) (k : Fin 16) : val_main_v69 (F := Ideal) (ix4 0 s 0 k) = Ideal.sin (ang s.val k.val) := by
  pointwise [val_main_v69, val_main_v68, val_main_v65, val_main_v64, val_main_v63, val_main_v62, val_main_v61, val_main_v60, val_main_v59,
    val_main_v58, val_main_v57, val_main_v56, val_main_v55, val_main_v54, val_main_v53, val_main_v52, val_main_v51, val_main_v50, val_main_v49,
    val_main_cst_8, val_main_cst_9, val_main_cst_10, val_main_cst_11, val_main_cst_12, ang]

/-- The queries by head. -/
theorem qhead (b : Fin 16) (s : Fin 4096) (h : Fin 8) (j : Fin 96) :
    val_main_v33 (F := Ideal) x0 x1 x2 x3 x4 (ix4 b s h j)
      = qu x0 x1 x2 x3 x4 ⟨4096 * b.val + s.val, by omega⟩ ⟨96 * h.val + j.val, by omega⟩ := by
  rw [← qup]
  unfold val_main_v33
  generalize val_main_v32 (F := Ideal) x0 x1 x2 x3 x4 = v
  pointwise []
  blk_ext []

/-- The keys and values by head. -/
theorem khead (b : Fin 16) (s : Fin 4096) (h : Fin 8) (j : Fin 128) :
    val_main_v48 (F := Ideal) x0 x1 x2 x5 x6 (ix4 b s h j)
      = ku x0 x1 x2 x5 x6 ⟨4096 * b.val + s.val, by omega⟩ ⟨128 * h.val + j.val, by omega⟩ := by
  rw [← kup]
  unfold val_main_v48
  generalize val_main_v47 (F := Ideal) x0 x1 x2 x5 x6 = v
  pointwise []
  blk_ext []

/-- The key's rotary part. -/
theorem krope (b : Fin 16) (s : Fin 4096) (j : Fin 32) :
    val_main_v84 (F := Ideal) x0 x1 x2 (ix4 b s 0 j) = zz x0 x1 x2 ⟨4096 * b.val + s.val, by omega⟩ ⟨640 + j.val, by omega⟩ := by
  rw [← z]
  unfold val_main_v84 val_main_v16
  generalize val_main_v13 (F := Ideal) x0 x1 x2 = v
  pointwise []
  blk_ext []

/-- The first 64 lanes of a query head: the scaled projection. -/
theorem q_lo (b : Fin 16) (s : Fin 4096) (h : Fin 8) (k : Fin 64) :
    val_main_v108 (F := Ideal) x0 x1 x2 x3 x4 (ix4 b s h ⟨k.val, by omega⟩)
      = qu x0 x1 x2 x3 x4 ⟨4096 * b.val + s.val, by omega⟩ ⟨96 * h.val + k.val, by omega⟩ * Ideal.ofBits .f32 0x3DD105EC#32 := by
  rw [show qu x0 x1 x2 x3 x4 ⟨4096 * b.val + s.val, by omega⟩ ⟨96 * h.val + k.val, by omega⟩ = _ from (qhead x0 x1 x2 x3 x4 b s h ⟨k.val, by omega⟩).symm]
  unfold val_main_v108 val_main_v101 val_main_v99 val_main_v98
  generalize val_main_v33 (F := Ideal) x0 x1 x2 x3 x4 = v
  generalize val_main_v83 (F := Ideal) x0 x1 x2 x3 x4 = w
  pointwise [val_main_v100, val_main_cst_13]
  simp (disch := omega) only [dif_pos, dif_neg]

/-- The first half of the turned lanes of a query head. -/
theorem q_1 (b : Fin 16) (s : Fin 4096) (h : Fin 8) (k : Fin 16) :
    val_main_v108 (F := Ideal) x0 x1 x2 x3 x4 (ix4 b s h ⟨64 + k.val, by omega⟩)
      = (qu x0 x1 x2 x3 x4 ⟨4096 * b.val + s.val, by omega⟩ ⟨96 * h.val + (64 + k.val), by omega⟩ * Ideal.cos (ang s.val k.val)
        - qu x0 x1 x2 x3 x4 ⟨4096 * b.val + s.val, by omega⟩ ⟨96 * h.val + (80 + k.val), by omega⟩ * Ideal.sin (ang s.val k.val)) * Ideal.ofBits .f32 0x3DD105EC#32 := by
  rw [show qu x0 x1 x2 x3 x4 ⟨4096 * b.val + s.val, by omega⟩ ⟨96 * h.val + (64 + k.val), by omega⟩ = _ from (qhead x0 x1 x2 x3 x4 b s h ⟨64 + k.val, by omega⟩).symm,
    show qu x0 x1 x2 x3 x4 ⟨4096 * b.val + s.val, by omega⟩ ⟨96 * h.val + (80 + k.val), by omega⟩ = _ from (qhead x0 x1 x2 x3 x4 b s h ⟨80 + k.val, by omega⟩).symm,
    ← cos s k, ← sin s k]
  unfold val_main_v108 val_main_v101 val_main_v99 val_main_v98 val_main_v83 val_main_v82 val_main_v81 val_main_v80 val_main_v79 val_main_v78
    val_main_v77 val_main_v76 val_main_v75 val_main_v74 val_main_v73 val_main_v72 val_main_v71 val_main_v70
  generalize val_main_v33 (F := Ideal) x0 x1 x2 x3 x4 = v
  generalize val_main_v67 (F := Ideal) = c
  generalize val_main_v69 (F := Ideal) = d
  pointwise [val_main_v100, val_main_cst_13]
  simp (disch := omega) only [dif_pos, dif_neg]
  blk_point []

/-- The second half of the turned lanes of a query head. -/
theorem q_2 (b : Fin 16) (s : Fin 4096) (h : Fin 8) (k : Fin 16) :
    val_main_v108 (F := Ideal) x0 x1 x2 x3 x4 (ix4 b s h ⟨80 + k.val, by omega⟩)
      = (qu x0 x1 x2 x3 x4 ⟨4096 * b.val + s.val, by omega⟩ ⟨96 * h.val + (80 + k.val), by omega⟩ * Ideal.cos (ang s.val k.val)
        + qu x0 x1 x2 x3 x4 ⟨4096 * b.val + s.val, by omega⟩ ⟨96 * h.val + (64 + k.val), by omega⟩ * Ideal.sin (ang s.val k.val)) * Ideal.ofBits .f32 0x3DD105EC#32 := by
  rw [show qu x0 x1 x2 x3 x4 ⟨4096 * b.val + s.val, by omega⟩ ⟨96 * h.val + (64 + k.val), by omega⟩ = _ from (qhead x0 x1 x2 x3 x4 b s h ⟨64 + k.val, by omega⟩).symm,
    show qu x0 x1 x2 x3 x4 ⟨4096 * b.val + s.val, by omega⟩ ⟨96 * h.val + (80 + k.val), by omega⟩ = _ from (qhead x0 x1 x2 x3 x4 b s h ⟨80 + k.val, by omega⟩).symm,
    ← cos s k, ← sin s k]
  unfold val_main_v108 val_main_v101 val_main_v99 val_main_v98 val_main_v83 val_main_v82 val_main_v81 val_main_v80 val_main_v79 val_main_v78
    val_main_v77 val_main_v76 val_main_v75 val_main_v74 val_main_v73 val_main_v72 val_main_v71 val_main_v70
  generalize val_main_v33 (F := Ideal) x0 x1 x2 x3 x4 = v
  generalize val_main_v67 (F := Ideal) = c
  generalize val_main_v69 (F := Ideal) = d
  pointwise [val_main_v100, val_main_cst_13]
  simp (disch := omega) only [dif_pos, dif_neg]
  blk_point []

/-- The padded lanes of a query head. -/
theorem q_hi (b : Fin 16) (s : Fin 4096) (h : Fin 8) (k : Fin 32) :
    val_main_v108 (F := Ideal) x0 x1 x2 x3 x4 (ix4 b s h ⟨96 + k.val, by omega⟩) = 0 := by
  unfold val_main_v108
  generalize val_main_v101 (F := Ideal) x0 x1 x2 x3 x4 = w
  pointwise [val_main_call0_v0, val_main_c]
  exact sitofp_zero (φ := .f32)

/-- The first 64 lanes of a key head. -/
theorem k_lo (b : Fin 16) (s : Fin 4096) (h : Fin 8) (k : Fin 64) :
    val_main_v112 (F := Ideal) x0 x1 x2 x5 x6 (ix4 b s h ⟨k.val, by omega⟩)
      = ku x0 x1 x2 x5 x6 ⟨4096 * b.val + s.val, by omega⟩ ⟨128 * h.val + k.val, by omega⟩ := by
  rw [show ku x0 x1 x2 x5 x6 ⟨4096 * b.val + s.val, by omega⟩ ⟨128 * h.val + k.val, by omega⟩ = _ from (khead x0 x1 x2 x5 x6 b s h ⟨k.val, by omega⟩).symm]
  unfold val_main_v112 val_main_v104 val_main_v102
  generalize val_main_v48 (F := Ideal) x0 x1 x2 x5 x6 = v
  generalize val_main_v103 (F := Ideal) x0 x1 x2 = w
  pointwise []
  simp (disch := omega) only [dif_pos, dif_neg]

/-- The first half of the turned lanes of a key head. -/
theorem k_1 (b : Fin 16) (s : Fin 4096) (h : Fin 8) (k : Fin 16) :
    val_main_v112 (F := Ideal) x0 x1 x2 x5 x6 (ix4 b s h ⟨64 + k.val, by omega⟩)
      = zz x0 x1 x2 ⟨4096 * b.val + s.val, by omega⟩ ⟨640 + k.val, by omega⟩ * Ideal.cos (ang s.val k.val) - zz x0 x1 x2 ⟨4096 * b.val + s.val, by omega⟩ ⟨656 + k.val, by omega⟩ * Ideal.sin (ang s.val k.val) := by
  rw [show zz x0 x1 x2 ⟨4096 * b.val + s.val, by omega⟩ ⟨640 + k.val, by omega⟩ = _ from (krope x0 x1 x2 b s ⟨k.val, by omega⟩).symm,
    show zz x0 x1 x2 ⟨4096 * b.val + s.val, by omega⟩ ⟨656 + k.val, by omega⟩ = val_main_v84 (F := Ideal) x0 x1 x2 (ix4 b s 0 ⟨16 + k.val, by omega⟩) from
      (congrArg (zz x0 x1 x2 _) (Fin.ext (by show 656 + k.val = 640 + (16 + k.val); omega))).trans (krope x0 x1 x2 b s ⟨16 + k.val, by omega⟩).symm,
    ← cos s k, ← sin s k]
  unfold val_main_v112 val_main_v104 val_main_v103 val_main_v97 val_main_v96 val_main_v95 val_main_v94 val_main_v93 val_main_v92
    val_main_v91 val_main_v90 val_main_v89 val_main_v88 val_main_v87 val_main_v86 val_main_v85
  generalize val_main_v102 (F := Ideal) x0 x1 x2 x5 x6 = u
  generalize val_main_v84 (F := Ideal) x0 x1 x2 = v
  generalize val_main_v67 (F := Ideal) = c
  generalize val_main_v69 (F := Ideal) = d
  pointwise []
  simp (disch := omega) only [dif_pos, dif_neg]

/-- The second half of the turned lanes of a key head. -/
theorem k_2 (b : Fin 16) (s : Fin 4096) (h : Fin 8) (k : Fin 16) :
    val_main_v112 (F := Ideal) x0 x1 x2 x5 x6 (ix4 b s h ⟨80 + k.val, by omega⟩)
      = zz x0 x1 x2 ⟨4096 * b.val + s.val, by omega⟩ ⟨656 + k.val, by omega⟩ * Ideal.cos (ang s.val k.val) + zz x0 x1 x2 ⟨4096 * b.val + s.val, by omega⟩ ⟨640 + k.val, by omega⟩ * Ideal.sin (ang s.val k.val) := by
  rw [show zz x0 x1 x2 ⟨4096 * b.val + s.val, by omega⟩ ⟨640 + k.val, by omega⟩ = _ from (krope x0 x1 x2 b s ⟨k.val, by omega⟩).symm,
    show zz x0 x1 x2 ⟨4096 * b.val + s.val, by omega⟩ ⟨656 + k.val, by omega⟩ = val_main_v84 (F := Ideal) x0 x1 x2 (ix4 b s 0 ⟨16 + k.val, by omega⟩) from
      (congrArg (zz x0 x1 x2 _) (Fin.ext (by show 656 + k.val = 640 + (16 + k.val); omega))).trans (krope x0 x1 x2 b s ⟨16 + k.val, by omega⟩).symm,
    ← cos s k, ← sin s k]
  unfold val_main_v112 val_main_v104 val_main_v103 val_main_v97 val_main_v96 val_main_v95 val_main_v94 val_main_v93 val_main_v92
    val_main_v91 val_main_v90 val_main_v89 val_main_v88 val_main_v87 val_main_v86 val_main_v85
  generalize val_main_v102 (F := Ideal) x0 x1 x2 x5 x6 = u
  generalize val_main_v84 (F := Ideal) x0 x1 x2 = v
  generalize val_main_v67 (F := Ideal) = c
  generalize val_main_v69 (F := Ideal) = d
  pointwise []
  simp (disch := omega) only [dif_pos, dif_neg]
  blk_point []

/-- The padded lanes of a key head. -/
theorem k_hi (b : Fin 16) (s : Fin 4096) (h : Fin 8) (k : Fin 32) :
    val_main_v112 (F := Ideal) x0 x1 x2 x5 x6 (ix4 b s h ⟨96 + k.val, by omega⟩) = 0 := by
  unfold val_main_v112
  generalize val_main_v104 (F := Ideal) x0 x1 x2 x5 x6 = w
  pointwise [val_main_call1_v0, val_main_c_14]
  exact sitofp_zero (φ := .f32)

/-- The query result, two heads in a row. -/
theorem q_at (p : Fin 4) (n : Fin 65536) (l : Fin 256) :
    val_main_v111 (F := Ideal) x0 x1 x2 x3 x4 (ix3 p n l)
      = val_main_v108 (F := Ideal) x0 x1 x2 x3 x4 (ix4 ⟨n.val / 4096, by omega⟩ ⟨n.val % 4096, by omega⟩
          ⟨2 * p.val + l.val / 128, by omega⟩ ⟨l.val % 128, by omega⟩) := by
  unfold val_main_v111 val_main_v110 val_main_v109
  generalize val_main_v108 (F := Ideal) x0 x1 x2 x3 x4 = w
  pointwise []
  blk_ext []

/-- The key result, two heads in a row. -/
theorem k_at (p : Fin 4) (n : Fin 65536) (l : Fin 256) :
    val_main_v115 (F := Ideal) x0 x1 x2 x5 x6 (ix3 p n l)
      = val_main_v112 (F := Ideal) x0 x1 x2 x5 x6 (ix4 ⟨n.val / 4096, by omega⟩ ⟨n.val % 4096, by omega⟩
          ⟨2 * p.val + l.val / 128, by omega⟩ ⟨l.val % 128, by omega⟩) := by
  unfold val_main_v115 val_main_v114 val_main_v113
  generalize val_main_v112 (F := Ideal) x0 x1 x2 x5 x6 = w
  pointwise []
  blk_ext []

/-- The value result, two heads in a row. -/
theorem v_at (p : Fin 4) (n : Fin 65536) (l : Fin 128) :
    val_main_v116 (F := Ideal) x0 x1 x2 x5 x6 (ix3 p n l)
      = ku x0 x1 x2 x5 x6 n ⟨128 * (2 * p.val + l.val / 64) + (64 + l.val % 64), by omega⟩ := by
  have h := khead x0 x1 x2 x5 x6 ⟨n.val / 4096, by omega⟩ ⟨n.val % 4096, by omega⟩ ⟨2 * p.val + l.val / 64, by omega⟩
    ⟨64 + l.val % 64, by omega⟩
  refine Eq.trans ?_ (h.trans (congrArg (fun n => ku x0 x1 x2 x5 x6 n _) (Fin.ext (by show 4096 * (n.val / 4096) + n.val % 4096 = n.val; omega))))
  unfold val_main_v116 val_main_v107 val_main_v106 val_main_v105
  generalize val_main_v48 (F := Ideal) x0 x1 x2 x5 x6 = w
  pointwise []
  blk_ext []

/-- The input branch. -/
theorem x_at (n : Fin 65536) (l : Fin 512) :
    val_main_v117 (F := Ideal) x0 x1 x2 (ix2 n l) = zz x0 x1 x2 n ⟨672 + l.val, by omega⟩ := by
  rw [← z]
  unfold val_main_v117 val_main_v17
  generalize val_main_v13 (F := Ideal) x0 x1 x2 = v
  pointwise []
  blk_ext []

/-- The gate branch. -/
theorem g_at (n : Fin 65536) (l : Fin 512) :
    val_main_v118 (F := Ideal) x0 x1 x2 (ix2 n l) = zz x0 x1 x2 n ⟨1184 + l.val, by omega⟩ := by
  rw [← z]
  unfold val_main_v118 val_main_v18
  generalize val_main_v13 (F := Ideal) x0 x1 x2 = v
  pointwise []
  blk_ext []

end Cert.ProjLongRefRead

end
-- ==== Proof.ProjLongRow.lean ====
module

public import proofs.«01_k».proof.Proof.ProjLongRead
public import proofs.«01_k».proof.Proof.ProjLongBlock
public import proofs.«01_k».proof.Proof.ProjLongHost
public import proofs.«01_k».proof.Proof.ProjLongRefRead

/-! # One row of a grid point, against the reference's row of the same token: sequences of 4096 tokens -/

@[expose] public section

set_option maxRecDepth 16384

noncomputable section

namespace Cert.ProjLongRow

open Idealize.ShloMosaic Idealize.ShloMosaic.TcCoe Idealize.SL.Sem
open Cert.ProjInLongIdeal Cert.ProjInLongIdeal.Gen
open Cert.ProjMath (nrm lin ang lin_congr lin_neg lin_zero nrm_real turn_fst turn_snd scale_nonneg)
open Cert.ProjLongRefRead (zz fq fk qu ku)

variable (m : (ℓ : Loc nD τ sig) → Buf (Elt Ideal) ℓ) (c : Dev nD)

/-- The constants the rows are divided by. -/
theorem c1024 : Ideal.ofBits .f32 0x44800000#32 = ((1024 : ℝ) : EReal) := by
  simp [Ideal.ofBits, Ideal.ieee]; norm_num
  rw [← EReal.coe_mul]; norm_num

theorem c384 : Ideal.ofBits .f32 0x43C00000#32 = ((384 : ℝ) : EReal) := by
  simp [Ideal.ofBits, Ideal.ieee]; norm_num
  rw [← EReal.coe_mul]; norm_num

/-- The queries' scale is a nonnegative real number. -/
theorem scale : 0 ≤ Ideal.ofBits .f32 0x3DD105EC#32 ∧ Ideal.ofBits .f32 0x3DD105EC#32 ≠ ⊤ := by
  refine scale_nonneg _ _ ?_ (by simp [Ideal.ofBits, Ideal.ieee]; rfl)
  positivity

/-- An entry of the queries' block by head and lane, from the four numbers it is made of. -/
theorem qe_at (Q : FVec Ideal S512x2048 .f32) (x y : Vec Ideal S512x128 .f32) (r : Fin 512) (h : Fin 8) (j : Fin 128) {u v p : EReal}
    (hp : Q (ix2 r ⟨128 * h.val + j.val, by omega⟩) = p) (hu : x (ix2 r j) = u)
    (hv : y (ix2 r j) = v) :
    ProjLongBlock.qe Q x y r ⟨128 * h.val + j.val, by omega⟩
      = p * u + Q (ix2 r ⟨1024 + (128 * h.val + j.val), by omega⟩) * v := by
  have e : (⟨(128 * h.val + j.val) % 128, by omega⟩ : Fin 128) = j := Fin.ext (by show (128 * h.val + j.val) % 128 = j.val; omega)
  unfold ProjLongBlock.qe
  rw [e, hp, hu, hv]

/-- An entry of the keys' block by head and lane, from the numbers it is made of. -/
theorem ke_at (K : FVec Ideal S512x1024 .f32) (z : FVec Ideal S512x1920 .f32) (x y : Vec Ideal S512x128 .f32) (r : Fin 512) (h : Fin 8)
    (j : Fin 128) {u v p : EReal} (hp : K (ix2 r ⟨128 * h.val + j.val, by omega⟩) = p) (hu : x (ix2 r j) = u) (hv : y (ix2 r j) = v) :
    ProjLongBlock.ke K z x y r ⟨128 * h.val + j.val, by omega⟩
      = p + (z (ix2 r ⟨1664 + j.val, by omega⟩) * u + z (ix2 r ⟨1792 + j.val, by omega⟩) * v) := by
  have e : (128 * h.val + j.val) % 128 = j.val := by omega
  unfold ProjLongBlock.ke
  simp only [e]
  rw [hp, hu, hv]

/-- The weights whose columns the kernel negates, and the norms those columns meet, are real. -/
def Real : Prop :=
  (∀ (d : Fin 1024) (k : Fin 16), (show EReal from m ((c : Thread nD τ).loc main_arg2) (ix2 d ⟨656 + k.val, by omega⟩)) ≠ ⊥
      ∧ (show EReal from m ((c : Thread nD τ).loc main_arg2) (ix2 d ⟨656 + k.val, by omega⟩)) ≠ ⊤)
    ∧ (∀ d : Fin 1024, (show EReal from m ((c : Thread nD τ).loc main_arg1) (ix1 d)) ≠ ⊥
      ∧ (show EReal from m ((c : Thread nD τ).loc main_arg1) (ix1 d)) ≠ ⊤)
    ∧ (∀ (d : Fin 384) (h : Fin 8) (k : Fin 16),
      (show EReal from m ((c : Thread nD τ).loc main_arg4) (ix2 d ⟨96 * h.val + (80 + k.val), by omega⟩)) ≠ ⊥
      ∧ (show EReal from m ((c : Thread nD τ).loc main_arg4) (ix2 d ⟨96 * h.val + (80 + k.val), by omega⟩)) ≠ ⊤)
    ∧ ∀ d : Fin 384, (show EReal from m ((c : Thread nD τ).loc main_arg3) (ix1 d)) ≠ ⊥
      ∧ (show EReal from m ((c : Thread nD τ).loc main_arg3) (ix1 d)) ≠ ⊤

variable (t : Fin cfg0.N) (r : Fin 512) (b : Fin 16) (s : Fin 4096) (hn : 512 * t.val + r.val = 4096 * b.val + s.val)

include hn

/-- A column of the combined projection. -/
theorem z_lin (k : Fin 1920) (w : Fin 1024 → EReal) (hw : ∀ d, (show Vec Ideal S1024x1920 .bf16 from V m c main_v32) (ix2 d k) = w d) :
    k0_pay5 (F := Ideal) (iblk m c 0 t) (iblk m c 1 t) (iblk m c 2 t) (ix2 r k) = lin (Cert.ProjLongRefRead.fin (m ((c : Thread nD τ).loc main_arg0)) (m ((c : Thread nD τ).loc main_arg1)) ⟨4096 * b.val + s.val, by omega⟩) w :=
  (ProjLongBlock.z _ _ _ r k).trans <| lin_congr
    (fun d => congrArg₂ (fun x g => nrm _ x g d) (funext fun l => ProjLongRead.b0 m c t r b s hn l)
      (funext fun l => (ProjLongRead.b1 m c t l).trans (ProjLongHost.n1 m c l)))
    fun d => (ProjLongRead.b2 m c t d k).trans (hw d)

/-- The two latents' columns. -/
theorem z_lo (k : Fin 640) : k0_pay5 (F := Ideal) (iblk m c 0 t) (iblk m c 1 t) (iblk m c 2 t) (ix2 r ⟨k.val, by omega⟩) = zz (m ((c : Thread nD τ).loc main_arg0)) (m ((c : Thread nD τ).loc main_arg1)) (m ((c : Thread nD τ).loc main_arg2)) ⟨4096 * b.val + s.val, by omega⟩ ⟨k.val, by omega⟩ :=
  z_lin m c t r b s hn _ _ fun d => ProjLongHost.win_lo m c d k

/-- The input branch. -/
theorem z_x (k : Fin 512) : k0_pay5 (F := Ideal) (iblk m c 0 t) (iblk m c 1 t) (iblk m c 2 t) (ix2 r ⟨640 + k.val, by omega⟩) = zz (m ((c : Thread nD τ).loc main_arg0)) (m ((c : Thread nD τ).loc main_arg1)) (m ((c : Thread nD τ).loc main_arg2)) ⟨4096 * b.val + s.val, by omega⟩ ⟨672 + k.val, by omega⟩ :=
  z_lin m c t r b s hn _ _ fun d => ProjLongHost.win_x m c d k

/-- The gate branch. -/
theorem z_g (k : Fin 512) : k0_pay5 (F := Ideal) (iblk m c 0 t) (iblk m c 1 t) (iblk m c 2 t) (ix2 r ⟨1152 + k.val, by omega⟩) = zz (m ((c : Thread nD τ).loc main_arg0)) (m ((c : Thread nD τ).loc main_arg1)) (m ((c : Thread nD τ).loc main_arg2)) ⟨4096 * b.val + s.val, by omega⟩ ⟨1184 + k.val, by omega⟩ :=
  z_lin m c t r b s hn _ _ fun d => ProjLongHost.win_g m c d k

/-- The rotary key. -/
theorem z_p (k : Fin 32) : k0_pay5 (F := Ideal) (iblk m c 0 t) (iblk m c 1 t) (iblk m c 2 t) (ix2 r ⟨1664 + (64 + k.val), by omega⟩) = zz (m ((c : Thread nD τ).loc main_arg0)) (m ((c : Thread nD τ).loc main_arg1)) (m ((c : Thread nD τ).loc main_arg2)) ⟨4096 * b.val + s.val, by omega⟩ ⟨640 + k.val, by omega⟩ :=
  z_lin m c t r b s hn _ _ fun d => ProjLongHost.win_p m c d k

/-- The turned rotary key: the second half, negated. -/
theorem z_r1 (hr : Real m c) (k : Fin 16) :
    k0_pay5 (F := Ideal) (iblk m c 0 t) (iblk m c 1 t) (iblk m c 2 t) (ix2 r ⟨1792 + (64 + k.val), by omega⟩) = -zz (m ((c : Thread nD τ).loc main_arg0)) (m ((c : Thread nD τ).loc main_arg1)) (m ((c : Thread nD τ).loc main_arg2)) ⟨4096 * b.val + s.val, by omega⟩ ⟨656 + k.val, by omega⟩ :=
  (z_lin m c t r b s hn _ _ fun d => ProjLongHost.win_r1 m c d k).trans
    (lin_neg _ _ (nrm_real _ 1024 (by norm_num) c1024 _ _ hr.2.1) fun d => hr.1 d k)

/-- The turned rotary key: the first half. -/
theorem z_r2 (k : Fin 16) : k0_pay5 (F := Ideal) (iblk m c 0 t) (iblk m c 1 t) (iblk m c 2 t) (ix2 r ⟨1792 + (80 + k.val), by omega⟩) = zz (m ((c : Thread nD τ).loc main_arg0)) (m ((c : Thread nD τ).loc main_arg1)) (m ((c : Thread nD τ).loc main_arg2)) ⟨4096 * b.val + s.val, by omega⟩ ⟨640 + k.val, by omega⟩ :=
  z_lin m c t r b s hn _ _ fun d => ProjLongHost.win_r2 m c d k

/-- A column of the queries. -/
theorem q_lin (k : Fin 2048) (w : Fin 384 → EReal) (hw : ∀ d, (show Vec Ideal S384x2048 .bf16 from V m c main_v34) (ix2 d k) = w d) :
    k0_pay10 (F := Ideal) (k0_pay8 (iblk m c 0 t) (iblk m c 1 t) (iblk m c 2 t)) (k0_pay9 (iblk m c 3 t)) (iblk m c 4 t) (ix2 r k) = lin (fq (m ((c : Thread nD τ).loc main_arg0)) (m ((c : Thread nD τ).loc main_arg1)) (m ((c : Thread nD τ).loc main_arg2)) (m ((c : Thread nD τ).loc main_arg3)) ⟨4096 * b.val + s.val, by omega⟩) w :=
  (ProjLongBlock.qq _ _ _ _ _ r k).trans <| lin_congr
    (fun d => congrArg₂ (fun x g => nrm _ x g d) (funext fun l => z_lo m c t r b s hn ⟨l.val, by omega⟩)
      (funext fun l => (ProjLongRead.b3 m c t l).trans (ProjLongHost.nq m c l)))
    fun d => (ProjLongRead.b4 m c t d k).trans (hw d)

theorem q_p (h : Fin 8) (k : Fin 96) :
    k0_pay10 (F := Ideal) (k0_pay8 (iblk m c 0 t) (iblk m c 1 t) (iblk m c 2 t)) (k0_pay9 (iblk m c 3 t)) (iblk m c 4 t) (ix2 r ⟨128 * h.val + k.val, by omega⟩) = qu (m ((c : Thread nD τ).loc main_arg0)) (m ((c : Thread nD τ).loc main_arg1)) (m ((c : Thread nD τ).loc main_arg2)) (m ((c : Thread nD τ).loc main_arg3)) (m ((c : Thread nD τ).loc main_arg4)) ⟨4096 * b.val + s.val, by omega⟩ ⟨96 * h.val + k.val, by omega⟩ :=
  q_lin m c t r b s hn _ _ fun d => ProjLongHost.wq_p m c d h k

theorem q_r1 (hr : Real m c) (h : Fin 8) (k : Fin 16) :
    k0_pay10 (F := Ideal) (k0_pay8 (iblk m c 0 t) (iblk m c 1 t) (iblk m c 2 t)) (k0_pay9 (iblk m c 3 t)) (iblk m c 4 t) (ix2 r ⟨1024 + (128 * h.val + (64 + k.val)), by omega⟩) = -qu (m ((c : Thread nD τ).loc main_arg0)) (m ((c : Thread nD τ).loc main_arg1)) (m ((c : Thread nD τ).loc main_arg2)) (m ((c : Thread nD τ).loc main_arg3)) (m ((c : Thread nD τ).loc main_arg4)) ⟨4096 * b.val + s.val, by omega⟩ ⟨96 * h.val + (80 + k.val), by omega⟩ :=
  (q_lin m c t r b s hn _ _ fun d => ProjLongHost.wq_r1 m c d h k).trans
    (lin_neg _ _ (nrm_real _ 384 (by norm_num) c384 _ _ hr.2.2.2) fun d => hr.2.2.1 d h k)

theorem q_r2 (h : Fin 8) (k : Fin 16) :
    k0_pay10 (F := Ideal) (k0_pay8 (iblk m c 0 t) (iblk m c 1 t) (iblk m c 2 t)) (k0_pay9 (iblk m c 3 t)) (iblk m c 4 t) (ix2 r ⟨1024 + (128 * h.val + (80 + k.val)), by omega⟩) = qu (m ((c : Thread nD τ).loc main_arg0)) (m ((c : Thread nD τ).loc main_arg1)) (m ((c : Thread nD τ).loc main_arg2)) (m ((c : Thread nD τ).loc main_arg3)) (m ((c : Thread nD τ).loc main_arg4)) ⟨4096 * b.val + s.val, by omega⟩ ⟨96 * h.val + (64 + k.val), by omega⟩ :=
  q_lin m c t r b s hn _ _ fun d => ProjLongHost.wq_r2 m c d h k

/-- A column of the keys. -/
theorem k_lin (k : Fin 1024) (w : Fin 256 → EReal) (hw : ∀ d, (show Vec Ideal S256x1024 .bf16 from V m c main_v36) (ix2 d k) = w d) :
    k0_pay12 (F := Ideal) (k0_pay5 (iblk m c 0 t) (iblk m c 1 t) (iblk m c 2 t)) (iblk m c 5 t) (iblk m c 6 t) (ix2 r k) = lin (fk (m ((c : Thread nD τ).loc main_arg0)) (m ((c : Thread nD τ).loc main_arg1)) (m ((c : Thread nD τ).loc main_arg2)) (m ((c : Thread nD τ).loc main_arg5)) ⟨4096 * b.val + s.val, by omega⟩) w :=
  (ProjLongBlock.kk _ _ _ r k).trans <| lin_congr
    (fun d => congrArg₂ (fun x g => nrm _ x g d) (funext fun l => z_lo m c t r b s hn ⟨384 + l.val, by omega⟩)
      (funext fun l => (ProjLongRead.b5 m c t l).trans (ProjLongHost.nk m c l)))
    fun d => (ProjLongRead.b6 m c t d k).trans (hw d)

theorem k_lo (h : Fin 8) (k : Fin 64) :
    k0_pay12 (F := Ideal) (k0_pay5 (iblk m c 0 t) (iblk m c 1 t) (iblk m c 2 t)) (iblk m c 5 t) (iblk m c 6 t) (ix2 r ⟨128 * h.val + k.val, by omega⟩) = ku (m ((c : Thread nD τ).loc main_arg0)) (m ((c : Thread nD τ).loc main_arg1)) (m ((c : Thread nD τ).loc main_arg2)) (m ((c : Thread nD τ).loc main_arg5)) (m ((c : Thread nD τ).loc main_arg6)) ⟨4096 * b.val + s.val, by omega⟩ ⟨128 * h.val + k.val, by omega⟩ :=
  k_lin m c t r b s hn _ _ fun d => ProjLongHost.wk_lo m c d h k

theorem k_hi (h : Fin 8) (k : Fin 64) : k0_pay12 (F := Ideal) (k0_pay5 (iblk m c 0 t) (iblk m c 1 t) (iblk m c 2 t)) (iblk m c 5 t) (iblk m c 6 t) (ix2 r ⟨128 * h.val + (64 + k.val), by omega⟩) = 0 :=
  (k_lin m c t r b s hn _ _ fun d => ProjLongHost.wk_hi m c d h k).trans (lin_zero _)

/-- A column of the values. -/
theorem v_lin (k : Fin 512) (w : Fin 256 → EReal) (hw : ∀ d, (show Vec Ideal S256x512 .bf16 from V m c main_v37) (ix2 d k) = w d) :
    k0_pay13 (F := Ideal) (k0_pay5 (iblk m c 0 t) (iblk m c 1 t) (iblk m c 2 t)) (iblk m c 5 t) (iblk m c 7 t) (ix2 r k) = lin (fk (m ((c : Thread nD τ).loc main_arg0)) (m ((c : Thread nD τ).loc main_arg1)) (m ((c : Thread nD τ).loc main_arg2)) (m ((c : Thread nD τ).loc main_arg5)) ⟨4096 * b.val + s.val, by omega⟩) w :=
  (ProjLongBlock.vv _ _ _ r k).trans <| lin_congr
    (fun d => congrArg₂ (fun x g => nrm _ x g d) (funext fun l => z_lo m c t r b s hn ⟨384 + l.val, by omega⟩)
      (funext fun l => (ProjLongRead.b5 m c t l).trans (ProjLongHost.nk m c l)))
    fun d => (ProjLongRead.b7 m c t d k).trans (hw d)

theorem v_at (h : Fin 8) (k : Fin 64) :
    k0_pay13 (F := Ideal) (k0_pay5 (iblk m c 0 t) (iblk m c 1 t) (iblk m c 2 t)) (iblk m c 5 t) (iblk m c 7 t) (ix2 r ⟨64 * h.val + k.val, by omega⟩) = ku (m ((c : Thread nD τ).loc main_arg0)) (m ((c : Thread nD τ).loc main_arg1)) (m ((c : Thread nD τ).loc main_arg2)) (m ((c : Thread nD τ).loc main_arg5)) (m ((c : Thread nD τ).loc main_arg6)) ⟨4096 * b.val + s.val, by omega⟩ ⟨128 * h.val + (64 + k.val), by omega⟩ :=
  v_lin m c t r b s hn _ _ fun d => ProjLongHost.wv m c d h k

/-- The first 64 lanes of a query head. -/
theorem qe_lo (h : Fin 8) (k : Fin 64) :
    ProjLongBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + k.val, by omega⟩
      = Cert.ProjInLongRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h ⟨k.val, by omega⟩) := by
  rw [ProjLongRefRead.q_lo]
  refine (qe_at _ _ _ r h ⟨k.val, by omega⟩ (q_p m c t r b s hn h ⟨k.val, by omega⟩)
    ((ProjLongRead.b8 m c t r b s hn _).trans (ProjLongHost.cq_lo m c s k)) ((ProjLongRead.b9 m c t r b s hn _).trans (ProjLongHost.sq_lo m c s k))).trans ?_
  rw [mul_zero, add_zero]

/-- The first half of the turned lanes of a query head. -/
theorem qe_1 (hr : Real m c) (h : Fin 8) (k : Fin 16) :
    ProjLongBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + (64 + k.val), by omega⟩
      = Cert.ProjInLongRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h ⟨64 + k.val, by omega⟩) := by
  rw [ProjLongRefRead.q_1]
  refine (qe_at _ _ _ r h ⟨64 + k.val, by omega⟩ (q_p m c t r b s hn h ⟨64 + k.val, by omega⟩)
    ((ProjLongRead.b8 m c t r b s hn _).trans (ProjLongHost.cq_1 m c s k)) ((ProjLongRead.b9 m c t r b s hn _).trans (ProjLongHost.sq_1 m c s k))).trans ?_
  exact (congrArg (fun y : EReal => _ + y * _) (q_r1 m c t r b s hn hr h k)).trans (turn_fst _ _ _ _ _ scale.1 scale.2)

/-- The second half of the turned lanes of a query head. -/
theorem qe_2 (h : Fin 8) (k : Fin 16) :
    ProjLongBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + (80 + k.val), by omega⟩
      = Cert.ProjInLongRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h ⟨80 + k.val, by omega⟩) := by
  rw [ProjLongRefRead.q_2]
  refine (qe_at _ _ _ r h ⟨80 + k.val, by omega⟩ (q_p m c t r b s hn h ⟨80 + k.val, by omega⟩)
    ((ProjLongRead.b8 m c t r b s hn _).trans (ProjLongHost.cq_2 m c s k)) ((ProjLongRead.b9 m c t r b s hn _).trans (ProjLongHost.sq_2 m c s k))).trans ?_
  exact (congrArg (fun y : EReal => _ + y * _) (q_r2 m c t r b s hn h k)).trans (turn_snd _ _ _ _ _ scale.1 scale.2)

/-- The padded lanes of a query head. -/
theorem qe_hi (h : Fin 8) (k : Fin 32) :
    ProjLongBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + (96 + k.val), by omega⟩
      = Cert.ProjInLongRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h ⟨96 + k.val, by omega⟩) := by
  rw [ProjLongRefRead.q_hi]
  refine (qe_at _ _ _ r h ⟨96 + k.val, by omega⟩ rfl
    ((ProjLongRead.b8 m c t r b s hn _).trans (ProjLongHost.cq_hi m c s k)) ((ProjLongRead.b9 m c t r b s hn _).trans (ProjLongHost.sq_hi m c s k))).trans ?_
  rw [mul_zero, mul_zero, add_zero]

/-- The first 64 lanes of a key head. -/
theorem ke_lo (h : Fin 8) (k : Fin 64) :
    ProjLongBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + k.val, by omega⟩
      = Cert.ProjInLongRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h ⟨k.val, by omega⟩) := by
  rw [ProjLongRefRead.k_lo]
  refine (ke_at _ _ _ _ r h ⟨k.val, by omega⟩ (k_lo m c t r b s hn h ⟨k.val, by omega⟩)
    ((ProjLongRead.b10 m c t r b s hn _).trans (ProjLongHost.ck_lo m c s k)) ((ProjLongRead.b11 m c t r b s hn _).trans (ProjLongHost.sk_lo m c s k))).trans ?_
  rw [mul_zero, mul_zero, add_zero, add_zero]

/-- The first half of the turned lanes of a key head. -/
theorem ke_1 (hr : Real m c) (h : Fin 8) (k : Fin 16) :
    ProjLongBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + (64 + k.val), by omega⟩
      = Cert.ProjInLongRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h ⟨64 + k.val, by omega⟩) := by
  rw [ProjLongRefRead.k_1]
  refine (ke_at _ _ _ _ r h ⟨64 + k.val, by omega⟩ (k_hi m c t r b s hn h ⟨k.val, by omega⟩)
    ((ProjLongRead.b10 m c t r b s hn _).trans (ProjLongHost.ck_1 m c s k)) ((ProjLongRead.b11 m c t r b s hn _).trans (ProjLongHost.sk_1 m c s k))).trans ?_
  rw [sub_eq_add_neg, ← EReal.neg_mul, zero_add]
  exact congrArg₂ (fun x y : EReal => x * _ + y * _) (z_p m c t r b s hn ⟨k.val, by omega⟩) (z_r1 m c t r b s hn hr k)

/-- The second half of the turned lanes of a key head. -/
theorem ke_2 (h : Fin 8) (k : Fin 16) :
    ProjLongBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + (80 + k.val), by omega⟩
      = Cert.ProjInLongRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h ⟨80 + k.val, by omega⟩) := by
  rw [ProjLongRefRead.k_2]
  refine (ke_at _ _ _ _ r h ⟨80 + k.val, by omega⟩ ((congrArg (k0_pay12 (F := Ideal) _ _ _) (congrArg (ix2 r) (Fin.ext (by
      show 128 * h.val + (80 + k.val) = 128 * h.val + (64 + (16 + k.val)); omega)))).trans (k_hi m c t r b s hn h ⟨16 + k.val, by omega⟩))
    ((ProjLongRead.b10 m c t r b s hn _).trans (ProjLongHost.ck_2 m c s k)) ((ProjLongRead.b11 m c t r b s hn _).trans (ProjLongHost.sk_2 m c s k))).trans ?_
  rw [zero_add]
  refine congrArg₂ (fun x y : EReal => x * _ + y * _) ?_ (z_r2 m c t r b s hn k)
  refine (congrArg (k0_pay5 (F := Ideal) _ _ _) (congrArg (ix2 r) (Fin.ext ?_))).trans ((z_p m c t r b s hn ⟨16 + k.val, by omega⟩).trans
    (congrArg (zz _ _ _ _) (Fin.ext ?_)))
  · show 1664 + (80 + k.val) = 1664 + (64 + (16 + k.val)); omega
  · show 640 + (16 + k.val) = 656 + k.val; omega

/-- The padded lanes of a key head. -/
theorem ke_hi (h : Fin 8) (k : Fin 32) :
    ProjLongBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + (96 + k.val), by omega⟩
      = Cert.ProjInLongRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h ⟨96 + k.val, by omega⟩) := by
  rw [ProjLongRefRead.k_hi]
  refine (ke_at _ _ _ _ r h ⟨96 + k.val, by omega⟩ ((congrArg (k0_pay12 (F := Ideal) _ _ _) (congrArg (ix2 r) (Fin.ext (by
      show 128 * h.val + (96 + k.val) = 128 * h.val + (64 + (32 + k.val)); omega)))).trans (k_hi m c t r b s hn h ⟨32 + k.val, by omega⟩))
    ((ProjLongRead.b10 m c t r b s hn _).trans (ProjLongHost.ck_hi m c s k)) ((ProjLongRead.b11 m c t r b s hn _).trans (ProjLongHost.sk_hi m c s k))).trans ?_
  rw [mul_zero, mul_zero, add_zero, add_zero]

end Cert.ProjLongRow

end
-- ==== Proof.ProjLongValue.lean ====
module

public import proofs.«01_k».proof.Proof.ProjLongRow

/-! # The five arrays the input projection leaves: sequences of 4096 tokens -/

@[expose] public section

set_option maxRecDepth 16384

noncomputable section

namespace Cert.ProjLongValue

open Idealize.ShloMosaic Idealize.ShloMosaic.TcCoe Idealize.SL.Sem
open Cert.ProjInLongIdeal Cert.ProjInLongIdeal.Gen

variable (m : (ℓ : Loc nD τ sig) → Buf (Elt Ideal) ℓ) (c : Dev nD)

/-- A lane is one of the four kinds. -/
theorem lanes (P : Fin 128 → Prop) (h0 : ∀ k : Fin 64, P ⟨k.val, by omega⟩) (h1 : ∀ k : Fin 16, P ⟨64 + k.val, by omega⟩)
    (h2 : ∀ k : Fin 16, P ⟨80 + k.val, by omega⟩) (h3 : ∀ k : Fin 32, P ⟨96 + k.val, by omega⟩) (j : Fin 128) : P j := by
  have hj := j.isLt
  rcases lt_or_ge j.val 64 with a | a
  · exact h0 ⟨j.val, a⟩
  rcases lt_or_ge j.val 80 with b | b
  · rw [show j = ⟨64 + (j.val - 64), by omega⟩ from Fin.ext (by show j.val = 64 + (j.val - 64); omega)]
    exact h1 ⟨j.val - 64, by omega⟩
  rcases lt_or_ge j.val 96 with d | d
  · rw [show j = ⟨80 + (j.val - 80), by omega⟩ from Fin.ext (by show j.val = 80 + (j.val - 80); omega)]
    exact h2 ⟨j.val - 80, by omega⟩
  · rw [show j = ⟨96 + (j.val - 96), by omega⟩ from Fin.ext (by show j.val = 96 + (j.val - 96); omega)]
    exact h3 ⟨j.val - 96, by omega⟩

/-- A query head, at every lane. -/
theorem qe_all (hr : ProjLongRow.Real m c) (t : Fin cfg0.N) (r : Fin 512) (b : Fin 16) (s : Fin 4096)
    (hn : 512 * t.val + r.val = 4096 * b.val + s.val) (h : Fin 8) (j : Fin 128) :
    ProjLongBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + j.val, by omega⟩
      = Cert.ProjInLongRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h j) :=
  lanes (fun j => ProjLongBlock.qe (k0_pay10 (F := Ideal) (k0_pay8 (iblk m c 0 t) (iblk m c 1 t) (iblk m c 2 t)) (k0_pay9 (iblk m c 3 t)) (iblk m c 4 t)) (iblk m c 8 t) (iblk m c 9 t) r ⟨128 * h.val + j.val, by omega⟩
      = Cert.ProjInLongRefIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix4 b s h j))
    (ProjLongRow.qe_lo m c t r b s hn h) (ProjLongRow.qe_1 m c t r b s hn hr h) (ProjLongRow.qe_2 m c t r b s hn h) (ProjLongRow.qe_hi m c t r b s hn h) j

/-- A key head, at every lane. -/
theorem ke_all (hr : ProjLongRow.Real m c) (t : Fin cfg0.N) (r : Fin 512) (b : Fin 16) (s : Fin 4096)
    (hn : 512 * t.val + r.val = 4096 * b.val + s.val) (h : Fin 8) (j : Fin 128) :
    ProjLongBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + j.val, by omega⟩
      = Cert.ProjInLongRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h j) :=
  lanes (fun j => ProjLongBlock.ke (k0_pay12 (F := Ideal) (k0_pay5 (iblk m c 0 t) (iblk m c 1 t) (iblk m c 2 t)) (iblk m c 5 t) (iblk m c 6 t)) (k0_pay5 (F := Ideal) (iblk m c 0 t) (iblk m c 1 t) (iblk m c 2 t)) (iblk m c 10 t) (iblk m c 11 t) r ⟨128 * h.val + j.val, by omega⟩
      = Cert.ProjInLongRefIdeal.Read.val_main_v112 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix4 b s h j))
    (ProjLongRow.ke_lo m c t r b s hn h) (ProjLongRow.ke_1 m c t r b s hn hr h) (ProjLongRow.ke_2 m c t r b s hn h) (ProjLongRow.ke_hi m c t r b s hn h) j

/-- The queries. -/
theorem final_q (hr : ProjLongRow.Real m c) : (dats m 0 c).arrAt 12 (cfgs 0).N
    = Cert.ProjInLongRefIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t _ y => ?_
  blk_simp
  rw [after0_12]
  obtain ⟨p, r, l, rfl⟩ : ∃ (p : Fin 4) (r : Fin 512) (l : Fin 256), y = ix3 p r l := ⟨y 0, y 1, y 2, by ext a; fin_cases a <;> rfl⟩
  have ht : t.val < 128 := t.isLt
  have hemb : ((View.whole main_v72_0).slice (win0_12.rect t)).emb (ix3 p r l)
      = ix3 p (⟨t.val * 512 + r.val, by omega⟩ : Fin 65536) l := by
    blk_ext [ProjLongRead.idx t]
  rw [hemb, ProjLongRefRead.q_at, ProjLongBlock.q]
  have hn : 512 * t.val + r.val = 4096 * ((t.val * 512 + r.val) / 4096) + (t.val * 512 + r.val) % 4096 := by omega
  refine Eq.trans (congrArg (ProjLongBlock.qe _ _ _ r) (Fin.ext ?_)) (qe_all m c hr t r ⟨(t.val * 512 + r.val) / 4096, by omega⟩
    ⟨(t.val * 512 + r.val) % 4096, by omega⟩ hn ⟨2 * p.val + l.val / 128, by omega⟩ ⟨l.val % 128, by omega⟩)
  show 256 * p.val + l.val = 128 * (2 * p.val + l.val / 128) + l.val % 128; omega

/-- The keys. -/
theorem final_k (hr : ProjLongRow.Real m c) : (dats m 0 c).arrAt 13 (cfgs 0).N
    = Cert.ProjInLongRefIdeal.Read.val_main_v115 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 13 _ (by decide +kernel) fun t _ y => ?_
  blk_simp
  rw [after0_13]
  obtain ⟨p, r, l, rfl⟩ : ∃ (p : Fin 4) (r : Fin 512) (l : Fin 256), y = ix3 p r l := ⟨y 0, y 1, y 2, by ext a; fin_cases a <;> rfl⟩
  have ht : t.val < 128 := t.isLt
  have hemb : ((View.whole main_v72_1).slice (win0_13.rect t)).emb (ix3 p r l)
      = ix3 p (⟨t.val * 512 + r.val, by omega⟩ : Fin 65536) l := by
    blk_ext [ProjLongRead.idx t]
  rw [hemb, ProjLongRefRead.k_at, ProjLongBlock.k]
  have hn : 512 * t.val + r.val = 4096 * ((t.val * 512 + r.val) / 4096) + (t.val * 512 + r.val) % 4096 := by omega
  refine Eq.trans (congrArg (ProjLongBlock.ke _ _ _ _ r) (Fin.ext ?_)) (ke_all m c hr t r ⟨(t.val * 512 + r.val) / 4096, by omega⟩
    ⟨(t.val * 512 + r.val) % 4096, by omega⟩ hn ⟨2 * p.val + l.val / 128, by omega⟩ ⟨l.val % 128, by omega⟩)
  show 256 * p.val + l.val = 128 * (2 * p.val + l.val / 128) + l.val % 128; omega

/-- The values. -/
theorem final_v : (dats m 0 c).arrAt 14 (cfgs 0).N
    = Cert.ProjInLongRefIdeal.Read.val_main_v116 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 14 _ (by decide +kernel) fun t _ y => ?_
  blk_simp
  rw [after0_14]
  obtain ⟨p, r, l, rfl⟩ : ∃ (p : Fin 4) (r : Fin 512) (l : Fin 128), y = ix3 p r l := ⟨y 0, y 1, y 2, by ext a; fin_cases a <;> rfl⟩
  have ht : t.val < 128 := t.isLt
  have hemb : ((View.whole main_v72_2).slice (win0_14.rect t)).emb (ix3 p r l)
      = ix3 p (⟨t.val * 512 + r.val, by omega⟩ : Fin 65536) l := by
    blk_ext [ProjLongRead.idx t]
  rw [hemb, ProjLongRefRead.v_at, ProjLongBlock.v]
  have hn : 512 * t.val + r.val = 4096 * ((t.val * 512 + r.val) / 4096) + (t.val * 512 + r.val) % 4096 := by omega
  refine Eq.trans (congrArg (fun k => ProjLongBlock.ve _ r k) (Fin.ext ?_)) ((ProjLongRow.v_at m c t r ⟨(t.val * 512 + r.val) / 4096, by omega⟩
    ⟨(t.val * 512 + r.val) % 4096, by omega⟩ hn ⟨2 * p.val + l.val / 64, by omega⟩ ⟨l.val % 64, by omega⟩).trans
      (congrArg (fun n => ProjLongRefRead.ku _ _ _ _ _ n _) (Fin.ext ?_)))
  · show 128 * p.val + l.val = 64 * (2 * p.val + l.val / 64) + l.val % 64; omega
  · show 4096 * ((t.val * 512 + r.val) / 4096) + (t.val * 512 + r.val) % 4096 = t.val * 512 + r.val; omega

/-- The input branch. -/
theorem final_xbr : (dats m 0 c).arrAt 15 (cfgs 0).N
    = Cert.ProjInLongRefIdeal.Read.val_main_v117 (F := Ideal) (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  obtain ⟨r, l, rfl⟩ : ∃ (r l : Fin 512), y = ix2 r l := ⟨y 0, y 1, by ext a; fin_cases a <;> rfl⟩
  have ht : t.val < 128 := t.isLt
  have hemb : ((View.whole main_v72_3).slice (win0_15.rect t)).emb (ix2 r l)
      = ix2 (⟨t.val * 512 + r.val, by omega⟩ : Fin 65536) l := by
    blk_ext [ProjLongRead.idx t]
  rw [hemb, ProjLongRefRead.x_at, ProjLongBlock.xbr]
  have hn : 512 * t.val + r.val = 4096 * ((t.val * 512 + r.val) / 4096) + (t.val * 512 + r.val) % 4096 := by omega
  refine (ProjLongRow.z_x m c t r ⟨(t.val * 512 + r.val) / 4096, by omega⟩ ⟨(t.val * 512 + r.val) % 4096, by omega⟩ hn l).trans
      (congrArg (fun n => ProjLongRefRead.zz _ _ _ n _) (Fin.ext ?_))
  show 4096 * ((t.val * 512 + r.val) / 4096) + (t.val * 512 + r.val) % 4096 = t.val * 512 + r.val; omega

/-- The gate branch. -/
theorem final_gbr : (dats m 0 c).arrAt 16 (cfgs 0).N
    = Cert.ProjInLongRefIdeal.Read.val_main_v118 (F := Ideal) (m ((c : Thread nD τ).loc main_arg0)) (m ((c : Thread nD τ).loc main_arg1)) (m ((c : Thread nD τ).loc main_arg2)) := by
  refine (dats m 0 c).arrAt_eq_of_covers 16 _ (by decide +kernel) fun t _ y => ?_
  blk_simp
  rw [after0_16]
  obtain ⟨r, l, rfl⟩ : ∃ (r l : Fin 512), y = ix2 r l := ⟨y 0, y 1, by ext a; fin_cases a <;> rfl⟩
  have ht : t.val < 128 := t.isLt
  have hemb : ((View.whole main_v72_4).slice (win0_16.rect t)).emb (ix2 r l)
      = ix2 (⟨t.val * 512 + r.val, by omega⟩ : Fin 65536) l := by
    blk_ext [ProjLongRead.idx t]
  rw [hemb, ProjLongRefRead.g_at, ProjLongBlock.gbr]
  have hn : 512 * t.val + r.val = 4096 * ((t.val * 512 + r.val) / 4096) + (t.val * 512 + r.val) % 4096 := by omega
  refine (ProjLongRow.z_g m c t r ⟨(t.val * 512 + r.val) / 4096, by omega⟩ ⟨(t.val * 512 + r.val) % 4096, by omega⟩ hn l).trans
      (congrArg (fun n => ProjLongRefRead.zz _ _ _ n _) (Fin.ext ?_))
  show 4096 * ((t.val * 512 + r.val) / 4096) + (t.val * 512 + r.val) % 4096 = t.val * 512 + r.val; omega

end Cert.ProjLongValue

end
-- ==== Proof.PostMath.lean ====
module

public import proofs.«01_k».proof.Proof.ProjMath

/-! # The output projection's mathematics, one row at a time -/

@[expose] public section

noncomputable section

namespace Cert.PostMath

open Idealize.ShloMosaic
open Cert.ProjMath (nrm lin)

/-- The two branches of a row side by side: the attention's, normed with weights `g`, and the recurrence's. -/
def mix (a g l : Fin 512 → EReal) (d : Fin 1024) : EReal :=
  if h : d.val < 512 then nrm (Ideal.ofBits .f32 0x44000000#32) a g ⟨d.val, h⟩ else l ⟨d.val - 512, by omega⟩

/-- An entry of the residual stream after the output projection. -/
def res (x : EReal) (a g l : Fin 512 → EReal) (w : Fin 1024 → EReal) : EReal := x + lin (mix a g l) w

end Cert.PostMath

end
-- ==== Proof.PostBlock.lean ====
module

public import proofs.«01_k».proof.Proof.Gen.PostIdeal.Skeleton
public import proofs.«01_k».proof.Proof.PostMath

/-! # One block of the output projection, entry by entry -/

@[expose] public section

set_option maxRecDepth 16384

noncomputable section

namespace Cert.PostBlock

open Idealize.ShloMosaic Idealize.ShloMosaic.TcCoe Idealize.SL.Sem
open Cert.PostIdeal Cert.PostIdeal.Gen

variable (a : Vec Ideal S512x512 .bf16) (g : Vec Ideal S1x512 .f32) (l : Vec Ideal S512x512 .bf16) (x : Vec Ideal S512x1024 .f32)
  (w : Vec Ideal S1024x1024 .bf16)

/-- The residual stream. -/
theorem res (r : Fin 512) (j : Fin 1024) :
    k0_pay2 (F := Ideal) a g l x w (ix2 r j)
      = PostMath.res (x (ix2 r j)) (fun k => a (ix2 r k)) (fun k => g (ix2 0 k)) (fun k => l (ix2 r k)) (fun d => w (ix2 d j)) := by
  pointwise [k0_pay2, PostMath.res, PostMath.mix, ProjMath.lin, ProjMath.nrm]

/-- Its norm. -/
theorem norm (n : Vec Ideal S1x1024 .f32) (r : Fin 512) (j : Fin 1024) :
    k0_pay6 (F := Ideal) (k0_pay3 a g l x w) (k0_pay4 n) (ix2 r j)
      = ProjMath.nrm (Ideal.ofBits .f32 0x44800000#32) (fun k => k0_pay2 (F := Ideal) a g l x w (ix2 r k)) (fun k => n (ix2 0 k)) j := by
  unfold k0_pay6 k0_pay5 k0_pay4 k0_pay3
  generalize k0_pay2 (F := Ideal) a g l x w = v
  pointwise [ProjMath.nrm]

end Cert.PostBlock

end
-- ==== Proof.PostRefRead.lean ====
module

public import proofs.«01_k».proof.Proof.Gen.PostRefIdeal.Read
public import proofs.«01_k».proof.Proof.PostMath

/-! # The output projection's reference, entry by entry -/

@[expose] public section

set_option maxRecDepth 16384

noncomputable section

namespace Cert.PostRefRead

open Idealize.ShloMosaic Idealize.ShloMosaic.TcCoe Idealize.SL.Sem
open Cert.PostRefIdeal Cert.PostRefIdeal.Read

variable (x0 : (⟨S65536x1024, .f32⟩ : BufTy).Contents (Elt Ideal)) (x1 x2 : (⟨S65536x512, .bf16⟩ : BufTy).Contents (Elt Ideal))
  (x3 : (⟨S512, .f32⟩ : BufTy).Contents (Elt Ideal)) (x4 : (⟨S1024x1024, .f32⟩ : BufTy).Contents (Elt Ideal))
  (x5 : (⟨S1024, .f32⟩ : BufTy).Contents (Elt Ideal))

/-- The normed attention branch. -/
theorem att (n : Fin 65536) (k : Fin 512) :
    val_main_v13 (F := Ideal) x1 x3 (ix2 n k)
      = ProjMath.nrm (Ideal.ofBits .f32 0x44000000#32) (fun k : Fin 512 => x1 (ix2 n k)) (fun k : Fin 512 => x3 (ix1 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, ProjMath.nrm]

/-- The two branches side by side. -/
theorem mix (n : Fin 65536) (d : Fin 1024) :
    val_main_v15 (F := Ideal) x1 x2 x3 (ix2 n d)
      = PostMath.mix (fun k => x1 (ix2 n k)) (fun k => x3 (ix1 k)) (fun k => x2 (ix2 n k)) d := by
  unfold PostMath.mix
  simp only [← att]
  unfold val_main_v15 val_main_v14
  generalize val_main_v13 (F := Ideal) x1 x3 = v
  pointwise []

/-- The residual stream. -/
theorem res (n : Fin 65536) (j : Fin 1024) :
    val_main_v17 (F := Ideal) x0 x1 x2 x3 x4 (ix2 n j)
      = PostMath.res (x0 (ix2 n j)) (fun k => x1 (ix2 n k)) (fun k => x3 (ix1 k)) (fun k => x2 (ix2 n k)) (fun d => x4 (ix2 d j)) := by
  unfold PostMath.res ProjMath.lin
  simp only [← mix]
  unfold val_main_v17 val_main_v16
  generalize val_main_v15 (F := Ideal) x1 x2 x3 = v
  pointwise []

/-- Its norm. -/
theorem norm (n : Fin 65536) (j : Fin 1024) :
    val_main_v31 (F := Ideal) x0 x1 x2 x3 x4 x5 (ix2 n j)
      = ProjMath.nrm (Ideal.ofBits .f32 0x44800000#32) (fun k : Fin 1024 => val_main_v17 (F := Ideal) x0 x1 x2 x3 x4 (ix2 n k))
          (fun k : Fin 1024 => x5 (ix1 k)) j := by
  unfold val_main_v31 val_main_v30 val_main_v27 val_main_v26 val_main_v25 val_main_v24 val_main_v22 val_main_v20 val_main_v19 val_main_v18
  generalize val_main_v17 (F := Ideal) x0 x1 x2 x3 x4 = v
  pointwise [val_main_v29, val_main_v28, val_main_v23, val_main_v21, val_main_cst_2, val_main_cst_3, val_main_cst_4, ProjMath.nrm]

end Cert.PostRefRead

end
-- ==== Proof.PostValue.lean ====
module

public import proofs.«01_k».proof.Proof.Gen.PostIdeal.Value
public import proofs.«01_k».proof.Proof.PostBlock
public import proofs.«01_k».proof.Proof.PostRefRead
public import Idealize.ShloMosaic.Lib.Claim
public import Idealize.ShloMosaic.Lib.Pipeline.ValueKit
public import Idealize.ShloMosaic.Lib.Pipeline.ReadBack
public import Idealize.ShloMosaic.Lib.StableHlo.RunRead

/-! # The two arrays the output projection leaves -/

@[expose] public section

set_option maxRecDepth 16384

noncomputable section

namespace Cert.PostValue

open Idealize.ShloMosaic Idealize.ShloMosaic.TcCoe Idealize.SL.Sem
open Idealize.ShloMosaic.Pipeline (Dat)
open Cert.PostIdeal Cert.PostIdeal.Gen

variable (m : (ℓ : Loc nD τ sig) → Buf (Elt Ideal) ℓ) (c : Dev nD)

/-- Where the windows of a grid point lie. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_8.index t = ![t.val, 0]
    ∧ win0_9.index t = ![t.val, 0] :=
  (by decide +kernel : ∀ t : Fin grid0.N, _)

/-- The attention branch's norm weights, as a row. -/
theorem an (k : Fin 512) : (show Vec Ideal S1x512 .f32 from V m c main_v9) (ix2 0 k) = m ((c : Thread nD τ).loc main_arg3) (ix1 k) := by
  unfold V
  after_reads_simp
  pointwise []
  blk_ext []

/-- The output weight. -/
theorem wo (d j : Fin 1024) : (show Vec Ideal S1024x1024 .bf16 from V m c main_v10) (ix2 d j) = m ((c : Thread nD τ).loc main_arg4) (ix2 d j) := by
  unfold V
  after_reads_simp
  pointwise []

/-- The second norm's weights, as a row. -/
theorem n2 (k : Fin 1024) : (show Vec Ideal S1x1024 .f32 from V m c main_v11) (ix2 0 k) = m ((c : Thread nD τ).loc main_arg5) (ix1 k) := by
  unfold V
  after_reads_simp
  pointwise []
  blk_ext []

section Blocks
variable (t : Fin cfg0.N) (r : Fin 512) (hn : 512 * t.val + r.val < 65536)

theorem b0 (j : Fin 1024) : (show Vec Ideal S512x1024 .f32 from iblk m c 0 t) (ix2 r j) = m ((c : Thread nD τ).loc main_arg0) (ix2 (⟨512 * t.val + r.val, hn⟩ : Fin 65536) j) := by
  blk_ext [iblk, V, idx t]

theorem b1 (j : Fin 512) : (show Vec Ideal S512x512 .bf16 from iblk m c 1 t) (ix2 r j) = m ((c : Thread nD τ).loc main_arg1) (ix2 (⟨512 * t.val + r.val, hn⟩ : Fin 65536) j) := by
  blk_ext [iblk, V, idx t]

theorem b2 (j : Fin 512) : (show Vec Ideal S512x512 .bf16 from iblk m c 2 t) (ix2 r j) = m ((c : Thread nD τ).loc main_arg2) (ix2 (⟨512 * t.val + r.val, hn⟩ : Fin 65536) j) := by
  blk_ext [iblk, V, idx t]

theorem b3 (j : Fin 512) : (show Vec Ideal S1x512 .f32 from iblk m c 3 t) (ix2 0 j) = m ((c : Thread nD τ).loc main_arg3) (ix1 j) := by
  have he : (win0_3.blk t).view.emb (ix2 0 j) = ix2 0 j := by blk_ext [idx t]
  refine Eq.trans ?_ (an m c j)
  blk_simp [iblk]
  rw [he]

theorem b4 (d j : Fin 1024) : (show Vec Ideal S1024x1024 .bf16 from iblk m c 4 t) (ix2 d j) = m ((c : Thread nD τ).loc main_arg4) (ix2 d j) := by
  have he : (win0_4.blk t).view.emb (ix2 d j) = ix2 d j := by blk_ext [idx t]
  refine Eq.trans ?_ (wo m c d j)
  blk_simp [iblk]
  rw [he]

theorem b5 (j : Fin 1024) : (show Vec Ideal S1x1024 .f32 from iblk m c 5 t) (ix2 0 j) = m ((c : Thread nD τ).loc main_arg5) (ix1 j) := by
  have he : (win0_5.blk t).view.emb (ix2 0 j) = ix2 0 j := by blk_ext [idx t]
  refine Eq.trans ?_ (n2 m c j)
  blk_simp [iblk]
  rw [he]

/-- One entry of the residual stream, against the reference's. -/
theorem row (j : Fin 1024) :
    k0_pay2 (F := Ideal) (iblk m c 1 t) (iblk m c 3 t) (iblk m c 2 t) (iblk m c 0 t) (iblk m c 4 t) (ix2 r j)
      = Cert.PostRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (⟨512 * t.val + r.val, hn⟩ : Fin 65536) j) := by
  refine (PostBlock.res _ _ _ _ _ r j).trans (Eq.trans ?_ (PostRefRead.res _ _ _ _ _ ⟨512 * t.val + r.val, hn⟩ j).symm)
  exact congr (congr (congr (congr (congrArg PostMath.res (b0 m c t r hn j)) (funext fun k => b1 m c t r hn k)) (funext fun k => b3 m c t k))
    (funext fun k => b2 m c t r hn k)) (funext fun d => b4 m c t d j)

end Blocks

/-- The residual stream. -/
theorem final_x : (dats m 0 c).arrAt 8 (cfgs 0).N
    = Cert.PostRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  obtain ⟨r, j, rfl⟩ : ∃ (r : Fin 512) (j : Fin 1024), y = ix2 r j := ⟨y 0, y 1, by ext a; fin_cases a <;> rfl⟩
  have ht : t.val < 128 := t.isLt
  have hn : 512 * t.val + r.val < 65536 := by omega
  have hemb : ((View.whole main_v13_0).slice (win0_8.rect t)).emb (ix2 r j)
      = ix2 (⟨512 * t.val + r.val, hn⟩ : Fin 65536) j := by
    blk_ext [idx t]
  rw [hemb]
  exact row m c t r hn j

/-- The normed stream. -/
theorem final_t : (dats m 0 c).arrAt 9 (cfgs 0).N
    = Cert.PostRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]; unfold_out out0_9; frame_out
  obtain ⟨r, j, rfl⟩ : ∃ (r : Fin 512) (j : Fin 1024), y = ix2 r j := ⟨y 0, y 1, by ext a; fin_cases a <;> rfl⟩
  have ht : t.val < 128 := t.isLt
  have hn : 512 * t.val + r.val < 65536 := by omega
  have hemb : ((View.whole main_v13_1).slice (win0_9.rect t)).emb (ix2 r j)
      = ix2 (⟨512 * t.val + r.val, hn⟩ : Fin 65536) j := by
    blk_ext [idx t]
  rw [hemb]
  refine (PostBlock.norm (iblk m c 1 t) (iblk m c 3 t) (iblk m c 2 t) (iblk m c 0 t) (iblk m c 4 t) (iblk m c 5 t) r j).trans
    (Eq.trans ?_ (PostRefRead.norm _ _ _ _ _ _ ⟨512 * t.val + r.val, hn⟩ j).symm)
  exact congr (congr (congrArg (ProjMath.nrm (Ideal.ofBits .f32 0x44800000#32)) (funext fun k => row m c t r hn k))
    (funext fun k => b5 m c t k)) rfl

end Cert.PostValue

end
-- ==== Proof.lean ====
module

public import proofs.«01_k».proof.Proof.Gen.AttnIdeal.Value
public import proofs.«01_k».proof.Proof.Gen.AttnLongIdeal.Value
public import proofs.«01_k».proof.Proof.Gen.MoeIdeal.Value
public import proofs.«01_k».proof.Proof.Gen.AttnRefIdeal.Run
public import proofs.«01_k».proof.Proof.Gen.AttnLongRefIdeal.Run
public import proofs.«01_k».proof.Proof.Gen.AttnRefIdeal.Read
public import proofs.«01_k».proof.Proof.Gen.AttnLongRefIdeal.Read
public import proofs.«01_k».proof.Proof.Gen.MoeRefIdeal.Run
public import proofs.«01_k».proof.Proof.Gen.MoeRefIdeal.Read
public import proofs.«01_k».proof.Proof.AttnPre
public import proofs.«01_k».proof.Proof.AttnValue
public import proofs.«01_k».proof.Proof.MoeValue
public import proofs.«01_k».proof.Proof.ProjPre
public import proofs.«01_k».proof.Proof.ProjValue
public import proofs.«01_k».proof.Proof.AttnLongValue
public import proofs.«01_k».proof.Proof.ProjLongValue
public import proofs.«01_k».proof.Proof.PostValue
public import proofs.«01_k».proof.Defs
public import proofs.«01_k».proof.Proof.Gen.Attn
public import proofs.«01_k».proof.Proof.Gen.AttnLong
public import proofs.«01_k».proof.Proof.Gen.Attn.Skeleton
public import proofs.«01_k».proof.Proof.Gen.AttnLong.Skeleton
public import proofs.«01_k».proof.Proof.Gen.Attn.Launch
public import proofs.«01_k».proof.Proof.Gen.AttnLong.Launch
public import proofs.«01_k».proof.Proof.Gen.Attn.Points
public import proofs.«01_k».proof.Proof.Gen.AttnLong.Points
public import proofs.«01_k».proof.Proof.Gen.Attn.Frame
public import proofs.«01_k».proof.Proof.Gen.AttnLong.Frame
public import proofs.«01_k».proof.Proof.Gen.AttnIdeal
public import proofs.«01_k».proof.Proof.Gen.AttnLongIdeal
public import proofs.«01_k».proof.Proof.Gen.AttnIdeal.Skeleton
public import proofs.«01_k».proof.Proof.Gen.AttnLongIdeal.Skeleton
public import proofs.«01_k».proof.Proof.Gen.AttnIdeal.Launch
public import proofs.«01_k».proof.Proof.Gen.AttnLongIdeal.Launch
public import proofs.«01_k».proof.Proof.Gen.AttnIdeal.Points
public import proofs.«01_k».proof.Proof.Gen.AttnLongIdeal.Points
public import proofs.«01_k».proof.Proof.Gen.AttnIdeal.Frame
public import proofs.«01_k».proof.Proof.Gen.AttnLongIdeal.Frame
public import proofs.«01_k».proof.Proof.Gen.AttnRefIdeal
public import proofs.«01_k».proof.Proof.Gen.AttnLongRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.ProjIn
public import proofs.«01_k».proof.Proof.Gen.ProjInLong
public import proofs.«01_k».proof.Proof.Gen.ProjIn.Skeleton
public import proofs.«01_k».proof.Proof.Gen.ProjInLong.Skeleton
public import proofs.«01_k».proof.Proof.Gen.ProjIn.Launch
public import proofs.«01_k».proof.Proof.Gen.ProjInLong.Launch
public import proofs.«01_k».proof.Proof.Gen.ProjIn.Points
public import proofs.«01_k».proof.Proof.Gen.ProjInLong.Points
public import proofs.«01_k».proof.Proof.Gen.ProjIn.Frame
public import proofs.«01_k».proof.Proof.Gen.ProjInLong.Frame
public import proofs.«01_k».proof.Proof.Gen.ProjInIdeal
public import proofs.«01_k».proof.Proof.Gen.ProjInLongIdeal
public import proofs.«01_k».proof.Proof.Gen.ProjInIdeal.Skeleton
public import proofs.«01_k».proof.Proof.Gen.ProjInLongIdeal.Skeleton
public import proofs.«01_k».proof.Proof.Gen.ProjInIdeal.Launch
public import proofs.«01_k».proof.Proof.Gen.ProjInLongIdeal.Launch
public import proofs.«01_k».proof.Proof.Gen.ProjInIdeal.Points
public import proofs.«01_k».proof.Proof.Gen.ProjInLongIdeal.Points
public import proofs.«01_k».proof.Proof.Gen.ProjInIdeal.Frame
public import proofs.«01_k».proof.Proof.Gen.ProjInLongIdeal.Frame
public import proofs.«01_k».proof.Proof.Gen.ProjInIdeal.Value
public import proofs.«01_k».proof.Proof.Gen.ProjInLongIdeal.Value
public import proofs.«01_k».proof.Proof.Gen.ProjInRefIdeal
public import proofs.«01_k».proof.Proof.Gen.ProjInLongRefIdeal
public import proofs.«01_k».proof.Proof.Gen.ProjInRefIdeal.Run
public import proofs.«01_k».proof.Proof.Gen.ProjInLongRefIdeal.Run
public import proofs.«01_k».proof.Proof.Gen.ProjInRefIdeal.Read
public import proofs.«01_k».proof.Proof.Gen.ProjInLongRefIdeal.Read
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The attention reference's run. -/
theorem attnRef_frame : Cert.quiescent_AttnRefIdeal := by
  intro m g _
  hlo_run
  · simp
  · exact Idealize.ShloMosaic.sem_eq_zero_of_no_sems (by decide) _

/-- The expert reference's run. -/
theorem moeRef_frame : Cert.quiescent_MoeRefIdeal := by
  intro m g _
  hlo_run
  · simp
  · exact Idealize.ShloMosaic.sem_eq_zero_of_no_sems (by decide) _

/-- The attention kernel computes the reference's array. -/
theorem attn [Cert.Pre_finite_qk.Facts] : Cert.algebraic_AttnIdeal_AttnRefIdeal_pre_finite_qk := by
  pair_intro
  · run_from Cert.AttnIdeal.Value.run_blocks m g
  · run_from Cert.AttnRefIdeal.Value.run m' g'
    exact (Cert.AttnRefIdeal.Read.val_main_v21_eq _ _ _).trans (Cert.AttnValue.final m c
      ⟨fun i => (Cert.AttnPre.real _ _ _ (hpre c) i).1, fun i => (Cert.AttnPre.real _ _ _ (hpre c) i).2⟩).symm

/-- The expert kernel computes the reference's array. -/
theorem moe : Cert.algebraic_MoeIdeal_MoeRefIdeal := by
  pair_intro
  · run_from Cert.MoeIdeal.Value.run_blocks m g
  · run_from Cert.MoeRefIdeal.Value.run m' g'
    rw [Cert.MoeRefIdeal.Read.val_main_v25_eq, (hagree c).1, (hagree c).2.1, (hagree c).2.2.1, (hagree c).2.2.2.1,
      (hagree c).2.2.2.2.1, (hagree c).2.2.2.2.2.1, (hagree c).2.2.2.2.2.2]
    exact (Cert.MoeValue.final m c).symm

/-- The projection reference's run. -/
theorem projRef_frame : Cert.quiescent_ProjInRefIdeal := by
  intro m g _
  hlo_run
  · simp
  · exact Idealize.ShloMosaic.sem_eq_zero_of_no_sems (by decide) _

set_option maxHeartbeats 2000000 in
/-- The projection kernel computes the reference's five arrays. -/
theorem proj [Cert.Pre_finite_in.Facts] : Cert.algebraic_ProjInIdeal_ProjInRefIdeal_pre_finite_in := by
  pair_intro
  · run_from Cert.ProjInIdeal.Value.run_blocks m g
  · run_from Cert.ProjInRefIdeal.Value.run m' g'
    all_goals
      obtain ⟨h0, h1, h2, h3, h4, h5, h6⟩ := hagree c
      have hr : Cert.ProjRow.Real m c :=
        ⟨fun d k => (Cert.ProjPre.real_in _ _ _ _ _ _ _ (hpre c) d k).1, fun d => (Cert.ProjPre.real_in _ _ _ _ _ _ _ (hpre c) d 0).2,
          fun d h k => (Cert.ProjPre.real_q _ _ _ _ _ _ _ (hpre c) d h k).1, fun d => (Cert.ProjPre.real_q _ _ _ _ _ _ _ (hpre c) d 0 0).2⟩
    · refine (Cert.ProjInRefIdeal.Read.val_main_v111_eq _ _).trans ?_
      rw [h0, h1, h2, h3, h4]
      exact (Cert.ProjValue.final_q m c hr).symm
    · refine (Cert.ProjInRefIdeal.Read.val_main_v115_eq _ _).trans ?_
      rw [h0, h1, h2, h5, h6]
      exact (Cert.ProjValue.final_k m c hr).symm
    · refine (Cert.ProjInRefIdeal.Read.val_main_v116_eq _ _ _ _ _).trans ?_
      exact (Cert.ProjValue.final_v m c).symm
    · refine (Cert.ProjInRefIdeal.Read.val_main_v117_eq _ _ _).trans ?_
      exact (Cert.ProjValue.final_xbr m c).symm
    · refine (Cert.ProjInRefIdeal.Read.val_main_v118_eq _ _ _).trans ?_
      exact (Cert.ProjValue.final_gbr m c).symm

/-- The attention reference's run, for sequences of 4096 tokens. -/
theorem attnLongRef_frame : Cert.quiescent_AttnLongRefIdeal := by
  intro m g _
  hlo_run
  · simp
  · exact Idealize.ShloMosaic.sem_eq_zero_of_no_sems (by decide) _

/-- The attention kernel computes the reference's array, for sequences of 4096 tokens. -/
theorem attnLong [Cert.Pre_finite_qk.Facts] : Cert.algebraic_AttnLongIdeal_AttnLongRefIdeal_pre_finite_qk := by
  pair_intro
  · run_from Cert.AttnLongIdeal.Value.run_blocks m g
  · run_from Cert.AttnLongRefIdeal.Value.run m' g'
    exact (Cert.AttnLongRefIdeal.Read.val_main_v21_eq _ _ _).trans (Cert.AttnLongValue.final m c
      ⟨fun i => (Cert.AttnPre.real _ _ _ (hpre c) i).1, fun i => (Cert.AttnPre.real _ _ _ (hpre c) i).2⟩).symm

/-- The projection reference's run, for sequences of 4096 tokens. -/
theorem projLongRef_frame : Cert.quiescent_ProjInLongRefIdeal := by
  intro m g _
  hlo_run
  · simp
  · exact Idealize.ShloMosaic.sem_eq_zero_of_no_sems (by decide) _

set_option maxHeartbeats 2000000 in
/-- The projection kernel computes the reference's five arrays, for sequences of 4096 tokens. -/
theorem projLong [Cert.Pre_finite_in.Facts] : Cert.algebraic_ProjInLongIdeal_ProjInLongRefIdeal_pre_finite_in := by
  pair_intro
  · run_from Cert.ProjInLongIdeal.Value.run_blocks m g
  · run_from Cert.ProjInLongRefIdeal.Value.run m' g'
    all_goals
      obtain ⟨h0, h1, h2, h3, h4, h5, h6⟩ := hagree c
      have hr : Cert.ProjLongRow.Real m c :=
        ⟨fun d k => (Cert.ProjPre.real_in _ _ _ _ _ _ _ (hpre c) d k).1, fun d => (Cert.ProjPre.real_in _ _ _ _ _ _ _ (hpre c) d 0).2,
          fun d h k => (Cert.ProjPre.real_q _ _ _ _ _ _ _ (hpre c) d h k).1, fun d => (Cert.ProjPre.real_q _ _ _ _ _ _ _ (hpre c) d 0 0).2⟩
    · refine (Cert.ProjInLongRefIdeal.Read.val_main_v111_eq _ _).trans ?_
      rw [h0, h1, h2, h3, h4]
      exact (Cert.ProjLongValue.final_q m c hr).symm
    · refine (Cert.ProjInLongRefIdeal.Read.val_main_v115_eq _ _).trans ?_
      rw [h0, h1, h2, h5, h6]
      exact (Cert.ProjLongValue.final_k m c hr).symm
    · refine (Cert.ProjInLongRefIdeal.Read.val_main_v116_eq _ _ _ _ _).trans ?_
      exact (Cert.ProjLongValue.final_v m c).symm
    · refine (Cert.ProjInLongRefIdeal.Read.val_main_v117_eq _ _ _).trans ?_
      exact (Cert.ProjLongValue.final_xbr m c).symm
    · refine (Cert.ProjInLongRefIdeal.Read.val_main_v118_eq _ _ _).trans ?_
      exact (Cert.ProjLongValue.final_gbr m c).symm

/-- The output projection reference's run. -/
theorem postRef_frame : Cert.quiescent_PostRefIdeal := by
  intro m g _
  hlo_run
  · simp
  · exact Idealize.ShloMosaic.sem_eq_zero_of_no_sems (by decide) _

set_option maxHeartbeats 2000000 in
/-- The output projection kernel computes the reference's residual stream and its norm. -/
theorem post : Cert.algebraic_PostIdeal_PostRefIdeal := by
  pair_intro
  · run_from Cert.PostIdeal.Value.run_blocks m g
  · run_from Cert.PostRefIdeal.Value.run m' g'
    all_goals obtain ⟨h0, h1, h2, h3, h4, h5, -⟩ := hagree c
    · refine (Cert.PostRefIdeal.Read.val_main_v17_eq _ _ _ _ _).trans ?_
      rw [h1, h2, h3]
      exact (Cert.PostValue.final_x m c).symm
    · refine (Cert.PostRefIdeal.Read.val_main_v31_eq _ _ _ _ _ _).trans ?_
      rw [h1, h2, h3]
      exact (Cert.PostValue.final_t m c).symm

theorem claim : Cert.Claim :=
  ⟨Cert.Attn.Gen.facts, Cert.AttnIdeal.Gen.facts, Cert.AttnRefIdeal.Gen.facts, Cert.Moe.Gen.facts, Cert.MoeIdeal.Gen.facts,
    Cert.MoeRefIdeal.Gen.facts, Cert.ProjIn.Gen.facts, Cert.ProjInIdeal.Gen.facts, Cert.ProjInRefIdeal.Gen.facts,
    Cert.AttnLong.Gen.facts, Cert.AttnLongIdeal.Gen.facts, Cert.AttnLongRefIdeal.Gen.facts,
    Cert.ProjInLong.Gen.facts, Cert.ProjInLongIdeal.Gen.facts, Cert.ProjInLongRefIdeal.Gen.facts,
    Cert.Post.Gen.facts, Cert.PostIdeal.Gen.facts, Cert.PostRefIdeal.Gen.facts, Cert.AttnPre.facts, Cert.ProjPre.facts,
    fun m ρ _ => Cert.Attn.Gen.frame m ρ, fun m ρ _ => Cert.AttnIdeal.Gen.frame m ρ, fun m ρ _ => Cert.AttnIdeal.Gen.frame m ρ,
    attnRef_frame, fun m ρ _ => attnRef_frame m ρ trivial, fun m ρ _ => Cert.Moe.Gen.frame m ρ, fun m ρ _ => Cert.MoeIdeal.Gen.frame m ρ,
    moeRef_frame, fun m ρ _ => Cert.ProjIn.Gen.frame m ρ, fun m ρ _ => Cert.ProjInIdeal.Gen.frame m ρ,
    fun m ρ _ => Cert.ProjInIdeal.Gen.frame m ρ, projRef_frame, fun m ρ _ => projRef_frame m ρ trivial,
    fun m ρ _ => Cert.AttnLong.Gen.frame m ρ, fun m ρ _ => Cert.AttnLongIdeal.Gen.frame m ρ,
    fun m ρ _ => Cert.AttnLongIdeal.Gen.frame m ρ, attnLongRef_frame, fun m ρ _ => attnLongRef_frame m ρ trivial,
    fun m ρ _ => Cert.ProjInLong.Gen.frame m ρ, fun m ρ _ => Cert.ProjInLongIdeal.Gen.frame m ρ,
    fun m ρ _ => Cert.ProjInLongIdeal.Gen.frame m ρ, projLongRef_frame, fun m ρ _ => projLongRef_frame m ρ trivial,
    fun m ρ _ => Cert.Post.Gen.frame m ρ, fun m ρ _ => Cert.PostIdeal.Gen.frame m ρ, postRef_frame,
    trivial, @attn Cert.AttnPre.facts, trivial, moe, trivial, @proj Cert.ProjPre.facts,
    trivial, @attnLong Cert.AttnPre.facts, trivial, @projLong Cert.ProjPre.facts, trivial, post⟩

end Cert.Proof

end
